-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)) →
    ∃ (v0 : (c : Dev Cert.MixIdeal.nD) → Buf (Elt Ideal) ((c.tc : Thread Cert.MixIdeal.nD Cert.MixIdeal.τ).loc Cert.MixIdeal.main_v78)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v78) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v244) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v11)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v11) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v37) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mixer_MixerIdeal : Prop :=
  True

def preserves_Prep_PrepIdeal : Prop :=
  True

def Claim : Prop :=
  ∃ (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hMixer : Cert.Mixer.Facts) (hMixerIdeal : Cert.MixerIdeal.Facts) (hPrep : Cert.Prep.Facts) (hPrepIdeal : Cert.PrepIdeal.Facts),
    quiescent_Mix (hMix := hMix)
    ∧ quiescent_MixIdeal (hMixIdeal := hMixIdeal)
    ∧ quiescent_MixRefIdeal (hMixRefIdeal := hMixRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mixer (hMixer := hMixer)
    ∧ quiescent_MixerIdeal (hMixerIdeal := hMixerIdeal)
    ∧ quiescent_Prep (hPrep := hPrep)
    ∧ quiescent_PrepIdeal (hPrepIdeal := hPrepIdeal)
    ∧ preserves_Mix_MixIdeal
    ∧ algebraic_MixIdeal_MixRefIdeal (hMixIdeal := hMixIdeal) (hMixRefIdeal := hMixRefIdeal)
    ∧ preserves_Ffn_FfnIdeal
    ∧ algebraic_FfnIdeal_FfnRefIdeal (hFfnIdeal := hFfnIdeal) (hFfnRefIdeal := hFfnRefIdeal)
    ∧ preserves_Mixer_MixerIdeal
    ∧ preserves_Prep_PrepIdeal
-- ==== Mix.lean ====
abbrev S8x8192x1024 : Shape := ⟨3, ![8, 8192, 1024]⟩
abbrev S8x8192x512 : Shape := ⟨3, ![8, 8192, 512]⟩
abbrev S8x8192 : Shape := ⟨2, ![8, 8192]⟩
abbrev S1x1024 : Shape := ⟨2, ![1, 1024]⟩
abbrev S1x1024x5632 : Shape := ⟨3, ![1, 1024, 5632]⟩
abbrev S32x128x128 : Shape := ⟨3, ![32, 128, 128]⟩
abbrev S32x128 : Shape := ⟨2, ![32, 128]⟩
abbrev S1x512x1024 : Shape := ⟨3, ![1, 512, 1024]⟩
abbrev S1x1024x1024 : Shape := ⟨3, ![1, 1024, 1024]⟩
abbrev S64 : Shape := ⟨1, ![64]⟩
abbrev S_ : Shape := ⟨0, ![]⟩
abbrev S128 : Shape := ⟨1, ![128]⟩
abbrev S128x1 : Shape := ⟨2, ![128, 1]⟩
abbrev S4 : Shape := ⟨1, ![4]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x256 : Shape := ⟨3, ![4, 128, 256]⟩
abbrev S4x1x256 : Shape := ⟨3, ![4, 1, 256]⟩
abbrev S512x1024 : Shape := ⟨2, ![512, 1024]⟩
abbrev S512x2048 : Shape := ⟨2, ![512, 2048]⟩
abbrev S1024 : Shape := ⟨1, ![1024]⟩
abbrev S1024x5632 : Shape := ⟨2, ![1024, 5632]⟩
abbrev S1024x1024 : Shape := ⟨2, ![1024, 1024]⟩
abbrev S8x8x8x128 : Shape := ⟨4, ![8, 8, 8, 128]⟩
abbrev S1x8x8x128 : Shape := ⟨4, ![1, 8, 8, 128]⟩
abbrev S1x1024x512 : Shape := ⟨3, ![1, 1024, 512]⟩
abbrev S512x512 : Shape := ⟨2, ![512, 512]⟩
abbrev S4x512x128 : Shape := ⟨3, ![4, 512, 128]⟩
abbrev S32x64x128 : Shape := ⟨3, ![32, 64, 128]⟩
abbrev S2176x128 : Shape := ⟨2, ![2176, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S1x1x4x128 : Shape := ⟨4, ![1, 1, 4, 128]⟩
abbrev S1x256 : Shape := ⟨2, ![1, 256]⟩
abbrev S128x256 : Shape := ⟨2, ![128, 256]⟩
abbrev S256x128 : Shape := ⟨2, ![256, 128]⟩
abbrev S512x128 : Shape := ⟨2, ![512, 128]⟩
abbrev S1x128x256 : Shape := ⟨3, ![1, 128, 256]⟩
abbrev S1x1x256 : Shape := ⟨3, ![1, 1, 256]⟩
abbrev S1x512x128 : Shape := ⟨3, ![1, 512, 128]⟩

abbrev nBuf : Space → Nat
  | .hbm => 110
  | .vmem => 40
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .f32⟩
  | .hbm, ⟨2, _⟩ => ⟨S8x8192, .i32⟩
  | .hbm, ⟨3, _⟩ => ⟨S1x1024, .f32⟩
  | .hbm, ⟨4, _⟩ => ⟨S1x1024x5632, .f32⟩
  | .hbm, ⟨5, _⟩ => ⟨S32x128x128, .bf16⟩
  | .hbm, ⟨6, _⟩ => ⟨S32x128x128, .bf16⟩
  | .hbm, ⟨7, _⟩ => ⟨S32x128x128, .bf16⟩
  | .hbm, ⟨8, _⟩ => ⟨S32x128, .f32⟩
  | .hbm, ⟨9, _⟩ => ⟨S32x128, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S1x1024x1024, .f32⟩
  | .hbm, ⟨14, _⟩ => ⟨S1x1024, .f32⟩
  | .hbm, ⟨15, _⟩ => ⟨S8x8192, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S128, .f32⟩
  | .hbm, ⟨31, _⟩ => ⟨S128x1, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S128, .f32⟩
  | .hbm, ⟨44, _⟩ => ⟨S128x1, .f32⟩
  | .hbm, ⟨45, _⟩ => ⟨S1x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S_, .f32⟩
  | .hbm, ⟨50, _⟩ => ⟨S128x128, .f32⟩
  | .hbm, ⟨51, _⟩ => ⟨S128x128, .i1⟩
  | .hbm, ⟨52, _⟩ => ⟨S4x1x1, .f32⟩
  | .hbm, ⟨53, _⟩ => ⟨S_, .f32⟩
  | .hbm, ⟨54, _⟩ => ⟨S128x128, .f32⟩
  | .hbm, ⟨55, _⟩ => ⟨S128x128, .f32⟩
  | .hbm, ⟨56, _⟩ => ⟨S1x128x128, .f32⟩
  | .hbm, ⟨57, _⟩ => ⟨S4x128x128, .f32⟩
  | .hbm, ⟨58, _⟩ => ⟨S4x128x128, .f32⟩
  | .hbm, ⟨59, _⟩ => ⟨S4x128x128, .f32⟩
  | .hbm, ⟨60, _⟩ => ⟨S4x128x128, .f32⟩
  | .hbm, ⟨61, _⟩ => ⟨S_, .f32⟩
  | .hbm, ⟨62, _⟩ => ⟨S_, .f32⟩
  | .hbm, ⟨63, _⟩ => ⟨S4x128x128, .i1⟩
  | .hbm, ⟨64, _⟩ => ⟨S4x128x128, .f32⟩
  | .hbm, ⟨65, _⟩ => ⟨S4x128x128, .f32⟩
  | .hbm, ⟨66, _⟩ => ⟨S4x1, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S4x128, .f32⟩
  | .hbm, ⟨72, _⟩ => ⟨S4x128, .f32⟩
  | .hbm, ⟨73, _⟩ => ⟨S4x128, .f32⟩
  | .hbm, ⟨74, _⟩ => ⟨S4x128, .f32⟩
  | .hbm, ⟨75, _⟩ => ⟨S4x1, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S1x128, .f32⟩
  | .hbm, ⟨80, _⟩ => ⟨S4x128, .f32⟩
  | .hbm, ⟨81, _⟩ => ⟨S4x128, .f32⟩
  | .hbm, ⟨82, _⟩ => ⟨S4x128, .f32⟩
  | .hbm, ⟨83, _⟩ => ⟨S4x128, .f32⟩
  | .hbm, ⟨84, _⟩ => ⟨S_, .f32⟩
  | .hbm, ⟨85, _⟩ => ⟨S4, .f32⟩
  | .hbm, ⟨86, _⟩ => ⟨S4, .f32⟩
  | .hbm, ⟨87, _⟩ => ⟨S4, .f32⟩
  | .hbm, ⟨88, _⟩ => ⟨S4x128x1, .f32⟩
  | .hbm, ⟨89, _⟩ => ⟨S4x128x128, .f32⟩
  | .hbm, ⟨90, _⟩ => ⟨S4x128x1, .f32⟩
  | .hbm, ⟨91, _⟩ => ⟨S4x128x256, .f32⟩
  | .hbm, ⟨92, _⟩ => ⟨S4x1x1, .f32⟩
  | .hbm, ⟨93, _⟩ => ⟨S4x1x256, .f32⟩
  | .hbm, ⟨94, _⟩ => ⟨S512x1024, .f32⟩
  | .hbm, ⟨95, _⟩ => ⟨S512x1024, .f32⟩
  | .hbm, ⟨96, _⟩ => ⟨S512x2048, .f32⟩
  | .hbm, ⟨97, _⟩ => ⟨S512x2048, .bf16⟩
  | .hbm, ⟨98, _⟩ => ⟨S1024, .f32⟩
  | .hbm, ⟨99, _⟩ => ⟨S1x1024, .f32⟩
  | .hbm, ⟨100, _⟩ => ⟨S1024x5632, .f32⟩
  | .hbm, ⟨101, _⟩ => ⟨S1024x5632, .bf16⟩
  | .hbm, ⟨102, _⟩ => ⟨S1024x1024, .f32⟩
  | .hbm, ⟨103, _⟩ => ⟨S1024x1024, .bf16⟩
  | .hbm, ⟨104, _⟩ => ⟨S1024x1024, .f32⟩
  | .hbm, ⟨105, _⟩ => ⟨S1024x1024, .bf16⟩
  | .hbm, ⟨106, _⟩ => ⟨S1024, .f32⟩
  | .hbm, ⟨107, _⟩ => ⟨S1x1024, .f32⟩
  | .hbm, ⟨108, _⟩ => ⟨S8x8x8x128, .f32⟩
  | .hbm, ⟨109, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x8x128, .f32⟩
  | .local _ .vmem, ⟨3, _⟩ => ⟨S1x8x8x128, .f32⟩
  | .local _ .vmem, ⟨4, _⟩ => ⟨S1x1024x512, .f32⟩
  | .local _ .vmem, ⟨5, _⟩ => ⟨S1x1024x512, .f32⟩
  | .local _ .vmem, ⟨6, _⟩ => ⟨S128x1, .f32⟩
  | .local _ .vmem, ⟨7, _⟩ => ⟨S1x1024, .f32⟩
  | .local _ .vmem, ⟨8, _⟩ => ⟨S1024x5632, .bf16⟩
  | .local _ .vmem, ⟨9, _⟩ => ⟨S4x128x128, .f32⟩
  | .local _ .vmem, ⟨10, _⟩ => ⟨S4x128x256, .f32⟩
  | .local _ .vmem, ⟨11, _⟩ => ⟨S4x128x128, .f32⟩
  | .local _ .vmem, ⟨12, _⟩ => ⟨S4x1x256, .f32⟩
  | .local _ .vmem, ⟨13, _⟩ => ⟨S1024x1024, .bf16⟩
  | .local _ .vmem, ⟨14, _⟩ => ⟨S32x128x128, .bf16⟩
  | .local _ .vmem, ⟨15, _⟩ => ⟨S32x128x128, .bf16⟩
  | .local _ .vmem, ⟨16, _⟩ => ⟨S32x128x128, .bf16⟩
  | .local _ .vmem, ⟨17, _⟩ => ⟨S32x128, .f32⟩
  | .local _ .vmem, ⟨18, _⟩ => ⟨S32x128, .f32⟩
  | .local _ .vmem, ⟨19, _⟩ => ⟨S512x2048, .bf16⟩
  | .local _ .vmem, ⟨20, _⟩ => ⟨S1024x1024, .bf16⟩
  | .local _ .vmem, ⟨21, _⟩ => ⟨S1x1024, .f32⟩
  | .local _ .vmem, ⟨22, _⟩ => ⟨S1x1024x1024, .f32⟩
  | .local _ .vmem, ⟨23, _⟩ => ⟨S1x1024x1024, .f32⟩
  | .local _ .vmem, ⟨24, _⟩ => ⟨S4x128x256, .f32⟩
  | .local _ .vmem, ⟨25, _⟩ => ⟨S32x128, .f32⟩
  | .local _ .vmem, ⟨26, _⟩ => ⟨S32x128, .f32⟩
  | .local _ .vmem, ⟨27, _⟩ => ⟨S512x1024, .bf16⟩
  | .local _ .vmem, ⟨28, _⟩ => ⟨S512x512, .bf16⟩
  | .local _ .vmem, ⟨29, _⟩ => ⟨S512x512, .f32⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S4x512x128, .f32⟩
  | .local _ .vmem, ⟨34, _⟩ => ⟨S32x64x128, .bf16⟩
  | .local _ .vmem, ⟨35, _⟩ => ⟨S2176x128, .f32⟩
  | .local _ .vmem, ⟨36, _⟩ => ⟨S2176x128, .f32⟩
  | .local _ .vmem, ⟨37, _⟩ => ⟨S2176x128, .f32⟩
  | .local _ .vmem, ⟨38, _⟩ => ⟨S32x64x128, .f32⟩
  | .local _ .vmem, ⟨39, _⟩ => ⟨S4x512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_cst_4 : Ref sig .tc := ⟨.hbm, 36, rfl⟩
abbrev main_v16 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_scratch11 : Ref sig .tc := ⟨.vmem, 35, rfl⟩
abbrev cc0_scratch12 : Ref sig .tc := ⟨.vmem, 36, rfl⟩
abbrev cc0_scratch13 : Ref sig .tc := ⟨.vmem, 37, rfl⟩
abbrev cc0_scratch14 : Ref sig .tc := ⟨.vmem, 38, rfl⟩
abbrev cc0_scratch15 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23

abbrev nD : Nat := 1
abbrev τ : Topo := Topo.v7x

variable {F : FTy → Type} [FloatOps F]

abbrev grid0 : Pipeline.Grid := ⟨2, ![8, 8], ![false, false]⟩

def k0_off1 (i : grid0.Coords) : Fin 4 → Nat :=
  let c0_27 : Index := 0#32
  let arg1 : BitVec 32 := BitVec.ofNat 32 (i 1).val
  let v51 : Index := Scalar.indexCast arg1
  let c0_28 : Index := 0#32
  let c0_29 : Index := 0#32
  ![0, v51.toNat, 0, 0]
def k0_off2 (i : grid0.Coords) : Fin 4 → Nat :=
  let c0_801 : Index := 0#32
  let arg1 : BitVec 32 := BitVec.ofNat 32 (i 1).val
  let v1295 : Index := Scalar.indexCast arg1
  let c4 : Index := 4#32
  let c0_802 : Index := 0#32
  ![0, v1295.toNat, 4, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x1024x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MixRefIdeal.lean ====
abbrev S8x8192x1024 : Shape := ⟨3, ![8, 8192, 1024]⟩
abbrev S8x8192x512 : Shape := ⟨3, ![8, 8192, 512]⟩
abbrev S8x8192 : Shape := ⟨2, ![8, 8192]⟩
abbrev S1x1024 : Shape := ⟨2, ![1, 1024]⟩
abbrev S1x1024x5632 : Shape := ⟨3, ![1, 1024, 5632]⟩
abbrev S32x128x128 : Shape := ⟨3, ![32, 128, 128]⟩
abbrev S32x128 : Shape := ⟨2, ![32, 128]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S8x8192x1 : Shape := ⟨3, ![8, 8192, 1]⟩
abbrev S1x1x1024 : Shape := ⟨3, ![1, 1, 1024]⟩
abbrev S1024x5632 : Shape := ⟨2, ![1024, 5632]⟩
abbrev S8x8192x5632 : Shape := ⟨3, ![8, 8192, 5632]⟩
abbrev S8x8192x2048 : Shape := ⟨3, ![8, 8192, 2048]⟩
abbrev S8x8192x4x128 : Shape := ⟨4, ![8, 8192, 4, 128]⟩
abbrev S64 : Shape := ⟨1, ![64]⟩
abbrev S1x1x64 : Shape := ⟨3, ![1, 1, 64]⟩
abbrev S8x8192x64 : Shape := ⟨3, ![8, 8192, 64]⟩
abbrev S8x8192x1x64 : Shape := ⟨4, ![8, 8192, 1, 64]⟩
abbrev S8x8192x4x64 : Shape := ⟨4, ![8, 8192, 4, 64]⟩
abbrev S8x8192x4x256 : Shape := ⟨4, ![8, 8192, 4, 256]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S8x64x128x4x128 : Shape := ⟨5, ![8, 64, 128, 4, 128]⟩
abbrev S8x64x128x4x256 : Shape := ⟨5, ![8, 64, 128, 4, 256]⟩
abbrev S8x4x128x256 : Shape := ⟨4, ![8, 4, 128, 256]⟩
abbrev S64x8x128x4x128 : Shape := ⟨5, ![64, 8, 128, 4, 128]⟩
abbrev S64x8x128x4x256 : Shape := ⟨5, ![64, 8, 128, 4, 256]⟩
abbrev S1x8x128x4x128 : Shape := ⟨5, ![1, 8, 128, 4, 128]⟩
abbrev S8x128x4x128 : Shape := ⟨4, ![8, 128, 4, 128]⟩
abbrev S1x8x128x4x256 : Shape := ⟨5, ![1, 8, 128, 4, 256]⟩
abbrev S8x128x4x256 : Shape := ⟨4, ![8, 128, 4, 256]⟩
abbrev S8x4x128x128 : Shape := ⟨4, ![8, 4, 128, 128]⟩
abbrev S1x4x128x128 : Shape := ⟨4, ![1, 4, 128, 128]⟩
abbrev S8x4x256x128 : Shape := ⟨4, ![8, 4, 256, 128]⟩
abbrev S1x128x4x1 : Shape := ⟨4, ![1, 128, 4, 1]⟩
abbrev S1x4x1x1 : Shape := ⟨4, ![1, 4, 1, 1]⟩
abbrev S8x8192x4 : Shape := ⟨3, ![8, 8192, 4]⟩
abbrev S8x8192x4x1 : Shape := ⟨4, ![8, 8192, 4, 1]⟩
abbrev S1024x1024 : Shape := ⟨2, ![1024, 1024]⟩
abbrev S512x1024 : Shape := ⟨2, ![512, 1024]⟩

abbrev nBuf : Space → Nat
  | .hbm => 371
  | .vmem => 0
  | .smem => 0
  | _ => 0

abbrev hbmTy0_0 (i : Nat) : BufTy := match i % 128 with
  | 0 => ⟨S8x8192x1024, .f32⟩
  | 1 => ⟨S8x8192x512, .f32⟩
  | 2 => ⟨S8x8192, .i32⟩
  | 3 => ⟨S1x1024, .f32⟩
  | 4 => ⟨S1x1024x5632, .f32⟩
  | 5 => ⟨S32x128x128, .bf16⟩
  | 6 => ⟨S32x128x128, .bf16⟩
  | 7 => ⟨S32x128x128, .bf16⟩
  | 8 => ⟨S32x128, .f32⟩
  | 9 => ⟨S32x128, .f32⟩
  | 10 => ⟨S1x512x1024, .f32⟩
  | 11 => ⟨S1x512x1024, .f32⟩
  | 12 => ⟨S1x1024x1024, .f32⟩
  | 13 => ⟨S1x1024x1024, .f32⟩
  | 14 => ⟨S1x1024, .f32⟩
  | 15 => ⟨S1024, .f32⟩
  | 16 => ⟨S8x8192x1024, .f32⟩
  | 17 => ⟨S_, .f32⟩
  | 18 => ⟨S8x8192, .f32⟩
  | 19 => ⟨S8x8192x1, .f32⟩
  | 20 => ⟨S_, .f32⟩
  | 21 => ⟨S8x8192x1, .f32⟩
  | 22 => ⟨S8x8192x1, .f32⟩
  | 23 => ⟨S_, .f32⟩
  | 24 => ⟨S8x8192x1, .f32⟩
  | 25 => ⟨S8x8192x1, .f32⟩
  | 26 => ⟨S8x8192x1, .f32⟩
  | 27 => ⟨S8x8192x1024, .f32⟩
  | 28 => ⟨S8x8192x1024, .f32⟩
  | 29 => ⟨S1x1x1024, .f32⟩
  | 30 => ⟨S8x8192x1024, .f32⟩
  | 31 => ⟨S8x8192x1024, .f32⟩
  | 32 => ⟨S1024x5632, .f32⟩
  | 33 => ⟨S8x8192x5632, .f32⟩
  | 34 => ⟨S8x8192x512, .f32⟩
  | 35 => ⟨S8x8192x512, .f32⟩
  | 36 => ⟨S8x8192x1024, .f32⟩
  | 37 => ⟨S8x8192x1024, .f32⟩
  | 38 => ⟨S8x8192x512, .f32⟩
  | 39 => ⟨S8x8192x2048, .f32⟩
  | 40 => ⟨S8x8192x4x128, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S8x8192, .f32⟩
  | 56 => ⟨S8x8192x1, .f32⟩
  | 57 => ⟨S1x1x64, .f32⟩
  | 58 => ⟨S8x8192x64, .f32⟩
  | 59 => ⟨S8x8192x64, .f32⟩
  | 60 => ⟨S8x8192x64, .f32⟩
  | 61 => ⟨S8x8192x64, .f32⟩
  | 62 => ⟨S8x8192x1x64, .f32⟩
  | 63 => ⟨S8x8192x64, .f32⟩
  | 64 => ⟨S8x8192x1x64, .f32⟩
  | 65 => ⟨S8x8192x4x64, .f32⟩
  | 66 => ⟨S8x8192x4x64, .f32⟩
  | 67 => ⟨S8x8192x4x64, .f32⟩
  | 68 => ⟨S8x8192x4x64, .f32⟩
  | 69 => ⟨S8x8192x4x64, .f32⟩
  | 70 => ⟨S8x8192x4x64, .f32⟩
  | 71 => ⟨S8x8192x4x64, .f32⟩
  | 72 => ⟨S8x8192x4x64, .f32⟩
  | 73 => ⟨S8x8192x4x64, .f32⟩
  | 74 => ⟨S8x8192x4x64, .f32⟩
  | 75 => ⟨S8x8192x4x64, .f32⟩
  | 76 => ⟨S8x8192x4x64, .f32⟩
  | 77 => ⟨S8x8192x4x128, .f32⟩
  | 78 => ⟨S8x8192x4x128, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S64, .f32⟩
  | 87 => ⟨S_, .f32⟩
  | 88 => ⟨S64, .f32⟩
  | 89 => ⟨S64, .f32⟩
  | 90 => ⟨S_, .f32⟩
  | 91 => ⟨S64, .f32⟩
  | 92 => ⟨S64, .f32⟩
  | 93 => ⟨S8x8192, .f32⟩
  | 94 => ⟨S8x8192x1, .f32⟩
  | 95 => ⟨S1x1x64, .f32⟩
  | 96 => ⟨S8x8192x64, .f32⟩
  | 97 => ⟨S8x8192x64, .f32⟩
  | 98 => ⟨S8x8192x64, .f32⟩
  | 99 => ⟨S8x8192x64, .f32⟩
  | 100 => ⟨S8x8192x1x64, .f32⟩
  | 101 => ⟨S8x8192x64, .f32⟩
  | 102 => ⟨S8x8192x1x64, .f32⟩
  | 103 => ⟨S8x8192x4x64, .f32⟩
  | 104 => ⟨S8x8192x4x64, .f32⟩
  | 105 => ⟨S8x8192x4x64, .f32⟩
  | 106 => ⟨S8x8192x4x64, .f32⟩
  | 107 => ⟨S8x8192x4x64, .f32⟩
  | 108 => ⟨S8x8192x4x64, .f32⟩
  | 109 => ⟨S8x8192x4x64, .f32⟩
  | 110 => ⟨S8x8192x4x64, .f32⟩
  | 111 => ⟨S8x8192x4x64, .f32⟩
  | 112 => ⟨S8x8192x4x64, .f32⟩
  | 113 => ⟨S8x8192x4x64, .f32⟩
  | 114 => ⟨S8x8192x4x64, .f32⟩
  | 115 => ⟨S8x8192x4x128, .f32⟩
  | 116 => ⟨S_, .f32⟩
  | 117 => ⟨S8x8192x4x128, .f32⟩
  | 118 => ⟨S8x8192x4x128, .f32⟩
  | 119 => ⟨S8x8192x4x256, .f32⟩
  | 120 => ⟨S4, .f32⟩
  | 121 => ⟨S_, .f32⟩
  | 122 => ⟨S4, .f32⟩
  | 123 => ⟨S4, .f32⟩
  | 124 => ⟨S_, .f32⟩
  | 125 => ⟨S4, .f32⟩
  | 126 => ⟨S4, .f32⟩
  | 127 => ⟨S_, .f32⟩
  | _ => ⟨S8x8192x1024, .f32⟩

abbrev hbmTy0_1 (i : Nat) : BufTy := match i % 128 with
  | 0 => ⟨S4, .f32⟩
  | 1 => ⟨S4, .f32⟩
  | 2 => ⟨S4, .f32⟩
  | 3 => ⟨S128, .f32⟩
  | 4 => ⟨S128x1, .f32⟩
  | 5 => ⟨S1x128, .f32⟩
  | 6 => ⟨S128x128, .f32⟩
  | 7 => ⟨S128x128, .f32⟩
  | 8 => ⟨S128x128, .f32⟩
  | 9 => ⟨S_, .f32⟩
  | 10 => ⟨S128x128, .f32⟩
  | 11 => ⟨S128x128, .i1⟩
  | 12 => ⟨S4x1x1, .f32⟩
  | 13 => ⟨S_, .f32⟩
  | 14 => ⟨S128x128, .f32⟩
  | 15 => ⟨S128x128, .f32⟩
  | 16 => ⟨S1x128x128, .f32⟩
  | 17 => ⟨S4x128x128, .f32⟩
  | 18 => ⟨S4x128x128, .f32⟩
  | 19 => ⟨S4x128x128, .f32⟩
  | 20 => ⟨S4x128x128, .f32⟩
  | 21 => ⟨S_, .f32⟩
  | 22 => ⟨S_, .f32⟩
  | 23 => ⟨S4x128x128, .i1⟩
  | 24 => ⟨S4x128x128, .f32⟩
  | 25 => ⟨S4x128x128, .f32⟩
  | 26 => ⟨S1x4, .f32⟩
  | 27 => ⟨S_, .f32⟩
  | 28 => ⟨S128, .f32⟩
  | 29 => ⟨S128, .f32⟩
  | 30 => ⟨S128x1, .f32⟩
  | 31 => ⟨S128x4, .f32⟩
  | 32 => ⟨S128x4, .f32⟩
  | 33 => ⟨S128x4, .f32⟩
  | 34 => ⟨S128x4, .f32⟩
  | 35 => ⟨S1x4, .f32⟩
  | 36 => ⟨S_, .f32⟩
  | 37 => ⟨S128, .f32⟩
  | 38 => ⟨S128, .f32⟩
  | 39 => ⟨S128x1, .f32⟩
  | 40 => ⟨S128x4, .f32⟩
  | 41 => ⟨S128x4, .f32⟩
  | 42 => ⟨S128x4, .f32⟩
  | 43 => ⟨S128x4, .f32⟩
  | 44 => ⟨S_, .f32⟩
  | 45 => ⟨S4, .f32⟩
  | 46 => ⟨S4, .f32⟩
  | 47 => ⟨S4, .f32⟩
  | 48 => ⟨S8x64x128x4x128, .f32⟩
  | 49 => ⟨S8x64x128x4x128, .f32⟩
  | 50 => ⟨S8x64x128x4x256, .f32⟩
  | 51 => ⟨S_, .f32⟩
  | 52 => ⟨S8x4x128x256, .f32⟩
  | 53 => ⟨S64x8x128x4x128, .f32⟩
  | 54 => ⟨S64x8x128x4x128, .f32⟩
  | 55 => ⟨S64x8x128x4x256, .f32⟩
  | 56 => ⟨S_, .f32⟩
  | 57 => ⟨S64x8x128x4x256, .f32⟩
  | 58 => ⟨S_, .i32⟩
  | 59 => ⟨S64x8x128x4x128, .f32⟩
  | 60 => ⟨S64x8x128x4x128, .f32⟩
  | 61 => ⟨S64x8x128x4x256, .f32⟩
  | 62 => ⟨S4x128x128, .f32⟩
  | 63 => ⟨S128x4, .f32⟩
  | 64 => ⟨S128x4, .f32⟩
  | 65 => ⟨S4, .f32⟩
  | 66 => ⟨S_, .i32⟩
  | 67 => ⟨S8x4x128x256, .f32⟩
  | 68 => ⟨S64x8x128x4x256, .f32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S1x8x128x4x128, .f32⟩
  | 76 => ⟨S8x128x4x128, .f32⟩
  | 77 => ⟨S_, .i32⟩
  | 78 => ⟨S_, .i32⟩
  | 79 => ⟨S_, .i32⟩
  | 80 => ⟨S_, .i32⟩
  | 81 => ⟨S1x8x128x4x128, .f32⟩
  | 82 => ⟨S8x128x4x128, .f32⟩
  | 83 => ⟨S_, .i32⟩
  | 84 => ⟨S_, .i32⟩
  | 85 => ⟨S_, .i32⟩
  | 86 => ⟨S_, .i32⟩
  | 87 => ⟨S1x8x128x4x256, .f32⟩
  | 88 => ⟨S8x128x4x256, .f32⟩
  | 89 => ⟨S8x4x128x128, .f32⟩
  | 90 => ⟨S1x4x128x128, .f32⟩
  | 91 => ⟨S8x4x128x128, .f32⟩
  | 92 => ⟨S8x4x128x128, .f32⟩
  | 93 => ⟨S8x4x256x128, .f32⟩
  | 94 => ⟨S8x128x4x256, .f32⟩
  | 95 => ⟨S1x128x4x1, .f32⟩
  | 96 => ⟨S8x128x4x128, .f32⟩
  | 97 => ⟨S8x128x4x128, .f32⟩
  | 98 => ⟨S8x4x256x128, .f32⟩
  | 99 => ⟨S8x128x4x256, .f32⟩
  | 100 => ⟨S1x128x4x1, .f32⟩
  | 101 => ⟨S8x128x4x256, .f32⟩
  | 102 => ⟨S8x128x4x256, .f32⟩
  | 103 => ⟨S8x4x128x256, .f32⟩
  | 104 => ⟨S1x4x1x1, .f32⟩
  | 105 => ⟨S8x4x128x256, .f32⟩
  | 106 => ⟨S8x4x128x256, .f32⟩
  | 107 => ⟨S8x4x128x256, .f32⟩
  | 108 => ⟨S8x128x4x256, .f32⟩
  | 109 => ⟨S1x8x128x4x256, .f32⟩
  | 110 => ⟨S_, .i32⟩
  | 111 => ⟨S_, .i32⟩
  | 112 => ⟨S_, .i32⟩
  | 113 => ⟨S_, .i32⟩
  | 114 => ⟨S64x8x128x4x256, .f32⟩
  | 115 => ⟨S_, .i32⟩
  | 116 => ⟨S_, .i32⟩
  | 117 => ⟨S8x64x128x4x256, .f32⟩
  | 118 => ⟨S8x8192x4x256, .f32⟩
  | 119 => ⟨S1024, .f32⟩
  | 120 => ⟨S8x8192x1024, .f32⟩
  | 121 => ⟨S_, .f32⟩
  | 122 => ⟨S8x8192, .f32⟩
  | 123 => ⟨S8x8192x1, .f32⟩
  | 124 => ⟨S_, .f32⟩
  | 125 => ⟨S8x8192x1, .f32⟩
  | 126 => ⟨S8x8192x1, .f32⟩
  | 127 => ⟨S_, .f32⟩
  | _ => ⟨S8x8192x1024, .f32⟩

abbrev hbmTy0_2 (i : Nat) : BufTy := match i % 128 with
  | 0 => ⟨S8x8192x1, .f32⟩
  | 1 => ⟨S8x8192x1, .f32⟩
  | 2 => ⟨S8x8192x1, .f32⟩
  | 3 => ⟨S8x8192x1024, .f32⟩
  | 4 => ⟨S8x8192x1024, .f32⟩
  | 5 => ⟨S1x1x1024, .f32⟩
  | 6 => ⟨S8x8192x1024, .f32⟩
  | 7 => ⟨S8x8192x1024, .f32⟩
  | 8 => ⟨S1024x5632, .f32⟩
  | 9 => ⟨S8x8192x5632, .f32⟩
  | 10 => ⟨S8x8192x512, .f32⟩
  | 11 => ⟨S8x8192x512, .f32⟩
  | 12 => ⟨S8x8192x1024, .f32⟩
  | 13 => ⟨S8x8192x1024, .f32⟩
  | 14 => ⟨S8x8192x512, .f32⟩
  | 15 => ⟨S8x8192x2048, .f32⟩
  | 16 => ⟨S_, .f32⟩
  | 17 => ⟨S8x8192x4, .f32⟩
  | 18 => ⟨S8x8192x4x1, .f32⟩
  | 19 => ⟨S_, .f32⟩
  | 20 => ⟨S8x8192x4x1, .f32⟩
  | 21 => ⟨S8x8192x4x1, .f32⟩
  | 22 => ⟨S8x8192x4x256, .f32⟩
  | 23 => ⟨S8x8192x4x256, .f32⟩
  | 24 => ⟨S8x8192x4x256, .f32⟩
  | 25 => ⟨S_, .f32⟩
  | 26 => ⟨S8x8192x4, .f32⟩
  | 27 => ⟨S8x8192x4x1, .f32⟩
  | 28 => ⟨S_, .f32⟩
  | 29 => ⟨S8x8192x4x1, .f32⟩
  | 30 => ⟨S8x8192x4x1, .f32⟩
  | 31 => ⟨S8x8192x4x256, .f32⟩
  | 32 => ⟨S8x8192x4x256, .f32⟩
  | 33 => ⟨S_, .f32⟩
  | 34 => ⟨S8x8192x4x1, .f32⟩
  | 35 => ⟨S8x8192x4x1, .f32⟩
  | 36 => ⟨S8x8192x4x1, .f32⟩
  | 37 => ⟨S8x8192x4x256, .f32⟩
  | 38 => ⟨S8x8192x4x256, .f32⟩
  | 39 => ⟨S8x8192x1024, .f32⟩
  | 40 => ⟨S8x8192x1024, .f32⟩
  | 41 => ⟨S8x8192x1024, .f32⟩
  | 42 => ⟨S_, .f32⟩
  | 43 => ⟨S8x8192x1024, .f32⟩
  | 44 => ⟨S8x8192x1024, .f32⟩
  | 45 => ⟨S_, .f32⟩
  | 46 => ⟨S8x8192x1024, .f32⟩
  | 47 => ⟨S8x8192x1024, .f32⟩
  | 48 => ⟨S8x8192x1024, .f32⟩
  | 49 => ⟨S8x8192x1024, .f32⟩
  | 50 => ⟨S1024x1024, .f32⟩
  | 51 => ⟨S8x8192x1024, .f32⟩
  | 52 => ⟨S8x8192x512, .f32⟩
  | 53 => ⟨S8x8192x512, .f32⟩
  | 54 => ⟨S_, .f32⟩
  | 55 => ⟨S8x8192x512, .f32⟩
  | 56 => ⟨S8x8192x512, .f32⟩
  | 57 => ⟨S8x8192x512, .f32⟩
  | 58 => ⟨S_, .f32⟩
  | 59 => ⟨S8x8192x512, .f32⟩
  | 60 => ⟨S8x8192x512, .f32⟩
  | 61 => ⟨S8x8192x512, .f32⟩
  | 62 => ⟨S_, .f32⟩
  | 63 => ⟨S8x8192x512, .f32⟩
  | 64 => ⟨S8x8192x512, .f32⟩
  | 65 => ⟨S_, .f32⟩
  | 66 => ⟨S8x8192x512, .f32⟩
  | 67 => ⟨S8x8192x512, .f32⟩
  | 68 => ⟨S8x8192x512, .f32⟩
  | 69 => ⟨S512x1024, .f32⟩
  | 70 => ⟨S8x8192x1024, .f32⟩
  | 71 => ⟨S512x1024, .f32⟩
  | 72 => ⟨S8x8192x1024, .f32⟩
  | 73 => ⟨S8x8192x1024, .f32⟩
  | 74 => ⟨S8x8192x1024, .f32⟩
  | 75 => ⟨S_, .f32⟩
  | 76 => ⟨S8x8192x1024, .f32⟩
  | 77 => ⟨S8x8192x1024, .f32⟩
  | 78 => ⟨S_, .f32⟩
  | 79 => ⟨S8x8192x1024, .f32⟩
  | 80 => ⟨S8x8192x1024, .f32⟩
  | 81 => ⟨S8x8192x1024, .f32⟩
  | 82 => ⟨S8x8192x2048, .f32⟩
  | 83 => ⟨S8x8192x2048, .f32⟩
  | 84 => ⟨S_, .f32⟩
  | 85 => ⟨S8x8192x2048, .f32⟩
  | 86 => ⟨S8x8192x2048, .f32⟩
  | 87 => ⟨S_, .f32⟩
  | 88 => ⟨S8x8192x2048, .f32⟩
  | 89 => ⟨S8x8192x2048, .f32⟩
  | 90 => ⟨S8x8192x1024, .f32⟩
  | 91 => ⟨S8x8192x1024, .f32⟩
  | 92 => ⟨S8x8192x1024, .f32⟩
  | 93 => ⟨S8x8192x1024, .f32⟩
  | 94 => ⟨S8x8192x1024, .f32⟩
  | 95 => ⟨S1024x1024, .f32⟩
  | 96 => ⟨S8x8192x1024, .f32⟩
  | 97 => ⟨S1024, .f32⟩
  | 98 => ⟨S8x8192x1024, .f32⟩
  | 99 => ⟨S_, .f32⟩
  | 100 => ⟨S8x8192, .f32⟩
  | 101 => ⟨S8x8192x1, .f32⟩
  | 102 => ⟨S_, .f32⟩
  | 103 => ⟨S8x8192x1, .f32⟩
  | 104 => ⟨S8x8192x1, .f32⟩
  | 105 => ⟨S_, .f32⟩
  | 106 => ⟨S8x8192x1, .f32⟩
  | 107 => ⟨S8x8192x1, .f32⟩
  | 108 => ⟨S8x8192x1, .f32⟩
  | 109 => ⟨S8x8192x1024, .f32⟩
  | 110 => ⟨S8x8192x1024, .f32⟩
  | 111 => ⟨S1x1x1024, .f32⟩
  | 112 => ⟨S8x8192x1024, .f32⟩
  | 113 => ⟨S8x8192x1024, .f32⟩
  | 114 => ⟨S8x8192x1024, .f32⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_v64 : Ref sig .tc := ⟨.hbm, 89, rfl⟩
abbrev main_cst_9 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_10 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_11 : Ref sig .tc := ⟨.hbm, 121, rfl⟩
abbrev main_v94 : Ref sig .tc := ⟨.hbm, 122, rfl⟩
abbrev main_v95 : Ref sig .tc := ⟨.hbm, 123, rfl⟩
abbrev main_cst_12 : Ref sig .tc := ⟨.hbm, 124, rfl⟩
abbrev main_v96 : Ref sig .tc := ⟨.hbm, 125, rfl⟩
abbrev main_v97 : Ref sig .tc := ⟨.hbm, 126, rfl⟩
abbrev main_cst_13 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_14 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_15 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_cst_16 : Ref sig .tc := ⟨.hbm, 149, rfl⟩
abbrev main_call0_v0 : Ref sig .tc := ⟨.hbm, 150, rfl⟩
abbrev main_call0_v1 : Ref sig .tc := ⟨.hbm, 151, rfl⟩
abbrev main_call0_v2 : Ref sig .tc := ⟨.hbm, 152, rfl⟩
abbrev main_v117 : Ref sig .tc := ⟨.hbm, 153, rfl⟩
abbrev main_v118 : Ref sig .tc := ⟨.hbm, 154, rfl⟩
abbrev main_cst_17 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_18 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_cst_19 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_20 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_21 : Ref sig .tc := ⟨.hbm, 184, rfl⟩
abbrev main_v144 : Ref sig .tc := ⟨.hbm, 185, rfl⟩
abbrev main_c : Ref sig .tc := ⟨.hbm, 186, rfl⟩
abbrev main_v145_0 : Ref sig .tc := ⟨.hbm, 187, rfl⟩
abbrev main_v145_1 : Ref sig .tc := ⟨.hbm, 188, rfl⟩
abbrev main_v145_2 : Ref sig .tc := ⟨.hbm, 189, rfl⟩
abbrev main_v145_3 : Ref sig .tc := ⟨.hbm, 190, rfl⟩
abbrev main_v145_4 : Ref sig .tc := ⟨.hbm, 191, rfl⟩
abbrev main_v145_5 : Ref sig .tc := ⟨.hbm, 192, rfl⟩
abbrev main_v145_6 : Ref sig .tc := ⟨.hbm, 193, rfl⟩
abbrev main_v145_7 : Ref sig .tc := ⟨.hbm, 194, rfl⟩
abbrev main_v145_8 : Ref sig .tc := ⟨.hbm, 195, rfl⟩
abbrev main_v145_9 : Ref sig .tc := ⟨.hbm, 196, rfl⟩
abbrev main_while0c_c_50 : Ref sig .tc := ⟨.hbm, 197, rfl⟩
abbrev main_while0c_v245 : Ref sig .tc := ⟨.hbm, 198, rfl⟩
abbrev main_while0b_call1_c : Ref sig .tc := ⟨.hbm, 199, rfl⟩
abbrev main_while0b_call1_c_0 : Ref sig .tc := ⟨.hbm, 200, rfl⟩
abbrev main_while0b_call1_c_1 : Ref sig .tc := ⟨.hbm, 201, rfl⟩
abbrev main_while0b_call1_c_2 : Ref sig .tc := ⟨.hbm, 202, rfl⟩
abbrev main_while0b_call1_v0 : Ref sig .tc := ⟨.hbm, 203, rfl⟩
abbrev main_while0b_v245 : Ref sig .tc := ⟨.hbm, 204, rfl⟩
abbrev main_while0b_call2_c : Ref sig .tc := ⟨.hbm, 205, rfl⟩
abbrev main_while0b_call2_c_0 : Ref sig .tc := ⟨.hbm, 206, rfl⟩
abbrev main_while0b_call2_c_1 : Ref sig .tc := ⟨.hbm, 207, rfl⟩
abbrev main_while0b_call2_c_2 : Ref sig .tc := ⟨.hbm, 208, rfl⟩
abbrev main_while0b_call2_v0 : Ref sig .tc := ⟨.hbm, 209, rfl⟩
abbrev main_while0b_v246 : Ref sig .tc := ⟨.hbm, 210, rfl⟩
abbrev main_while0b_call3_c : Ref sig .tc := ⟨.hbm, 211, rfl⟩
abbrev main_while0b_call3_c_0 : Ref sig .tc := ⟨.hbm, 212, rfl⟩
abbrev main_while0b_call3_c_1 : Ref sig .tc := ⟨.hbm, 213, rfl⟩
abbrev main_while0b_call3_c_2 : Ref sig .tc := ⟨.hbm, 214, rfl⟩
abbrev main_while0b_call3_v0 : Ref sig .tc := ⟨.hbm, 215, rfl⟩
abbrev main_while0b_v247 : Ref sig .tc := ⟨.hbm, 216, rfl⟩
abbrev main_while0b_v248 : Ref sig .tc := ⟨.hbm, 217, rfl⟩
abbrev main_while0b_v249 : Ref sig .tc := ⟨.hbm, 218, rfl⟩
abbrev main_while0b_v250 : Ref sig .tc := ⟨.hbm, 219, rfl⟩
abbrev main_while0b_v251 : Ref sig .tc := ⟨.hbm, 220, rfl⟩
abbrev main_while0b_v252 : Ref sig .tc := ⟨.hbm, 221, rfl⟩
abbrev main_while0b_v253 : Ref sig .tc := ⟨.hbm, 222, rfl⟩
abbrev main_while0b_v254 : Ref sig .tc := ⟨.hbm, 223, rfl⟩
abbrev main_while0b_v255 : Ref sig .tc := ⟨.hbm, 224, rfl⟩
abbrev main_while0b_v256 : Ref sig .tc := ⟨.hbm, 225, rfl⟩
abbrev main_while0b_v257 : Ref sig .tc := ⟨.hbm, 226, rfl⟩
abbrev main_while0b_v258 : Ref sig .tc := ⟨.hbm, 227, rfl⟩
abbrev main_while0b_v259 : Ref sig .tc := ⟨.hbm, 228, rfl⟩
abbrev main_while0b_v260 : Ref sig .tc := ⟨.hbm, 229, rfl⟩
abbrev main_while0b_v261 : Ref sig .tc := ⟨.hbm, 230, rfl⟩
abbrev main_while0b_v262 : Ref sig .tc := ⟨.hbm, 231, rfl⟩
abbrev main_while0b_v263 : Ref sig .tc := ⟨.hbm, 232, rfl⟩
abbrev main_while0b_v264 : Ref sig .tc := ⟨.hbm, 233, rfl⟩
abbrev main_while0b_v265 : Ref sig .tc := ⟨.hbm, 234, rfl⟩
abbrev main_while0b_v266 : Ref sig .tc := ⟨.hbm, 235, rfl⟩
abbrev main_while0b_v267 : Ref sig .tc := ⟨.hbm, 236, rfl⟩
abbrev main_while0b_call4_v0 : Ref sig .tc := ⟨.hbm, 237, rfl⟩
abbrev main_while0b_call4_c : Ref sig .tc := ⟨.hbm, 238, rfl⟩
abbrev main_while0b_call4_c_0 : Ref sig .tc := ⟨.hbm, 239, rfl⟩
abbrev main_while0b_call4_c_1 : Ref sig .tc := ⟨.hbm, 240, rfl⟩
abbrev main_while0b_call4_c_2 : Ref sig .tc := ⟨.hbm, 241, rfl⟩
abbrev main_while0b_v268 : Ref sig .tc := ⟨.hbm, 242, rfl⟩
abbrev main_while0b_c_50 : Ref sig .tc := ⟨.hbm, 243, rfl⟩
abbrev main_while0b_v269 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_cst_22 : Ref sig .tc := ⟨.hbm, 249, rfl⟩
abbrev main_v150 : Ref sig .tc := ⟨.hbm, 250, rfl⟩
abbrev main_v151 : Ref sig .tc := ⟨.hbm, 251, rfl⟩
abbrev main_cst_23 : Ref sig .tc := ⟨.hbm, 252, rfl⟩
abbrev main_v152 : Ref sig .tc := ⟨.hbm, 253, rfl⟩
abbrev main_v153 : Ref sig .tc := ⟨.hbm, 254, rfl⟩
abbrev main_cst_24 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_cst_25 : Ref sig .tc := ⟨.hbm, 272, rfl⟩
abbrev main_v170 : Ref sig .tc := ⟨.hbm, 273, rfl⟩
abbrev main_v171 : Ref sig .tc := ⟨.hbm, 274, rfl⟩
abbrev main_cst_26 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_cst_27 : Ref sig .tc := ⟨.hbm, 281, rfl⟩
abbrev main_v177 : Ref sig .tc := ⟨.hbm, 282, rfl⟩
abbrev main_v178 : Ref sig .tc := ⟨.hbm, 283, rfl⟩
abbrev main_cst_28 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_cst_29 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_call5_v0 : Ref sig .tc := ⟨.hbm, 296, rfl⟩
abbrev main_call5_v1 : Ref sig .tc := ⟨.hbm, 297, rfl⟩
abbrev main_call5_cst : Ref sig .tc := ⟨.hbm, 298, rfl⟩
abbrev main_call5_v2 : Ref sig .tc := ⟨.hbm, 299, rfl⟩
abbrev main_call5_v3 : Ref sig .tc := ⟨.hbm, 300, rfl⟩
abbrev main_call5_cst_0 : Ref sig .tc := ⟨.hbm, 301, rfl⟩
abbrev main_call5_v4 : Ref sig .tc := ⟨.hbm, 302, rfl⟩
abbrev main_call5_v5 : Ref sig .tc := ⟨.hbm, 303, rfl⟩
abbrev main_v189 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193 : Ref sig .tc := ⟨.hbm, 308, rfl⟩
abbrev main_v194 : Ref sig .tc := ⟨.hbm, 309, rfl⟩
abbrev main_cst_30 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_cst_31 : Ref sig .tc := ⟨.hbm, 314, rfl⟩
abbrev main_v198 : Ref sig .tc := ⟨.hbm, 315, rfl⟩
abbrev main_v199 : Ref sig .tc := ⟨.hbm, 316, rfl⟩
abbrev main_v200 : Ref sig .tc := ⟨.hbm, 317, rfl⟩
abbrev main_cst_32 : Ref sig .tc := ⟨.hbm, 318, rfl⟩
abbrev main_v201 : Ref sig .tc := ⟨.hbm, 319, rfl⟩
abbrev main_v202 : Ref sig .tc := ⟨.hbm, 320, rfl⟩
abbrev main_cst_33 : Ref sig .tc := ⟨.hbm, 321, rfl⟩
abbrev main_v203 : Ref sig .tc := ⟨.hbm, 322, rfl⟩
abbrev main_v204 : Ref sig .tc := ⟨.hbm, 323, rfl⟩
abbrev main_v205 : Ref sig .tc := ⟨.hbm, 324, rfl⟩
abbrev main_v206 : Ref sig .tc := ⟨.hbm, 325, rfl⟩
abbrev main_v207 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_v211 : Ref sig .tc := ⟨.hbm, 330, rfl⟩
abbrev main_cst_34 : Ref sig .tc := ⟨.hbm, 331, rfl⟩
abbrev main_v212 : Ref sig .tc := ⟨.hbm, 332, rfl⟩
abbrev main_v213 : Ref sig .tc := ⟨.hbm, 333, rfl⟩
abbrev main_cst_35 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_v217 : Ref sig .tc := ⟨.hbm, 338, rfl⟩
abbrev main_v218 : Ref sig .tc := ⟨.hbm, 339, rfl⟩
abbrev main_cst_36 : Ref sig .tc := ⟨.hbm, 340, rfl⟩
abbrev main_v219 : Ref sig .tc := ⟨.hbm, 341, rfl⟩
abbrev main_v220 : Ref sig .tc := ⟨.hbm, 342, rfl⟩
abbrev main_cst_37 : Ref sig .tc := ⟨.hbm, 343, rfl⟩
abbrev main_v221 : Ref sig .tc := ⟨.hbm, 344, rfl⟩
abbrev main_v222 : Ref sig .tc := ⟨.hbm, 345, rfl⟩
abbrev main_v223 : Ref sig .tc := ⟨.hbm, 346, rfl⟩
abbrev main_v224 : Ref sig .tc := ⟨.hbm, 347, rfl⟩
abbrev main_v225 : Ref sig .tc := ⟨.hbm, 348, rfl⟩
abbrev main_v226 : Ref sig .tc := ⟨.hbm, 349, rfl⟩
abbrev main_v227 : Ref sig .tc := ⟨.hbm, 350, rfl⟩
abbrev main_v228 : Ref sig .tc := ⟨.hbm, 351, rfl⟩
abbrev main_v229 : Ref sig .tc := ⟨.hbm, 352, rfl⟩
abbrev main_v230 : Ref sig .tc := ⟨.hbm, 353, rfl⟩
abbrev main_v231 : Ref sig .tc := ⟨.hbm, 354, rfl⟩
abbrev main_cst_38 : Ref sig .tc := ⟨.hbm, 355, rfl⟩
abbrev main_v232 : Ref sig .tc := ⟨.hbm, 356, rfl⟩
abbrev main_v233 : Ref sig .tc := ⟨.hbm, 357, rfl⟩
abbrev main_cst_39 : Ref sig .tc := ⟨.hbm, 358, rfl⟩
abbrev main_v234 : Ref sig .tc := ⟨.hbm, 359, rfl⟩
abbrev main_v235 : Ref sig .tc := ⟨.hbm, 360, rfl⟩
abbrev main_cst_40 : Ref sig .tc := ⟨.hbm, 361, rfl⟩
abbrev main_v236 : Ref sig .tc := ⟨.hbm, 362, rfl⟩
abbrev main_v237 : Ref sig .tc := ⟨.hbm, 363, rfl⟩
abbrev main_v238 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S8x8192x1024 : Shape := ⟨3, ![8, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 18
  | .vmem => 9
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S65536x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1x1024, .f32⟩
  | .hbm, ⟨17, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S8x8192x1024 : Shape := ⟨3, ![8, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x2816 : Shape := ⟨2, ![1024, 2816]⟩
abbrev S8x8192x2816 : Shape := ⟨3, ![8, 8192, 2816]⟩
abbrev S2816x1024 : Shape := ⟨2, ![2816, 1024]⟩
abbrev S65536x1024 : Shape := ⟨2, ![65536, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024, .f32⟩
  | .hbm, ⟨7, _⟩ => ⟨S8x8192x1024, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S_, .f32⟩
  | .hbm, ⟨15, _⟩ => ⟨S8x8192x1, .f32⟩
  | .hbm, ⟨16, _⟩ => ⟨S8x8192x1, .f32⟩
  | .hbm, ⟨17, _⟩ => ⟨S8x8192x1, .f32⟩
  | .hbm, ⟨18, _⟩ => ⟨S8x8192x1024, .f32⟩
  | .hbm, ⟨19, _⟩ => ⟨S8x8192x1024, .f32⟩
  | .hbm, ⟨20, _⟩ => ⟨S1x1x1024, .f32⟩
  | .hbm, ⟨21, _⟩ => ⟨S8x8192x1024, .f32⟩
  | .hbm, ⟨22, _⟩ => ⟨S8x8192x1024, .f32⟩
  | .hbm, ⟨23, _⟩ => ⟨S1024x2816, .f32⟩
  | .hbm, ⟨24, _⟩ => ⟨S8x8192x2816, .f32⟩
  | .hbm, ⟨25, _⟩ => ⟨S8x8192x2816, .f32⟩
  | .hbm, ⟨26, _⟩ => ⟨S8x8192x2816, .f32⟩
  | .hbm, ⟨27, _⟩ => ⟨S_, .f32⟩
  | .hbm, ⟨28, _⟩ => ⟨S8x8192x2816, .f32⟩
  | .hbm, ⟨29, _⟩ => ⟨S8x8192x2816, .f32⟩
  | .hbm, ⟨30, _⟩ => ⟨S_, .f32⟩
  | .hbm, ⟨31, _⟩ => ⟨S8x8192x2816, .f32⟩
  | .hbm, ⟨32, _⟩ => ⟨S8x8192x2816, .f32⟩
  | .hbm, ⟨33, _⟩ => ⟨S8x8192x2816, .f32⟩
  | .hbm, ⟨34, _⟩ => ⟨S1024x2816, .f32⟩
  | .hbm, ⟨35, _⟩ => ⟨S8x8192x2816, .f32⟩
  | .hbm, ⟨36, _⟩ => ⟨S8x8192x2816, .f32⟩
  | .hbm, ⟨37, _⟩ => ⟨S2816x1024, .f32⟩
  | .hbm, ⟨38, _⟩ => ⟨S8x8192x1024, .f32⟩
  | .hbm, ⟨39, _⟩ => ⟨S1024, .f32⟩
  | .hbm, ⟨40, _⟩ => ⟨S8x8192x1024, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S_, .f32⟩
  | .hbm, ⟨48, _⟩ => ⟨S8x8192x1, .f32⟩
  | .hbm, ⟨49, _⟩ => ⟨S8x8192x1, .f32⟩
  | .hbm, ⟨50, _⟩ => ⟨S8x8192x1, .f32⟩
  | .hbm, ⟨51, _⟩ => ⟨S8x8192x1024, .f32⟩
  | .hbm, ⟨52, _⟩ => ⟨S8x8192x1024, .f32⟩
  | .hbm, ⟨53, _⟩ => ⟨S1x1x1024, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Mixer.lean ====
abbrev S8x8192x1024 : Shape := ⟨3, ![8, 8192, 1024]⟩
abbrev S8x8192 : Shape := ⟨2, ![8, 8192]⟩
abbrev S1x1024 : Shape := ⟨2, ![1, 1024]⟩
abbrev S1x1024x5632 : Shape := ⟨3, ![1, 1024, 5632]⟩
abbrev S32x128x128 : Shape := ⟨3, ![32, 128, 128]⟩
abbrev S32x128 : Shape := ⟨2, ![32, 128]⟩
abbrev S1x512x1024 : Shape := ⟨3, ![1, 512, 1024]⟩
abbrev S1x1024x1024 : Shape := ⟨3, ![1, 1024, 1024]⟩
abbrev S64 : Shape := ⟨1, ![64]⟩
abbrev S_ : Shape := ⟨0, ![]⟩
abbrev S128 : Shape := ⟨1, ![128]⟩
abbrev S128x1 : Shape := ⟨2, ![128, 1]⟩
abbrev S4 : Shape := ⟨1, ![4]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x128x256 : Shape := ⟨3, ![4, 128, 256]⟩
abbrev S4x1x256 : Shape := ⟨3, ![4, 1, 256]⟩
abbrev S512x1024 : Shape := ⟨2, ![512, 1024]⟩
abbrev S512x2048 : Shape := ⟨2, ![512, 2048]⟩
abbrev S1024 : Shape := ⟨1, ![1024]⟩
abbrev S1024x5632 : Shape := ⟨2, ![1024, 5632]⟩
abbrev S1024x1024 : Shape := ⟨2, ![1024, 1024]⟩
abbrev S8x8x8x128 : Shape := ⟨4, ![8, 8, 8, 128]⟩
abbrev S1x8x8x128 : Shape := ⟨4, ![1, 8, 8, 128]⟩
abbrev S512x512 : Shape := ⟨2, ![512, 512]⟩
abbrev S4x512x128 : Shape := ⟨3, ![4, 512, 128]⟩
abbrev S32x64x128 : Shape := ⟨3, ![32, 64, 128]⟩
abbrev S2176x128 : Shape := ⟨2, ![2176, 128]⟩
abbrev S64x128 : Shape := ⟨2, ![64, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S256x128 : Shape := ⟨2, ![256, 128]⟩
abbrev S1x256x128 : Shape := ⟨3, ![1, 256, 128]⟩
abbrev S1x64x128 : Shape := ⟨3, ![1, 64, 128]⟩
abbrev S1x1x4x128 : Shape := ⟨4, ![1, 1, 4, 128]⟩
abbrev S1x256 : Shape := ⟨2, ![1, 256]⟩
abbrev S128x256 : Shape := ⟨2, ![128, 256]⟩
abbrev S512x128 : Shape := ⟨2, ![512, 128]⟩
abbrev S1x128x256 : Shape := ⟨3, ![1, 128, 256]⟩
abbrev S1x1x256 : Shape := ⟨3, ![1, 1, 256]⟩
abbrev S1x512x128 : Shape := ⟨3, ![1, 512, 128]⟩

abbrev nBuf : Space → Nat
  | .hbm => 109
  | .vmem => 38
  | .smem => 0
  | _ => 0

abbrev bufTy : (tb : Table) → Fin (tcTables nBuf tb) → BufTy
  | .hbm, ⟨0, _⟩ => ⟨S8x8192x1024, .f32⟩
  | .hbm, ⟨1, _⟩ => ⟨S8x8192, .i32⟩
  | .hbm, ⟨2, _⟩ => ⟨S1x1024, .f32⟩
  | .hbm, ⟨3, _⟩ => ⟨S1x1024x5632, .f32⟩
  | .hbm, ⟨4, _⟩ => ⟨S32x128x128, .bf16⟩
  | .hbm, ⟨5, _⟩ => ⟨S32x128x128, .bf16⟩
  | .hbm, ⟨6, _⟩ => ⟨S32x128x128, .bf16⟩
  | .hbm, ⟨7, _⟩ => ⟨S32x128, .f32⟩
  | .hbm, ⟨8, _⟩ => ⟨S32x128, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1x1024x1024, .f32⟩
  | .hbm, ⟨13, _⟩ => ⟨S1x1024, .f32⟩
  | .hbm, ⟨14, _⟩ => ⟨S8x8192, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S128, .f32⟩
  | .hbm, ⟨30, _⟩ => ⟨S128x1, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S128, .f32⟩
  | .hbm, ⟨43, _⟩ => ⟨S128x1, .f32⟩
  | .hbm, ⟨44, _⟩ => ⟨S1x128, .f32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S128x128, .i1⟩
  | .hbm, ⟨51, _⟩ => ⟨S4x1x1, .f32⟩
  | .hbm, ⟨52, _⟩ => ⟨S_, .f32⟩
  | .hbm, ⟨53, _⟩ => ⟨S128x128, .f32⟩
  | .hbm, ⟨54, _⟩ => ⟨S128x128, .f32⟩
  | .hbm, ⟨55, _⟩ => ⟨S1x128x128, .f32⟩
  | .hbm, ⟨56, _⟩ => ⟨S4x128x128, .f32⟩
  | .hbm, ⟨57, _⟩ => ⟨S4x128x128, .f32⟩
  | .hbm, ⟨58, _⟩ => ⟨S4x128x128, .f32⟩
  | .hbm, ⟨59, _⟩ => ⟨S4x128x128, .f32⟩
  | .hbm, ⟨60, _⟩ => ⟨S_, .f32⟩
  | .hbm, ⟨61, _⟩ => ⟨S_, .f32⟩
  | .hbm, ⟨62, _⟩ => ⟨S4x128x128, .i1⟩
  | .hbm, ⟨63, _⟩ => ⟨S4x128x128, .f32⟩
  | .hbm, ⟨64, _⟩ => ⟨S4x128x128, .f32⟩
  | .hbm, ⟨65, _⟩ => ⟨S4x1, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S4x128, .f32⟩
  | .hbm, ⟨71, _⟩ => ⟨S4x128, .f32⟩
  | .hbm, ⟨72, _⟩ => ⟨S4x128, .f32⟩
  | .hbm, ⟨73, _⟩ => ⟨S4x128, .f32⟩
  | .hbm, ⟨74, _⟩ => ⟨S4x1, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S4x128, .f32⟩
  | .hbm, ⟨80, _⟩ => ⟨S4x128, .f32⟩
  | .hbm, ⟨81, _⟩ => ⟨S4x128, .f32⟩
  | .hbm, ⟨82, _⟩ => ⟨S4x128, .f32⟩
  | .hbm, ⟨83, _⟩ => ⟨S_, .f32⟩
  | .hbm, ⟨84, _⟩ => ⟨S4, .f32⟩
  | .hbm, ⟨85, _⟩ => ⟨S4, .f32⟩
  | .hbm, ⟨86, _⟩ => ⟨S4, .f32⟩
  | .hbm, ⟨87, _⟩ => ⟨S4x128x1, .f32⟩
  | .hbm, ⟨88, _⟩ => ⟨S4x128x128, .f32⟩
  | .hbm, ⟨89, _⟩ => ⟨S4x128x1, .f32⟩
  | .hbm, ⟨90, _⟩ => ⟨S4x128x256, .f32⟩
  | .hbm, ⟨91, _⟩ => ⟨S4x1x1, .f32⟩
  | .hbm, ⟨92, _⟩ => ⟨S4x1x256, .f32⟩
  | .hbm, ⟨93, _⟩ => ⟨S512x1024, .f32⟩
  | .hbm, ⟨94, _⟩ => ⟨S512x1024, .f32⟩
  | .hbm, ⟨95, _⟩ => ⟨S512x2048, .f32⟩
  | .hbm, ⟨96, _⟩ => ⟨S512x2048, .bf16⟩
  | .hbm, ⟨97, _⟩ => ⟨S1024, .f32⟩
  | .hbm, ⟨98, _⟩ => ⟨S1x1024, .f32⟩
  | .hbm, ⟨99, _⟩ => ⟨S1024x5632, .f32⟩
  | .hbm, ⟨100, _⟩ => ⟨S1024x5632, .bf16⟩
  | .hbm, ⟨101, _⟩ => ⟨S1024x1024, .f32⟩
  | .hbm, ⟨102, _⟩ => ⟨S1024x1024, .bf16⟩
  | .hbm, ⟨103, _⟩ => ⟨S1024x1024, .f32⟩
  | .hbm, ⟨104, _⟩ => ⟨S1024x1024, .bf16⟩
  | .hbm, ⟨105, _⟩ => ⟨S1024, .f32⟩
  | .hbm, ⟨106, _⟩ => ⟨S1x1024, .f32⟩
  | .hbm, ⟨107, _⟩ => ⟨S8x8x8x128, .f32⟩
  | .hbm, ⟨108, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x8x128, .f32⟩
  | .local _ .vmem, ⟨3, _⟩ => ⟨S1x8x8x128, .f32⟩
  | .local _ .vmem, ⟨4, _⟩ => ⟨S128x1, .f32⟩
  | .local _ .vmem, ⟨5, _⟩ => ⟨S1x1024, .f32⟩
  | .local _ .vmem, ⟨6, _⟩ => ⟨S1024x5632, .bf16⟩
  | .local _ .vmem, ⟨7, _⟩ => ⟨S4x128x128, .f32⟩
  | .local _ .vmem, ⟨8, _⟩ => ⟨S4x128x256, .f32⟩
  | .local _ .vmem, ⟨9, _⟩ => ⟨S4x128x128, .f32⟩
  | .local _ .vmem, ⟨10, _⟩ => ⟨S4x1x256, .f32⟩
  | .local _ .vmem, ⟨11, _⟩ => ⟨S1024x1024, .bf16⟩
  | .local _ .vmem, ⟨12, _⟩ => ⟨S32x128x128, .bf16⟩
  | .local _ .vmem, ⟨13, _⟩ => ⟨S32x128x128, .bf16⟩
  | .local _ .vmem, ⟨14, _⟩ => ⟨S32x128x128, .bf16⟩
  | .local _ .vmem, ⟨15, _⟩ => ⟨S32x128, .f32⟩
  | .local _ .vmem, ⟨16, _⟩ => ⟨S32x128, .f32⟩
  | .local _ .vmem, ⟨17, _⟩ => ⟨S512x2048, .bf16⟩
  | .local _ .vmem, ⟨18, _⟩ => ⟨S1024x1024, .bf16⟩
  | .local _ .vmem, ⟨19, _⟩ => ⟨S1x1024, .f32⟩
  | .local _ .vmem, ⟨20, _⟩ => ⟨S1x1024x1024, .f32⟩
  | .local _ .vmem, ⟨21, _⟩ => ⟨S1x1024x1024, .f32⟩
  | .local _ .vmem, ⟨22, _⟩ => ⟨S4x128x256, .f32⟩
  | .local _ .vmem, ⟨23, _⟩ => ⟨S32x128, .f32⟩
  | .local _ .vmem, ⟨24, _⟩ => ⟨S32x128, .f32⟩
  | .local _ .vmem, ⟨25, _⟩ => ⟨S512x1024, .bf16⟩
  | .local _ .vmem, ⟨26, _⟩ => ⟨S512x512, .bf16⟩
  | .local _ .vmem, ⟨27, _⟩ => ⟨S512x512, .f32⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S4x512x128, .f32⟩
  | .local _ .vmem, ⟨32, _⟩ => ⟨S32x64x128, .bf16⟩
  | .local _ .vmem, ⟨33, _⟩ => ⟨S2176x128, .f32⟩
  | .local _ .vmem, ⟨34, _⟩ => ⟨S2176x128, .f32⟩
  | .local _ .vmem, ⟨35, _⟩ => ⟨S2176x128, .f32⟩
  | .local _ .vmem, ⟨36, _⟩ => ⟨S32x64x128, .f32⟩
  | .local _ .vmem, ⟨37, _⟩ => ⟨S4x512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_cst_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_scratch13 : Ref sig .tc := ⟨.vmem, 35, rfl⟩
abbrev cc0_scratch14 : Ref sig .tc := ⟨.vmem, 36, rfl⟩
abbrev cc0_scratch15 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨2, ![8, 8], ![false, false]⟩

def k0_off1 (i : grid0.Coords) : Fin 4 → Nat :=
  let c0_340 : Index := 0#32
  let arg1 : BitVec 32 := BitVec.ofNat 32 (i 1).val
  let v548 : Index := Scalar.indexCast arg1
  let c0_341 : Index := 0#32
  let c0_342 : Index := 0#32
  ![0, v548.toNat, 0, 0]
def k0_off2 (i : grid0.Coords) : Fin 4 → Nat :=
  let c0_2988 : Index := 0#32
  let arg1 : BitVec 32 := BitVec.ofNat 32 (i 1).val
  let v4343 : Index := Scalar.indexCast arg1
  let c4_2989 : Index := 4#32
  let c0_2990 : Index := 0#32
  ![0, v4343.toNat, 4, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S32x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S32x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x1024x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Prep.lean ====
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S1x512 : Shape := ⟨2, ![1, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512 : Shape := ⟨1, ![512]⟩
abbrev S32x64x1 : Shape := ⟨3, ![32, 64, 1]⟩
abbrev S32x1x64 : Shape := ⟨3, ![32, 1, 64]⟩
abbrev S32x1x1 : Shape := ⟨3, ![32, 1, 1]⟩
abbrev S1x32x1x64x1x16 : Shape := ⟨6, ![1, 32, 1, 64, 1, 16]⟩
abbrev S1x32x1x64x8x16 : Shape := ⟨6, ![1, 32, 1, 64, 8, 16]⟩
abbrev S32x64x128 : Shape := ⟨3, ![32, 64, 128]⟩
abbrev S32x1x16 : Shape := ⟨3, ![32, 1, 16]⟩
abbrev S1x32x1x1x1x16 : Shape := ⟨6, ![1, 32, 1, 1, 1, 16]⟩
abbrev S1x32x1x1x8x16 : Shape := ⟨6, ![1, 32, 1, 1, 8, 16]⟩
abbrev S32x1x128 : Shape := ⟨3, ![32, 1, 128]⟩
abbrev S32x128x128 : Shape := ⟨3, ![32, 128, 128]⟩
abbrev S4x64x1 : Shape := ⟨3, ![4, 64, 1]⟩
abbrev S4x1x64 : Shape := ⟨3, ![4, 1, 64]⟩
abbrev S4x1x1 : Shape := ⟨3, ![4, 1, 1]⟩
abbrev S4x16x64 : Shape := ⟨3, ![4, 16, 64]⟩
abbrev S4x64x128 : Shape := ⟨3, ![4, 64, 128]⟩
abbrev S4x1x128 : Shape := ⟨3, ![4, 1, 128]⟩
abbrev S4x128x128 : Shape := ⟨3, ![4, 128, 128]⟩
abbrev S1x1x1 : Shape := ⟨3, ![1, 1, 1]⟩
abbrev S1x1 : Shape := ⟨2, ![1, 1]⟩
abbrev S1x64x1 : Shape := ⟨3, ![1, 64, 1]⟩
abbrev S64x1 : Shape := ⟨2, ![64, 1]⟩
abbrev S1x1x64 : Shape := ⟨3, ![1, 1, 64]⟩
abbrev S1x64 : Shape := ⟨2, ![1, 64]⟩
abbrev S1x16x64 : Shape := ⟨3, ![1, 16, 64]⟩
abbrev S16x64 : Shape := ⟨2, ![16, 64]⟩
abbrev S64x128 : Shape := ⟨2, ![64, 128]⟩
abbrev S1x64x128 : Shape := ⟨3, ![1, 64, 128]⟩
abbrev S16x128 : Shape := ⟨2, ![16, 128]⟩
abbrev S1x1x128 : Shape := ⟨3, ![1, 1, 128]⟩
abbrev S1x128 : Shape := ⟨2, ![1, 128]⟩
abbrev S1x128x128 : Shape := ⟨3, ![1, 128, 128]⟩
abbrev S128x128 : Shape := ⟨2, ![128, 128]⟩
abbrev S1x16x128 : Shape := ⟨3, ![1, 16, 128]⟩
abbrev S32x128 : Shape := ⟨2, ![32, 128]⟩

abbrev nBuf : Space → Nat
  | .hbm => 42
  | .vmem => 30
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S1x32x16x64, .f32⟩
  | .hbm, ⟨6, _⟩ => ⟨S1x32x16x64, .f32⟩
  | .hbm, ⟨7, _⟩ => ⟨S1x512, .f32⟩
  | .hbm, ⟨8, _⟩ => ⟨S32x64, .f32⟩
  | .hbm, ⟨9, _⟩ => ⟨S32x64, .f32⟩
  | .hbm, ⟨10, _⟩ => ⟨S32, .f32⟩
  | .hbm, ⟨11, _⟩ => ⟨S32x64x16, .f32⟩
  | .hbm, ⟨12, _⟩ => ⟨S32x64x16, .f32⟩
  | .hbm, ⟨13, _⟩ => ⟨S32x16x64, .f32⟩
  | .hbm, ⟨14, _⟩ => ⟨S32x16x64, .f32⟩
  | .hbm, ⟨15, _⟩ => ⟨S512, .f32⟩
  | .hbm, ⟨16, _⟩ => ⟨S32x64x1, .f32⟩
  | .hbm, ⟨17, _⟩ => ⟨S32x64x1, .f32⟩
  | .hbm, ⟨18, _⟩ => ⟨S32x1x64, .f32⟩
  | .hbm, ⟨19, _⟩ => ⟨S32x1x64, .f32⟩
  | .hbm, ⟨20, _⟩ => ⟨S32x1x1, .f32⟩
  | .hbm, ⟨21, _⟩ => ⟨S32x16x64, .f32⟩
  | .hbm, ⟨22, _⟩ => ⟨S32x16x64, .f32⟩
  | .hbm, ⟨23, _⟩ => ⟨S32x64x16, .f32⟩
  | .hbm, ⟨24, _⟩ => ⟨S1x32x1x64x1x16, .f32⟩
  | .hbm, ⟨25, _⟩ => ⟨S1x32x1x64x8x16, .f32⟩
  | .hbm, ⟨26, _⟩ => ⟨S32x64x128, .f32⟩
  | .hbm, ⟨27, _⟩ => ⟨S32x64x16, .f32⟩
  | .hbm, ⟨28, _⟩ => ⟨S1x32x1x64x1x16, .f32⟩
  | .hbm, ⟨29, _⟩ => ⟨S1x32x1x64x8x16, .f32⟩
  | .hbm, ⟨30, _⟩ => ⟨S32x64x128, .f32⟩
  | .hbm, ⟨31, _⟩ => ⟨S32x1x16, .f32⟩
  | .hbm, ⟨32, _⟩ => ⟨S1x32x1x1x1x16, .f32⟩
  | .hbm, ⟨33, _⟩ => ⟨S1x32x1x1x8x16, .f32⟩
  | .hbm, ⟨34, _⟩ => ⟨S32x1x128, .f32⟩
  | .hbm, ⟨35, _⟩ => ⟨S32x128x128, .bf16⟩
  | .hbm, ⟨36, _⟩ => ⟨S32x128x128, .bf16⟩
  | .hbm, ⟨37, _⟩ => ⟨S32x128x128, .bf16⟩
  | .hbm, ⟨38, _⟩ => ⟨S32x1x128, .f32⟩
  | .hbm, ⟨39, _⟩ => ⟨S32x1x128, .f32⟩
  | .hbm, ⟨40, _⟩ => ⟨S32x128, .f32⟩
  | .hbm, ⟨41, _⟩ => ⟨S32x128, .f32⟩
  | .local _ .vmem, ⟨0, _⟩ => ⟨S4x64x1, .f32⟩
  | .local _ .vmem, ⟨1, _⟩ => ⟨S4x64x1, .f32⟩
  | .local _ .vmem, ⟨2, _⟩ => ⟨S4x64x1, .f32⟩
  | .local _ .vmem, ⟨3, _⟩ => ⟨S4x64x1, .f32⟩
  | .local _ .vmem, ⟨4, _⟩ => ⟨S4x1x64, .f32⟩
  | .local _ .vmem, ⟨5, _⟩ => ⟨S4x1x64, .f32⟩
  | .local _ .vmem, ⟨6, _⟩ => ⟨S4x1x64, .f32⟩
  | .local _ .vmem, ⟨7, _⟩ => ⟨S4x1x64, .f32⟩
  | .local _ .vmem, ⟨8, _⟩ => ⟨S4x1x1, .f32⟩
  | .local _ .vmem, ⟨9, _⟩ => ⟨S4x1x1, .f32⟩
  | .local _ .vmem, ⟨10, _⟩ => ⟨S4x16x64, .f32⟩
  | .local _ .vmem, ⟨11, _⟩ => ⟨S4x16x64, .f32⟩
  | .local _ .vmem, ⟨12, _⟩ => ⟨S4x16x64, .f32⟩
  | .local _ .vmem, ⟨13, _⟩ => ⟨S4x16x64, .f32⟩
  | .local _ .vmem, ⟨14, _⟩ => ⟨S4x64x128, .f32⟩
  | .local _ .vmem, ⟨15, _⟩ => ⟨S4x64x128, .f32⟩
  | .local _ .vmem, ⟨16, _⟩ => ⟨S4x64x128, .f32⟩
  | .local _ .vmem, ⟨17, _⟩ => ⟨S4x64x128, .f32⟩
  | .local _ .vmem, ⟨18, _⟩ => ⟨S4x1x128, .f32⟩
  | .local _ .vmem, ⟨19, _⟩ => ⟨S4x1x128, .f32⟩
  | .local _ .vmem, ⟨20, _⟩ => ⟨S4x128x128, .bf16⟩
  | .local _ .vmem, ⟨21, _⟩ => ⟨S4x128x128, .bf16⟩
  | .local _ .vmem, ⟨22, _⟩ => ⟨S4x128x128, .bf16⟩
  | .local _ .vmem, ⟨23, _⟩ => ⟨S4x128x128, .bf16⟩
  | .local _ .vmem, ⟨24, _⟩ => ⟨S4x128x128, .bf16⟩
  | .local _ .vmem, ⟨25, _⟩ => ⟨S4x128x128, .bf16⟩
  | .local _ .vmem, ⟨26, _⟩ => ⟨S4x1x128, .f32⟩
  | .local _ .vmem, ⟨27, _⟩ => ⟨S4x1x128, .f32⟩
  | .local _ .vmem, ⟨28, _⟩ => ⟨S4x1x128, .f32⟩
  | .local _ .vmem, ⟨29, _⟩ => ⟨S4x1x128, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev main_v27_4 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x16x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Proof.MixFrameIdeal.lean ====
/- After the generated module `Gen/MixIdeal/Frame.lean`, with one setting changed (the limit of the proof `body_obligation`, which
   the generated module's limit cuts off): what the result and the carried state hold per case and point by point, the
   proof data, the body's obligation, the run and the frame. -/
module

public import proofs.«01_k».proof.Proof.Gen.MixIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.MixFrameIdeal

open Cert.MixIdeal Cert.MixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 19 tile its block (4 stores of `S1x256x1024`, checked by the kernel's evaluation: Lib/Ring.lean `Piece.tiledL`, linear in the pieces, through a loop's `@[irreducible]` trip theorem too), so they cover it. -/
theorem cover0_A_19 (c : Dev nD) (i : grid0.Coords) (arg2 : Memref sig .tc .vmem S1x1024x1024 .f32) (harg2 : arg2.IsWhole) (arg3 : Memref sig .tc .vmem S1x8x8x128 .f32) (harg3 : arg3.IsWhole) (arg4 : Memref sig .tc .vmem S1x1024x512 .f32) (harg4 : arg4.IsWhole) (arg5 : Memref sig .tc .vmem S128x1 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S4x128x128 .f32) (harg8 : arg8.IsWhole) (arg9 : Memref sig .tc .vmem S4x128x256 .f32) (harg9 : arg9.IsWhole) (arg10 : Memref sig .tc .vmem S4x128x128 .f32) (harg10 : arg10.IsWhole) (arg11 : Memref sig .tc .vmem S4x1x256 .f32) (harg11 : arg11.IsWhole) (arg12 : Memref sig .tc .vmem S1024x1024 .bf16) (harg12 : arg12.IsWhole) (arg13 : Memref sig .tc .vmem S32x128x128 .bf16) (harg13 : arg13.IsWhole) (arg14 : Memref sig .tc .vmem S32x128x128 .bf16) (harg14 : arg14.IsWhole) (arg15 : Memref sig .tc .vmem S32x128x128 .bf16) (harg15 : arg15.IsWhole) (arg16 : Memref sig .tc .vmem S32x128 .f32) (harg16 : arg16.IsWhole) (arg17 : Memref sig .tc .vmem S32x128 .f32) (harg17 : arg17.IsWhole) (arg18 : Memref sig .tc .vmem S512x2048 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024x1024 .f32) (harg21 : arg21.IsWhole) (arg22 : Memref sig .tc .vmem S4x128x256 .f32) (harg22 : arg22.IsWhole) (arg23 : Memref sig .tc .vmem S32x128 .f32) (harg23 : arg23.IsWhole) (arg24 : Memref sig .tc .vmem S32x128 .f32) (harg24 : arg24.IsWhole) (arg25 : Memref sig .tc .vmem S512x1024 .bf16) (harg25 : arg25.IsWhole) (arg26 : Memref sig .tc .vmem S512x512 .bf16) (harg26 : arg26.IsWhole) (arg27 : Memref sig .tc .vmem S512x512 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x1024 .bf16) (harg30 : arg30.IsWhole) (arg31 : Memref sig .tc .vmem S4x512x128 .f32) (harg31 : arg31.IsWhole) (arg32 : Memref sig .tc .vmem S32x64x128 .bf16) (harg32 : arg32.IsWhole) (arg33 : Memref sig .tc .vmem S2176x128 .f32) (harg33 : arg33.IsWhole) (arg34 : Memref sig .tc .vmem S2176x128 .f32) (harg34 : arg34.IsWhole) (arg35 : Memref sig .tc .vmem S2176x128 .f32) (harg35 : arg35.IsWhole) (arg36 : Memref sig .tc .vmem S32x64x128 .f32) (harg36 : arg36.IsWhole) (arg37 : Memref sig .tc .vmem S4x512x128 .f32) (harg37 : arg37.IsWhole) (hc0 : cond0_0 i)
    (x0 : Vec F S1x1024x1024 .f32) (x1 : Vec F S1x8x8x128 .f32) (x2 : Vec F S1x1024x512 .f32) (x3 : Vec F S128x1 .f32) (x4 : Vec F S1x1024 .f32) (x5 : Vec F S1024x5632 .bf16) (x6 : Vec F S4x128x128 .f32) (x7 : Vec F S4x128x256 .f32) (x8 : Vec F S4x128x128 .f32) (x9 : Vec F S4x1x256 .f32) (x10 : Vec F S1024x1024 .bf16) (x11 : Vec F S32x128x128 .bf16) (x12 : Vec F S32x128x128 .bf16) (x13 : Vec F S32x128x128 .bf16) (x14 : Vec F S32x128 .f32) (x15 : Vec F S32x128 .f32) (x16 : Vec F S512x2048 .bf16) (x17 : Vec F S1024x1024 .bf16) (x18 : Vec F S1x1024 .f32) (y : S1x1024x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18).1 S1x256x1024.size (by sl_kernel_rfl) y

/-- What case A leaves in output 19's staging buffer: its pieces read back over junk. -/
def out0_A_19 (c : Dev nD) (i : grid0.Coords) (arg2 : Memref sig .tc .vmem S1x1024x1024 .f32) (harg2 : arg2.IsWhole) (arg3 : Memref sig .tc .vmem S1x8x8x128 .f32) (harg3 : arg3.IsWhole) (arg4 : Memref sig .tc .vmem S1x1024x512 .f32) (harg4 : arg4.IsWhole) (arg5 : Memref sig .tc .vmem S128x1 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S4x128x128 .f32) (harg8 : arg8.IsWhole) (arg9 : Memref sig .tc .vmem S4x128x256 .f32) (harg9 : arg9.IsWhole) (arg10 : Memref sig .tc .vmem S4x128x128 .f32) (harg10 : arg10.IsWhole) (arg11 : Memref sig .tc .vmem S4x1x256 .f32) (harg11 : arg11.IsWhole) (arg12 : Memref sig .tc .vmem S1024x1024 .bf16) (harg12 : arg12.IsWhole) (arg13 : Memref sig .tc .vmem S32x128x128 .bf16) (harg13 : arg13.IsWhole) (arg14 : Memref sig .tc .vmem S32x128x128 .bf16) (harg14 : arg14.IsWhole) (arg15 : Memref sig .tc .vmem S32x128x128 .bf16) (harg15 : arg15.IsWhole) (arg16 : Memref sig .tc .vmem S32x128 .f32) (harg16 : arg16.IsWhole) (arg17 : Memref sig .tc .vmem S32x128 .f32) (harg17 : arg17.IsWhole) (arg18 : Memref sig .tc .vmem S512x2048 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024x1024 .f32) (harg21 : arg21.IsWhole) (arg22 : Memref sig .tc .vmem S4x128x256 .f32) (harg22 : arg22.IsWhole) (arg23 : Memref sig .tc .vmem S32x128 .f32) (harg23 : arg23.IsWhole) (arg24 : Memref sig .tc .vmem S32x128 .f32) (harg24 : arg24.IsWhole) (arg25 : Memref sig .tc .vmem S512x1024 .bf16) (harg25 : arg25.IsWhole) (arg26 : Memref sig .tc .vmem S512x512 .bf16) (harg26 : arg26.IsWhole) (arg27 : Memref sig .tc .vmem S512x512 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x1024 .bf16) (harg30 : arg30.IsWhole) (arg31 : Memref sig .tc .vmem S4x512x128 .f32) (harg31 : arg31.IsWhole) (arg32 : Memref sig .tc .vmem S32x64x128 .bf16) (harg32 : arg32.IsWhole) (arg33 : Memref sig .tc .vmem S2176x128 .f32) (harg33 : arg33.IsWhole) (arg34 : Memref sig .tc .vmem S2176x128 .f32) (harg34 : arg34.IsWhole) (arg35 : Memref sig .tc .vmem S2176x128 .f32) (harg35 : arg35.IsWhole) (arg36 : Memref sig .tc .vmem S32x64x128 .f32) (harg36 : arg36.IsWhole) (arg37 : Memref sig .tc .vmem S4x512x128 .f32) (harg37 : arg37.IsWhole) (hc0 : cond0_0 i)
    (x0 : Vec F S1x1024x1024 .f32) (x1 : Vec F S1x8x8x128 .f32) (x2 : Vec F S1x1024x512 .f32) (x3 : Vec F S128x1 .f32) (x4 : Vec F S1x1024 .f32) (x5 : Vec F S1024x5632 .bf16) (x6 : Vec F S4x128x128 .f32) (x7 : Vec F S4x128x256 .f32) (x8 : Vec F S4x128x128 .f32) (x9 : Vec F S4x1x256 .f32) (x10 : Vec F S1024x1024 .bf16) (x11 : Vec F S32x128x128 .bf16) (x12 : Vec F S32x128x128 .bf16) (x13 : Vec F S32x128x128 .bf16) (x14 : Vec F S32x128 .f32) (x15 : Vec F S32x128 .f32) (x16 : Vec F S512x2048 .bf16) (x17 : Vec F S1024x1024 .bf16) (x18 : Vec F S1x1024 .f32) : Vec F S1x1024x1024 .f32 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18).1)

/-- Case A's pieces for scratch `arg22`, which the kernel carries between points, cover it: one of them a store of the WHOLE buffer (Lib/Ring.lean `sl_whole_mem`). -/
theorem scover0_A_0 (c : Dev nD) (i : grid0.Coords) (arg2 : Memref sig .tc .vmem S1x1024x1024 .f32) (harg2 : arg2.IsWhole) (arg3 : Memref sig .tc .vmem S1x8x8x128 .f32) (harg3 : arg3.IsWhole) (arg4 : Memref sig .tc .vmem S1x1024x512 .f32) (harg4 : arg4.IsWhole) (arg5 : Memref sig .tc .vmem S128x1 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S4x128x128 .f32) (harg8 : arg8.IsWhole) (arg9 : Memref sig .tc .vmem S4x128x256 .f32) (harg9 : arg9.IsWhole) (arg10 : Memref sig .tc .vmem S4x128x128 .f32) (harg10 : arg10.IsWhole) (arg11 : Memref sig .tc .vmem S4x1x256 .f32) (harg11 : arg11.IsWhole) (arg12 : Memref sig .tc .vmem S1024x1024 .bf16) (harg12 : arg12.IsWhole) (arg13 : Memref sig .tc .vmem S32x128x128 .bf16) (harg13 : arg13.IsWhole) (arg14 : Memref sig .tc .vmem S32x128x128 .bf16) (harg14 : arg14.IsWhole) (arg15 : Memref sig .tc .vmem S32x128x128 .bf16) (harg15 : arg15.IsWhole) (arg16 : Memref sig .tc .vmem S32x128 .f32) (harg16 : arg16.IsWhole) (arg17 : Memref sig .tc .vmem S32x128 .f32) (harg17 : arg17.IsWhole) (arg18 : Memref sig .tc .vmem S512x2048 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024x1024 .f32) (harg21 : arg21.IsWhole) (arg22 : Memref sig .tc .vmem S4x128x256 .f32) (harg22 : arg22.IsWhole) (arg23 : Memref sig .tc .vmem S32x128 .f32) (harg23 : arg23.IsWhole) (arg24 : Memref sig .tc .vmem S32x128 .f32) (harg24 : arg24.IsWhole) (arg25 : Memref sig .tc .vmem S512x1024 .bf16) (harg25 : arg25.IsWhole) (arg26 : Memref sig .tc .vmem S512x512 .bf16) (harg26 : arg26.IsWhole) (arg27 : Memref sig .tc .vmem S512x512 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x1024 .bf16) (harg30 : arg30.IsWhole) (arg31 : Memref sig .tc .vmem S4x512x128 .f32) (harg31 : arg31.IsWhole) (arg32 : Memref sig .tc .vmem S32x64x128 .bf16) (harg32 : arg32.IsWhole) (arg33 : Memref sig .tc .vmem S2176x128 .f32) (harg33 : arg33.IsWhole) (arg34 : Memref sig .tc .vmem S2176x128 .f32) (harg34 : arg34.IsWhole) (arg35 : Memref sig .tc .vmem S2176x128 .f32) (harg35 : arg35.IsWhole) (arg36 : Memref sig .tc .vmem S32x64x128 .f32) (harg36 : arg36.IsWhole) (arg37 : Memref sig .tc .vmem S4x512x128 .f32) (harg37 : arg37.IsWhole) (hc0 : cond0_0 i)
    (x0 : Vec F S1x1024x1024 .f32) (x1 : Vec F S1x8x8x128 .f32) (x2 : Vec F S1x1024x512 .f32) (x3 : Vec F S128x1 .f32) (x4 : Vec F S1x1024 .f32) (x5 : Vec F S1024x5632 .bf16) (x6 : Vec F S4x128x128 .f32) (x7 : Vec F S4x128x256 .f32) (x8 : Vec F S4x128x128 .f32) (x9 : Vec F S4x1x256 .f32) (x10 : Vec F S1024x1024 .bf16) (x11 : Vec F S32x128x128 .bf16) (x12 : Vec F S32x128x128 .bf16) (x13 : Vec F S32x128x128 .bf16) (x14 : Vec F S32x128 .f32) (x15 : Vec F S32x128 .f32) (x16 : Vec F S512x2048 .bf16) (x17 : Vec F S1024x1024 .bf16) (x18 : Vec F S1x1024 .f32) (y : S4x128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18).2.1 (by sl_whole_mem) y

/-- What case A leaves in scratch `arg22`: its pieces read back over junk. -/
def sout0_A_0 (c : Dev nD) (i : grid0.Coords) (arg2 : Memref sig .tc .vmem S1x1024x1024 .f32) (harg2 : arg2.IsWhole) (arg3 : Memref sig .tc .vmem S1x8x8x128 .f32) (harg3 : arg3.IsWhole) (arg4 : Memref sig .tc .vmem S1x1024x512 .f32) (harg4 : arg4.IsWhole) (arg5 : Memref sig .tc .vmem S128x1 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S4x128x128 .f32) (harg8 : arg8.IsWhole) (arg9 : Memref sig .tc .vmem S4x128x256 .f32) (harg9 : arg9.IsWhole) (arg10 : Memref sig .tc .vmem S4x128x128 .f32) (harg10 : arg10.IsWhole) (arg11 : Memref sig .tc .vmem S4x1x256 .f32) (harg11 : arg11.IsWhole) (arg12 : Memref sig .tc .vmem S1024x1024 .bf16) (harg12 : arg12.IsWhole) (arg13 : Memref sig .tc .vmem S32x128x128 .bf16) (harg13 : arg13.IsWhole) (arg14 : Memref sig .tc .vmem S32x128x128 .bf16) (harg14 : arg14.IsWhole) (arg15 : Memref sig .tc .vmem S32x128x128 .bf16) (harg15 : arg15.IsWhole) (arg16 : Memref sig .tc .vmem S32x128 .f32) (harg16 : arg16.IsWhole) (arg17 : Memref sig .tc .vmem S32x128 .f32) (harg17 : arg17.IsWhole) (arg18 : Memref sig .tc .vmem S512x2048 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024x1024 .f32) (harg21 : arg21.IsWhole) (arg22 : Memref sig .tc .vmem S4x128x256 .f32) (harg22 : arg22.IsWhole) (arg23 : Memref sig .tc .vmem S32x128 .f32) (harg23 : arg23.IsWhole) (arg24 : Memref sig .tc .vmem S32x128 .f32) (harg24 : arg24.IsWhole) (arg25 : Memref sig .tc .vmem S512x1024 .bf16) (harg25 : arg25.IsWhole) (arg26 : Memref sig .tc .vmem S512x512 .bf16) (harg26 : arg26.IsWhole) (arg27 : Memref sig .tc .vmem S512x512 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x1024 .bf16) (harg30 : arg30.IsWhole) (arg31 : Memref sig .tc .vmem S4x512x128 .f32) (harg31 : arg31.IsWhole) (arg32 : Memref sig .tc .vmem S32x64x128 .bf16) (harg32 : arg32.IsWhole) (arg33 : Memref sig .tc .vmem S2176x128 .f32) (harg33 : arg33.IsWhole) (arg34 : Memref sig .tc .vmem S2176x128 .f32) (harg34 : arg34.IsWhole) (arg35 : Memref sig .tc .vmem S2176x128 .f32) (harg35 : arg35.IsWhole) (arg36 : Memref sig .tc .vmem S32x64x128 .f32) (harg36 : arg36.IsWhole) (arg37 : Memref sig .tc .vmem S4x512x128 .f32) (harg37 : arg37.IsWhole) (hc0 : cond0_0 i)
    (x0 : Vec F S1x1024x1024 .f32) (x1 : Vec F S1x8x8x128 .f32) (x2 : Vec F S1x1024x512 .f32) (x3 : Vec F S128x1 .f32) (x4 : Vec F S1x1024 .f32) (x5 : Vec F S1024x5632 .bf16) (x6 : Vec F S4x128x128 .f32) (x7 : Vec F S4x128x256 .f32) (x8 : Vec F S4x128x128 .f32) (x9 : Vec F S4x1x256 .f32) (x10 : Vec F S1024x1024 .bf16) (x11 : Vec F S32x128x128 .bf16) (x12 : Vec F S32x128x128 .bf16) (x13 : Vec F S32x128x128 .bf16) (x14 : Vec F S32x128 .f32) (x15 : Vec F S32x128 .f32) (x16 : Vec F S512x2048 .bf16) (x17 : Vec F S1024x1024 .bf16) (x18 : Vec F S1x1024 .f32) : Vec F S4x128x256 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18).2.1)

/-- Case B's pieces for output 19 tile its block (4 stores of `S1x256x1024`, checked by the kernel's evaluation: Lib/Ring.lean `Piece.tiledL`, linear in the pieces, through a loop's `@[irreducible]` trip theorem too), so they cover it. -/
theorem cover0_B_19 (c : Dev nD) (i : grid0.Coords) (arg2 : Memref sig .tc .vmem S1x1024x1024 .f32) (harg2 : arg2.IsWhole) (arg3 : Memref sig .tc .vmem S1x8x8x128 .f32) (harg3 : arg3.IsWhole) (arg4 : Memref sig .tc .vmem S1x1024x512 .f32) (harg4 : arg4.IsWhole) (arg5 : Memref sig .tc .vmem S128x1 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S4x128x128 .f32) (harg8 : arg8.IsWhole) (arg9 : Memref sig .tc .vmem S4x128x256 .f32) (harg9 : arg9.IsWhole) (arg10 : Memref sig .tc .vmem S4x128x128 .f32) (harg10 : arg10.IsWhole) (arg11 : Memref sig .tc .vmem S4x1x256 .f32) (harg11 : arg11.IsWhole) (arg12 : Memref sig .tc .vmem S1024x1024 .bf16) (harg12 : arg12.IsWhole) (arg13 : Memref sig .tc .vmem S32x128x128 .bf16) (harg13 : arg13.IsWhole) (arg14 : Memref sig .tc .vmem S32x128x128 .bf16) (harg14 : arg14.IsWhole) (arg15 : Memref sig .tc .vmem S32x128x128 .bf16) (harg15 : arg15.IsWhole) (arg16 : Memref sig .tc .vmem S32x128 .f32) (harg16 : arg16.IsWhole) (arg17 : Memref sig .tc .vmem S32x128 .f32) (harg17 : arg17.IsWhole) (arg18 : Memref sig .tc .vmem S512x2048 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024x1024 .f32) (harg21 : arg21.IsWhole) (arg22 : Memref sig .tc .vmem S4x128x256 .f32) (harg22 : arg22.IsWhole) (arg23 : Memref sig .tc .vmem S32x128 .f32) (harg23 : arg23.IsWhole) (arg24 : Memref sig .tc .vmem S32x128 .f32) (harg24 : arg24.IsWhole) (arg25 : Memref sig .tc .vmem S512x1024 .bf16) (harg25 : arg25.IsWhole) (arg26 : Memref sig .tc .vmem S512x512 .bf16) (harg26 : arg26.IsWhole) (arg27 : Memref sig .tc .vmem S512x512 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x1024 .bf16) (harg30 : arg30.IsWhole) (arg31 : Memref sig .tc .vmem S4x512x128 .f32) (harg31 : arg31.IsWhole) (arg32 : Memref sig .tc .vmem S32x64x128 .bf16) (harg32 : arg32.IsWhole) (arg33 : Memref sig .tc .vmem S2176x128 .f32) (harg33 : arg33.IsWhole) (arg34 : Memref sig .tc .vmem S2176x128 .f32) (harg34 : arg34.IsWhole) (arg35 : Memref sig .tc .vmem S2176x128 .f32) (harg35 : arg35.IsWhole) (arg36 : Memref sig .tc .vmem S32x64x128 .f32) (harg36 : arg36.IsWhole) (arg37 : Memref sig .tc .vmem S4x512x128 .f32) (harg37 : arg37.IsWhole) (hc0 : ¬cond0_0 i)
    (x0 : Vec F S1x1024x1024 .f32) (x1 : Vec F S1x8x8x128 .f32) (x2 : Vec F S1x1024x512 .f32) (x3 : Vec F S128x1 .f32) (x4 : Vec F S1x1024 .f32) (x5 : Vec F S1024x5632 .bf16) (x6 : Vec F S4x128x128 .f32) (x7 : Vec F S4x128x256 .f32) (x8 : Vec F S4x128x128 .f32) (x9 : Vec F S4x1x256 .f32) (x10 : Vec F S1024x1024 .bf16) (x11 : Vec F S32x128x128 .bf16) (x12 : Vec F S32x128x128 .bf16) (x13 : Vec F S32x128x128 .bf16) (x14 : Vec F S32x128 .f32) (x15 : Vec F S32x128 .f32) (x16 : Vec F S512x2048 .bf16) (x17 : Vec F S1024x1024 .bf16) (x18 : Vec F S1x1024 .f32) (xs0 : Vec F S4x128x256 .f32) (y : S1x1024x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 xs0).1 S1x256x1024.size (by sl_kernel_rfl) y

/-- What case B leaves in output 19's staging buffer: its pieces read back over junk. -/
def out0_B_19 (c : Dev nD) (i : grid0.Coords) (arg2 : Memref sig .tc .vmem S1x1024x1024 .f32) (harg2 : arg2.IsWhole) (arg3 : Memref sig .tc .vmem S1x8x8x128 .f32) (harg3 : arg3.IsWhole) (arg4 : Memref sig .tc .vmem S1x1024x512 .f32) (harg4 : arg4.IsWhole) (arg5 : Memref sig .tc .vmem S128x1 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S4x128x128 .f32) (harg8 : arg8.IsWhole) (arg9 : Memref sig .tc .vmem S4x128x256 .f32) (harg9 : arg9.IsWhole) (arg10 : Memref sig .tc .vmem S4x128x128 .f32) (harg10 : arg10.IsWhole) (arg11 : Memref sig .tc .vmem S4x1x256 .f32) (harg11 : arg11.IsWhole) (arg12 : Memref sig .tc .vmem S1024x1024 .bf16) (harg12 : arg12.IsWhole) (arg13 : Memref sig .tc .vmem S32x128x128 .bf16) (harg13 : arg13.IsWhole) (arg14 : Memref sig .tc .vmem S32x128x128 .bf16) (harg14 : arg14.IsWhole) (arg15 : Memref sig .tc .vmem S32x128x128 .bf16) (harg15 : arg15.IsWhole) (arg16 : Memref sig .tc .vmem S32x128 .f32) (harg16 : arg16.IsWhole) (arg17 : Memref sig .tc .vmem S32x128 .f32) (harg17 : arg17.IsWhole) (arg18 : Memref sig .tc .vmem S512x2048 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024x1024 .f32) (harg21 : arg21.IsWhole) (arg22 : Memref sig .tc .vmem S4x128x256 .f32) (harg22 : arg22.IsWhole) (arg23 : Memref sig .tc .vmem S32x128 .f32) (harg23 : arg23.IsWhole) (arg24 : Memref sig .tc .vmem S32x128 .f32) (harg24 : arg24.IsWhole) (arg25 : Memref sig .tc .vmem S512x1024 .bf16) (harg25 : arg25.IsWhole) (arg26 : Memref sig .tc .vmem S512x512 .bf16) (harg26 : arg26.IsWhole) (arg27 : Memref sig .tc .vmem S512x512 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x1024 .bf16) (harg30 : arg30.IsWhole) (arg31 : Memref sig .tc .vmem S4x512x128 .f32) (harg31 : arg31.IsWhole) (arg32 : Memref sig .tc .vmem S32x64x128 .bf16) (harg32 : arg32.IsWhole) (arg33 : Memref sig .tc .vmem S2176x128 .f32) (harg33 : arg33.IsWhole) (arg34 : Memref sig .tc .vmem S2176x128 .f32) (harg34 : arg34.IsWhole) (arg35 : Memref sig .tc .vmem S2176x128 .f32) (harg35 : arg35.IsWhole) (arg36 : Memref sig .tc .vmem S32x64x128 .f32) (harg36 : arg36.IsWhole) (arg37 : Memref sig .tc .vmem S4x512x128 .f32) (harg37 : arg37.IsWhole) (hc0 : ¬cond0_0 i)
    (x0 : Vec F S1x1024x1024 .f32) (x1 : Vec F S1x8x8x128 .f32) (x2 : Vec F S1x1024x512 .f32) (x3 : Vec F S128x1 .f32) (x4 : Vec F S1x1024 .f32) (x5 : Vec F S1024x5632 .bf16) (x6 : Vec F S4x128x128 .f32) (x7 : Vec F S4x128x256 .f32) (x8 : Vec F S4x128x128 .f32) (x9 : Vec F S4x1x256 .f32) (x10 : Vec F S1024x1024 .bf16) (x11 : Vec F S32x128x128 .bf16) (x12 : Vec F S32x128x128 .bf16) (x13 : Vec F S32x128x128 .bf16) (x14 : Vec F S32x128 .f32) (x15 : Vec F S32x128 .f32) (x16 : Vec F S512x2048 .bf16) (x17 : Vec F S1024x1024 .bf16) (x18 : Vec F S1x1024 .f32) (xs0 : Vec F S4x128x256 .f32) : Vec F S1x1024x1024 .f32 :=
  VO0_19.read (Elt F) (VO0_19.writes (Elt F) VO0_19.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 xs0).1)

/-- Case B's pieces for scratch `arg22`, which the kernel carries between points, cover it: 32 pieces of `S1x128x256` tiling it (Lib/Ring.lean `Piece.tiledL`). -/
theorem scover0_B_0 (c : Dev nD) (i : grid0.Coords) (arg2 : Memref sig .tc .vmem S1x1024x1024 .f32) (harg2 : arg2.IsWhole) (arg3 : Memref sig .tc .vmem S1x8x8x128 .f32) (harg3 : arg3.IsWhole) (arg4 : Memref sig .tc .vmem S1x1024x512 .f32) (harg4 : arg4.IsWhole) (arg5 : Memref sig .tc .vmem S128x1 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S4x128x128 .f32) (harg8 : arg8.IsWhole) (arg9 : Memref sig .tc .vmem S4x128x256 .f32) (harg9 : arg9.IsWhole) (arg10 : Memref sig .tc .vmem S4x128x128 .f32) (harg10 : arg10.IsWhole) (arg11 : Memref sig .tc .vmem S4x1x256 .f32) (harg11 : arg11.IsWhole) (arg12 : Memref sig .tc .vmem S1024x1024 .bf16) (harg12 : arg12.IsWhole) (arg13 : Memref sig .tc .vmem S32x128x128 .bf16) (harg13 : arg13.IsWhole) (arg14 : Memref sig .tc .vmem S32x128x128 .bf16) (harg14 : arg14.IsWhole) (arg15 : Memref sig .tc .vmem S32x128x128 .bf16) (harg15 : arg15.IsWhole) (arg16 : Memref sig .tc .vmem S32x128 .f32) (harg16 : arg16.IsWhole) (arg17 : Memref sig .tc .vmem S32x128 .f32) (harg17 : arg17.IsWhole) (arg18 : Memref sig .tc .vmem S512x2048 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024x1024 .f32) (harg21 : arg21.IsWhole) (arg22 : Memref sig .tc .vmem S4x128x256 .f32) (harg22 : arg22.IsWhole) (arg23 : Memref sig .tc .vmem S32x128 .f32) (harg23 : arg23.IsWhole) (arg24 : Memref sig .tc .vmem S32x128 .f32) (harg24 : arg24.IsWhole) (arg25 : Memref sig .tc .vmem S512x1024 .bf16) (harg25 : arg25.IsWhole) (arg26 : Memref sig .tc .vmem S512x512 .bf16) (harg26 : arg26.IsWhole) (arg27 : Memref sig .tc .vmem S512x512 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x1024 .bf16) (harg30 : arg30.IsWhole) (arg31 : Memref sig .tc .vmem S4x512x128 .f32) (harg31 : arg31.IsWhole) (arg32 : Memref sig .tc .vmem S32x64x128 .bf16) (harg32 : arg32.IsWhole) (arg33 : Memref sig .tc .vmem S2176x128 .f32) (harg33 : arg33.IsWhole) (arg34 : Memref sig .tc .vmem S2176x128 .f32) (harg34 : arg34.IsWhole) (arg35 : Memref sig .tc .vmem S2176x128 .f32) (harg35 : arg35.IsWhole) (arg36 : Memref sig .tc .vmem S32x64x128 .f32) (harg36 : arg36.IsWhole) (arg37 : Memref sig .tc .vmem S4x512x128 .f32) (harg37 : arg37.IsWhole) (hc0 : ¬cond0_0 i)
    (x0 : Vec F S1x1024x1024 .f32) (x1 : Vec F S1x8x8x128 .f32) (x2 : Vec F S1x1024x512 .f32) (x3 : Vec F S128x1 .f32) (x4 : Vec F S1x1024 .f32) (x5 : Vec F S1024x5632 .bf16) (x6 : Vec F S4x128x128 .f32) (x7 : Vec F S4x128x256 .f32) (x8 : Vec F S4x128x128 .f32) (x9 : Vec F S4x1x256 .f32) (x10 : Vec F S1024x1024 .bf16) (x11 : Vec F S32x128x128 .bf16) (x12 : Vec F S32x128x128 .bf16) (x13 : Vec F S32x128x128 .bf16) (x14 : Vec F S32x128 .f32) (x15 : Vec F S32x128 .f32) (x16 : Vec F S512x2048 .bf16) (x17 : Vec F S1024x1024 .bf16) (x18 : Vec F S1x1024 .f32) (xs0 : Vec F S4x128x256 .f32) (y : S4x128x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 xs0).2.1 S1x128x256.size (by sl_kernel_rfl) y

/-- What case B leaves in scratch `arg22`: its pieces read back over junk. -/
def sout0_B_0 (c : Dev nD) (i : grid0.Coords) (arg2 : Memref sig .tc .vmem S1x1024x1024 .f32) (harg2 : arg2.IsWhole) (arg3 : Memref sig .tc .vmem S1x8x8x128 .f32) (harg3 : arg3.IsWhole) (arg4 : Memref sig .tc .vmem S1x1024x512 .f32) (harg4 : arg4.IsWhole) (arg5 : Memref sig .tc .vmem S128x1 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S4x128x128 .f32) (harg8 : arg8.IsWhole) (arg9 : Memref sig .tc .vmem S4x128x256 .f32) (harg9 : arg9.IsWhole) (arg10 : Memref sig .tc .vmem S4x128x128 .f32) (harg10 : arg10.IsWhole) (arg11 : Memref sig .tc .vmem S4x1x256 .f32) (harg11 : arg11.IsWhole) (arg12 : Memref sig .tc .vmem S1024x1024 .bf16) (harg12 : arg12.IsWhole) (arg13 : Memref sig .tc .vmem S32x128x128 .bf16) (harg13 : arg13.IsWhole) (arg14 : Memref sig .tc .vmem S32x128x128 .bf16) (harg14 : arg14.IsWhole) (arg15 : Memref sig .tc .vmem S32x128x128 .bf16) (harg15 : arg15.IsWhole) (arg16 : Memref sig .tc .vmem S32x128 .f32) (harg16 : arg16.IsWhole) (arg17 : Memref sig .tc .vmem S32x128 .f32) (harg17 : arg17.IsWhole) (arg18 : Memref sig .tc .vmem S512x2048 .bf16) (harg18 : arg18.IsWhole) (arg19 : Memref sig .tc .vmem S1024x1024 .bf16) (harg19 : arg19.IsWhole) (arg20 : Memref sig .tc .vmem S1x1024 .f32) (harg20 : arg20.IsWhole) (arg21 : Memref sig .tc .vmem S1x1024x1024 .f32) (harg21 : arg21.IsWhole) (arg22 : Memref sig .tc .vmem S4x128x256 .f32) (harg22 : arg22.IsWhole) (arg23 : Memref sig .tc .vmem S32x128 .f32) (harg23 : arg23.IsWhole) (arg24 : Memref sig .tc .vmem S32x128 .f32) (harg24 : arg24.IsWhole) (arg25 : Memref sig .tc .vmem S512x1024 .bf16) (harg25 : arg25.IsWhole) (arg26 : Memref sig .tc .vmem S512x512 .bf16) (harg26 : arg26.IsWhole) (arg27 : Memref sig .tc .vmem S512x512 .f32) (harg27 : arg27.IsWhole) (arg28 : Memref sig .tc .vmem S512x1024 .bf16) (harg28 : arg28.IsWhole) (arg29 : Memref sig .tc .vmem S512x1024 .bf16) (harg29 : arg29.IsWhole) (arg30 : Memref sig .tc .vmem S512x1024 .bf16) (harg30 : arg30.IsWhole) (arg31 : Memref sig .tc .vmem S4x512x128 .f32) (harg31 : arg31.IsWhole) (arg32 : Memref sig .tc .vmem S32x64x128 .bf16) (harg32 : arg32.IsWhole) (arg33 : Memref sig .tc .vmem S2176x128 .f32) (harg33 : arg33.IsWhole) (arg34 : Memref sig .tc .vmem S2176x128 .f32) (harg34 : arg34.IsWhole) (arg35 : Memref sig .tc .vmem S2176x128 .f32) (harg35 : arg35.IsWhole) (arg36 : Memref sig .tc .vmem S32x64x128 .f32) (harg36 : arg36.IsWhole) (arg37 : Memref sig .tc .vmem S4x512x128 .f32) (harg37 : arg37.IsWhole) (hc0 : ¬cond0_0 i)
    (x0 : Vec F S1x1024x1024 .f32) (x1 : Vec F S1x8x8x128 .f32) (x2 : Vec F S1x1024x512 .f32) (x3 : Vec F S128x1 .f32) (x4 : Vec F S1x1024 .f32) (x5 : Vec F S1024x5632 .bf16) (x6 : Vec F S4x128x128 .f32) (x7 : Vec F S4x128x256 .f32) (x8 : Vec F S4x128x128 .f32) (x9 : Vec F S4x1x256 .f32) (x10 : Vec F S1024x1024 .bf16) (x11 : Vec F S32x128x128 .bf16) (x12 : Vec F S32x128x128 .bf16) (x13 : Vec F S32x128x128 .bf16) (x14 : Vec F S32x128 .f32) (x15 : Vec F S32x128 .f32) (x16 : Vec F S512x2048 .bf16) (x17 : Vec F S1024x1024 .bf16) (x18 : Vec F S1x1024 .f32) (xs0 : Vec F S4x128x256 .f32) : Vec F S4x128x256 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024x1024 .f32 × Vec F S4x128x256 .f32
  | 0, hn => (out0_A_19 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩))
  | n + 1, hn =>
    if h0 : (n + 1) % 8 = 0 then
      (out0_A_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩))
    else
      (out0_B_19 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (outsAt0 c n (Nat.lt_of_succ_lt hn)).2)

/-- `outsAt0` at a point of case A: that case's contents. -/
theorem outsAt0_A (c : Dev nD) (t : Fin cfg0.N) (h0 : t.val % 8 = 0) :
    outsAt0 m c t.val t.isLt = (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 m c t.val t.isLt = (out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t.val t.isLt).1
    | ⟨_ + 20, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases hz : t.val = 0
    · rw [PhiS_castSucc m c t, PhiS_zero m c _ _ hz, PhiA0_eq]
      rw [outsAt0_A m c t h0]
      unfold out0_A_19 sout0_A_0; (try dsimp only)
      iintro ⟨⟨⟨HS0, HS1, HS2, HS3, HS4, HS5, HS6, HS7, HS8, HS9, HS10, HS11, HS12, HS13, HS14, HS15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      iintro ⟨H0, H1, H2, H3, H4, H5, H6, H7, H8, H9, H10, H11, H12, H13, H14, H15, H16, H17, H18, ⟨%e19, H19⟩, ⟨%es0, HS0⟩, HS1, HS2, ⟨%fT3, HS3⟩, ⟨%fT4, HS4⟩, ⟨%fT5, HS5⟩, ⟨%fT6, HS6⟩, ⟨%fT7, HS7⟩, ⟨%fT8, HS8⟩, HS9, HS10, HS11, HS12, HS13, HS14, ⟨%fT15, HS15⟩⟩
      isplitl [HS0 HS1 HS2 HS3 HS4 HS5 HS6 HS7 HS8 HS9 HS10 HS11 HS12 HS13 HS14 HS15 Hg]
      · isplitl [HS0 HS1 HS2 HS3 HS4 HS5 HS6 HS7 HS8 HS9 HS10 HS11 HS12 HS13 HS14 HS15]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          isplitl [HS8]
          · iexists _; unfold owns; iexists _; isplitr
            swap; · iexact HS8
            ipureintro; rfl
          isplitl [HS9]
          · iexact HS9
          isplitl [HS10]
          · iexact HS10
          isplitl [HS11]
          · iexact HS11
          isplitl [HS12]
          · iexact HS12
          isplitl [HS13]
          · iexact HS13
          isplitl [HS14]
          · iexact HS14
          iexists _; unfold owns; iexists _; isplitr
          swap; · iexact HS15
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_19 sout0_A_0; (try dsimp only)
      iintro ⟨⟨⟨HS0, HS1, HS2, HS3, HS4, HS5, HS6, HS7, HS8, HS9, HS10, HS11, HS12, HS13, HS14, HS15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexists _; iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      iintro ⟨H0, H1, H2, H3, H4, H5, H6, H7, H8, H9, H10, H11, H12, H13, H14, H15, H16, H17, H18, ⟨%e19, H19⟩, ⟨%es0, HS0⟩, HS1, HS2, ⟨%fT3, HS3⟩, ⟨%fT4, HS4⟩, ⟨%fT5, HS5⟩, ⟨%fT6, HS6⟩, ⟨%fT7, HS7⟩, ⟨%fT8, HS8⟩, HS9, HS10, HS11, HS12, HS13, HS14, ⟨%fT15, HS15⟩⟩
      isplitl [HS0 HS1 HS2 HS3 HS4 HS5 HS6 HS7 HS8 HS9 HS10 HS11 HS12 HS13 HS14 HS15 Hg]
      · isplitl [HS0 HS1 HS2 HS3 HS4 HS5 HS6 HS7 HS8 HS9 HS10 HS11 HS12 HS13 HS14 HS15]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          isplitl [HS8]
          · iexists _; unfold owns; iexists _; isplitr
            swap; · iexact HS8
            ipureintro; rfl
          isplitl [HS9]
          · iexact HS9
          isplitl [HS10]
          · iexact HS10
          isplitl [HS11]
          · iexact HS11
          isplitl [HS12]
          · iexact HS12
          isplitl [HS13]
          · iexact HS13
          isplitl [HS14]
          · iexact HS14
          iexists _; unfold owns; iexists _; isplitr
          swap; · iexact HS15
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_19 sout0_B_0; (try dsimp only)
      iintro ⟨⟨⟨HS0, HS1, HS2, HS3, HS4, HS5, HS6, HS7, HS8, HS9, HS10, HS11, HS12, HS13, HS14, HS15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _).2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      iintro ⟨H0, H1, H2, H3, H4, H5, H6, H7, H8, H9, H10, H11, H12, H13, H14, H15, H16, H17, H18, ⟨%e19, H19⟩, ⟨%es0, HS0⟩, HS1, HS2, ⟨%fT3, HS3⟩, ⟨%fT4, HS4⟩, ⟨%fT5, HS5⟩, ⟨%fT6, HS6⟩, ⟨%fT7, HS7⟩, ⟨%fT8, HS8⟩, HS9, HS10, HS11, HS12, HS13, HS14, ⟨%fT15, HS15⟩⟩
      isplitl [HS0 HS1 HS2 HS3 HS4 HS5 HS6 HS7 HS8 HS9 HS10 HS11 HS12 HS13 HS14 HS15 Hg]
      · isplitl [HS0 HS1 HS2 HS3 HS4 HS5 HS6 HS7 HS8 HS9 HS10 HS11 HS12 HS13 HS14 HS15]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexact HS1
          isplitl [HS2]
          · iexact HS2
          isplitl [HS3]
          · iexists _; unfold owns; iexists _; isplitr
            swap; · iexact HS3
            ipureintro; rfl
          isplitl [HS4]
          · iexists _; unfold owns; iexists _; isplitr
            swap; · iexact HS4
            ipureintro; rfl
          isplitl [HS5]
          · iexists _; unfold owns; iexists _; isplitr
            swap; · iexact HS5
            ipureintro; rfl
          isplitl [HS6]
          · iexists _; unfold owns; iexists _; isplitr
            swap; · iexact HS6
            ipureintro; rfl
          isplitl [HS7]
          · iexists _; unfold owns; iexists _; isplitr
            swap; · iexact HS7
            ipureintro; rfl
          isplitl [HS8]
          · iexists _; unfold owns; iexists _; isplitr
            swap; · iexact HS8
            ipureintro; rfl
          isplitl [HS9]
          · iexact HS9
          isplitl [HS10]
          · iexact HS10
          isplitl [HS11]
          · iexact HS11
          isplitl [HS12]
          · iexact HS12
          isplitl [HS13]
          · iexact HS13
          isplitl [HS14]
          · iexact HS14
          iexists _; unfold owns; iexists _; isplitr
          swap; · iexact HS15
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8, HS9, HS10, HS11, HS12, HS13, HS14, HS15⟩, Hg⟩
  isplitl [HS0 HS1 HS2 HS3 HS4 HS5 HS6 HS7 HS8 HS9 HS10 HS11 HS12 HS13 HS14 HS15]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    isplitl [HS7]
    · iexact HS7
    isplitl [HS8]
    · iexact HS8
    isplitl [HS9]
    · iexact HS9
    isplitl [HS10]
    · iexact HS10
    isplitl [HS11]
    · iexact HS11
    isplitl [HS12]
    · iexact HS12
    isplitl [HS13]
    · iexact HS13
    isplitl [HS14]
    · iexact HS14
    iexact HS15
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- THE FRAME: `Cert.quiescent_MixIdeal`'s statement (Defs.lean) at any `F` — Proof.lean cites it at `Bits`:
    `theorem Cert.Proof.claim : Cert.Claim := ⟨Cert.MixIdeal.Gen.facts, fun m ρ _ => Cert.MixIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.MixFrameIdeal

end
-- ==== Proof.MixValueIdeal.lean ====
/- After the generated module `Gen/MixIdeal/Value.lean`, over `MixFrameIdeal` for the generated frame module: the result
   array after the run, block by block, and the carried state as a fold over the points. -/
module

public import proofs.«01_k».proof.Proof.MixFrameIdeal
public import Idealize.ShloMosaic.Lib.Pipeline.Value

@[expose] public section

noncomputable section

namespace Cert.MixValueIdeal

open Cert.MixIdeal Cert.MixIdeal.Gen Cert.MixFrameIdeal Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 19's array: the run's contents for that window after the body (`Gen.outsAt0`: its component 0), read through the window's block. -/
theorem flushed19 (c : Dev nD) (t : Fin cfg0.N) :
    (dats m 0 c).flushed 19 t = (cfg0.win 19).cut (grid0.coords t) ((outsAt0 m c t.val t.isLt).1) := by
  show (cfg0.win 19).cut (grid0.coords t) ((dats m 0 c).after 19 t) = _
  rw [after0_19]

/-- … so at a point where case A runs, what its write-back would write is that case's NAMED TERM for the window (`Gen.out0_A_19`: the pieces
    its run found, read back) at the point's memrefs and input blocks, and for an output the case reads back what the point before left (`Gen.outsAt0` at `t - 1`) — by the frame's rewriting lemma for the case. -/
theorem flushed19_A (c : Dev nD) (t : Fin cfg0.N) (h0 : t.val % 8 = 0) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed19, outsAt0_A m c t h0]

/-- … so at a point where case B runs, what its write-back would write is that case's NAMED TERM for the window (`Gen.out0_B_19`: the pieces
    its run found, read back) at the point's memrefs and input blocks, and for an output the case reads back what the point before left (`Gen.outsAt0` at `t - 1`) — by the frame's rewriting lemma for the case. -/
theorem flushed19_B (c : Dev nD) (t : Fin cfg0.N) (h0 : ¬t.val % 8 = 0) :
    (dats m 0 c).flushed 19 t = (cfg0.win 19).cut (grid0.coords t) (out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (outsAt0 m c (t.val - 1) (Nat.lt_of_le_of_lt (Nat.sub_le _ _) t.isLt)).2) := by
  simp only [flushed19, outsAt0_B m c t h0]

/-- The index map sends distinct grid points to distinct block indices (decided over the 64 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S8x8192x1024.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v78) = (dats m 0 c).arrAt 19 cfg0.N :=
  (h c).1 19

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: input window 11 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 11).trans (((dats m 0 c).arrAt_in 11 rfl _).trans ((A_eq m c 11).trans (V_main_arg5 m c)))

/-- After the frame run, argument `main_arg6` is as launched: input window 12 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 12).trans (((dats m 0 c).arrAt_in 12 rfl _).trans ((A_eq m c 12).trans (V_main_arg6 m c)))

/-- After the frame run, argument `main_arg7` is as launched: input window 13 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 13).trans (((dats m 0 c).arrAt_in 13 rfl _).trans ((A_eq m c 13).trans (V_main_arg7 m c)))

/-- After the frame run, argument `main_arg8` is as launched: input window 14 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 14).trans (((dats m 0 c).arrAt_in 14 rfl _).trans ((A_eq m c 14).trans (V_main_arg8 m c)))

/-- After the frame run, argument `main_arg9` is as launched: input window 15 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 15).trans (((dats m 0 c).arrAt_in 15 rfl _).trans ((A_eq m c 15).trans (V_main_arg9 m c)))

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v78) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post19 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 8)
    stores the scratch whole without reading what it held, and `acc` does not enter there (nor where no point meets the
    conditions: `acc`, never read). -/
def scAt0_0 (c : Dev nD) (n : ℕ) (hb : n < cfg0.N) (acc : Vec F S4x128x256 .f32) : Vec F S4x128x256 .f32 :=
  if h0 : n % 8 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) acc

/-- WHAT CARRIED SCRATCH 0 HOLDS after point `t`: the fold of its run up to `t`, from the reset at the run's first point
    `8·(t / 8)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (8 * (t.val / 8)) (t.val % 8)
      (by have h1 := t.isLt; have h2 := Nat.div_add_mod t.val 8; omega) :=
  Pipeline.eq_accAt_of_mod (fun n h => (outsAt0 m c n h).2) 8 (fun n h => scAt0_0 m c n h (VS0_0.read (Elt F) VS0_0.junk)) (scAt0_0 m c)
    (fun n h hn => by
      have hN := lt_of_lt_of_eq h (show cfg0.N = 64 from N_0)
      by_cases h0 : n % 8 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 64 from N_0)
      by_cases h0 : (n + 1) % 8 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x1024x1024 .f32 × Vec F S4x128x256 .f32 :=
  ((VO0_19.read (Elt F) VO0_19.junk, VS0_0.read (Elt F) VS0_0.junk) : Vec F S1x1024x1024 .f32 × Vec F S4x128x256 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x1024x1024 .f32 × Vec F S4x128x256 .f32) : Vec F S1x1024x1024 .f32 × Vec F S4x128x256 .f32 :=
  if h0 : n % 8 = 0 then
    (out0_A_19 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)))
  else
    (out0_B_19 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) (ms0_14 (⟨n, hb⟩ : Fin cfg0.N)) (hs0_14 (⟨n, hb⟩ : Fin cfg0.N)) (ms0_15 (⟨n, hb⟩ : Fin cfg0.N)) (hs0_15 (⟨n, hb⟩ : Fin cfg0.N)) (ms0_16 (⟨n, hb⟩ : Fin cfg0.N)) (hs0_16 (⟨n, hb⟩ : Fin cfg0.N)) (ms0_17 (⟨n, hb⟩ : Fin cfg0.N)) (hs0_17 (⟨n, hb⟩ : Fin cfg0.N)) (ms0_18 (⟨n, hb⟩ : Fin cfg0.N)) (hs0_18 (⟨n, hb⟩ : Fin cfg0.N)) (ms0_19 (⟨n, hb⟩ : Fin cfg0.N)) (hs0_19 (⟨n, hb⟩ : Fin cfg0.N)) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) (iblk m c 13 (⟨n, hb⟩ : Fin cfg0.N)) (iblk m c 14 (⟨n, hb⟩ : Fin cfg0.N)) (iblk m c 15 (⟨n, hb⟩ : Fin cfg0.N)) (iblk m c 16 (⟨n, hb⟩ : Fin cfg0.N)) (iblk m c 17 (⟨n, hb⟩ : Fin cfg0.N)) (iblk m c 18 (⟨n, hb⟩ : Fin cfg0.N)) acc.2)

/-- `stAt0` at a point of case A: that case's contents. -/
theorem stAt0_A (c : Dev nD) (t : Fin cfg0.N) (acc : Vec F S1x1024x1024 .f32 × Vec F S4x128x256 .f32) (h0 : t.val % 8 = 0) :
    stAt0 m c t.val t.isLt acc = (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) :=
  (dif_pos h0).trans rfl

/-- `stAt0` at a point of case B: that case's contents, over `acc`. -/
theorem stAt0_B (c : Dev nD) (t : Fin cfg0.N) (acc : Vec F S1x1024x1024 .f32 × Vec F S4x128x256 .f32) (h0 : ¬t.val % 8 = 0) :
    stAt0 m c t.val t.isLt acc = (out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) acc.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 64 from N_0)
  have e := Pipeline.eq_accAt_of_mod (fun n h => outsAt0 m c n h) 64 (fun n h => stAt0 m c n h junk0) (stAt0 m c)
    (fun n h _ => by
      have hN := lt_of_lt_of_eq h (show cfg0.N = 64 from N_0)
      obtain rfl : n = 0 := by omega
      exact outsAt0_zero m c h)
    (fun n h _ => outsAt0_succ m c n h)
    (by decide) n hn (by have := Nat.div_add_mod n 64; omega)
  have hd : n / 64 = 0 := Nat.div_eq_of_lt hN
  have hm : n % 64 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 19 -/

/-- The block of the array that holds index `i`, numbered in the order the points write the blocks back (one per point),
    `i`'s place in it, and the point that writes it back. -/
abbrev run19Of (i : S8x8192x1024.Idx) : ℕ := 8 * ((i 0).val / 1 - 0) + 1 * ((i 1).val / 1024 - 0) + 1 * ((i 2).val / 1024 - 0)
set_option backward.proofsInPublic true in
abbrev loc19Of (i : S8x8192x1024.Idx) : S1x1024x1024.Idx := fun a => match a with
  | ⟨0, _⟩ => ⟨(i 0).val % 1, Nat.mod_lt _ (by decide)⟩
  | ⟨1, _⟩ => ⟨(i 1).val % 1024, Nat.mod_lt _ (by decide)⟩
  | ⟨2, _⟩ => ⟨(i 2).val % 1024, Nat.mod_lt _ (by decide)⟩
abbrev pt19Of (i : S8x8192x1024.Idx) : ℕ := run19Of i

/-- WHAT THE ARRAY ENDS HOLDING at index `i` inside the box the flushing blocks fill: output 19's component of the carried
    state's fold at the point that writes `i`'s block back, at `i`'s place in the block. `G19` states the array's contents
    only inside the box. -/
def G19 (c : Dev nD) : Buf (Elt F) ((c : Thread nD τ).loc main_v78) := fun i =>
  if h : pt19Of i < cfg0.N then
    (Pipeline.accAt (fun n h => stAt0 m c n h junk0) (stAt0 m c) 0 (pt19Of i) (by omega)).1 (loc19Of i)
  else V m c (Pipeline.arrRef spec0 19) i

/-- The printed index map, decided over the grid: output window 19's block indices stay in the box, and the block number
    read off them is the point's (`t`). -/
theorem idx_facts19 : ∀ t : Fin cfg0.N, 0 ≤ win0_19.index t (0 : Fin 3) ∧ win0_19.index t (0 : Fin 3) ≤ 7
    ∧ 0 ≤ win0_19.index t (1 : Fin 3) ∧ win0_19.index t (1 : Fin 3) ≤ 7
    ∧ 0 ≤ win0_19.index t (2 : Fin 3) ∧ win0_19.index t (2 : Fin 3) ≤ 0
    ∧ 8 * (win0_19.index t (0 : Fin 3) - 0) + 1 * (win0_19.index t (1 : Fin 3) - 0) + 1 * (win0_19.index t (2 : Fin 3) - 0) = t.val :=
  (by decide +kernel : ∀ t : Fin grid0.N, _)

/-- Every block of the box is SOME flushing point's: `onto19Pt`, the point that writes back the block at place `q` of the box. -/
abbrev onto19Pt (q0 : Fin 8) (q1 : Fin 8) (q2 : Fin 1) : Fin grid0.N :=
  ⟨8 * q0.val + 1 * q1.val + 1 * q2.val, lt_of_lt_of_eq (by omega) N_0.symm⟩
theorem idx_onto19 : ∀ (q0 : Fin 8) (q1 : Fin 8) (q2 : Fin 1), ∃ t : Fin cfg0.N, (cfg0.win 19).flush t = true ∧ win0_19.index t = ![q0.val + 0, q1.val + 0, q2.val + 0] :=
  fun q0 q1 q2 => ⟨onto19Pt q0 q1 q2, (by decide +kernel : ∀ (q0 : Fin 8) (q1 : Fin 8) (q2 : Fin 1), win0_19.flush (onto19Pt q0 q1 q2) = true ∧ win0_19.index (onto19Pt q0 q1 q2) = ![q0.val + 0, q1.val + 0, q2.val + 0]) q0 q1 q2⟩

/-- WHAT A FLUSHING POINT `t` WRITES BACK is block `t` of `G19`: output 19's component of the fold up to `t`. -/
theorem flushed19_eq (c : Dev nD) (t : Fin cfg0.N) (hf : (cfg0.win 19).flush t = true) :
    (dats m 0 c).flushed 19 t = ((cfg0.win 19).blk t).view.read (Elt F) (G19 m c) := by
  show (cfg0.win 19).cut (grid0.coords t) ((dats m 0 c).after 19 t) = _
  rw [after0_19, outsAt0_sweep]
  obtain ⟨e0, e1, e2, e3⟩ := idx_facts19 t
  funext y
  have hy0 : (y 0).val < 1 := (y 0).isLt
  have hy1 : (y 1).val < 1024 := (y 1).isLt
  have hy2 : (y 2).val < 1024 := (y 2).isLt
  have hb0 : (((cfg0.win 19).blk t).view.emb y 0).val = win0_19.index t (0 : Fin 3) * 1 + 1 * (y 0).val := rfl
  have hb1 : (((cfg0.win 19).blk t).view.emb y 1).val = win0_19.index t (1 : Fin 3) * 1024 + 1 * (y 1).val := rfl
  have hb2 : (((cfg0.win 19).blk t).view.emb y 2).val = win0_19.index t (2 : Fin 3) * 1024 + 1 * (y 2).val := rfl
  have hr : run19Of (((cfg0.win 19).blk t).view.emb y) = t.val := by
    show 8 * ((((cfg0.win 19).blk t).view.emb y 0).val / 1 - 0) + 1 * ((((cfg0.win 19).blk t).view.emb y 1).val / 1024 - 0) + 1 * ((((cfg0.win 19).blk t).view.emb y 2).val / 1024 - 0) = _
    rw [hb0, hb1, hb2]
    rw [show (win0_19.index t (0 : Fin 3) * 1 + 1 * (y 0).val) / 1 = win0_19.index t (0 : Fin 3) from by omega]; rw [show (win0_19.index t (1 : Fin 3) * 1024 + 1 * (y 1).val) / 1024 = win0_19.index t (1 : Fin 3) from by omega]; rw [show (win0_19.index t (2 : Fin 3) * 1024 + 1 * (y 2).val) / 1024 = win0_19.index t (2 : Fin 3) from by omega]
    omega
  have hl : loc19Of (((cfg0.win 19).blk t).view.emb y) = (cfg0.win 19).xinj (grid0.coords t) y := by
    funext a; apply Fin.ext
    match a with
    | ⟨0, _⟩ => show (((cfg0.win 19).blk t).view.emb y 0).val % 1 = (y 0).val; rw [hb0]; omega
    | ⟨1, _⟩ => show (((cfg0.win 19).blk t).view.emb y 1).val % 1024 = (y 1).val; rw [hb1]; omega
    | ⟨2, _⟩ => show (((cfg0.win 19).blk t).view.emb y 2).val % 1024 = (y 2).val; rw [hb2]; omega
  have hp : pt19Of (((cfg0.win 19).blk t).view.emb y) = t.val := by
    exact hr
  show (Pipeline.accAt (fun n h => stAt0 m c n h junk0) (stAt0 m c) 0 t.val _).1 ((cfg0.win 19).xinj (grid0.coords t) y) = G19 m c (((cfg0.win 19).blk t).view.emb y)
  unfold G19
  rw [dif_pos (by rw [hp]; exact t.isLt), hl, fold0_congr m c _ _ _ _ hp.symm]

/-- An index of the array is in point `t`'s block iff each coordinate is in the block's range on its axis. -/
theorem mem_blk19 (t : Fin cfg0.N) (i : S8x8192x1024.Idx) :
    i ∈ ((cfg0.win 19).blk t).view.set ↔ ∀ a : Fin 3, win0_19.index t a * S1x1024x1024.size a ≤ (i a).val ∧ (i a).val < win0_19.index t a * S1x1024x1024.size a + S1x1024x1024.size a := by
  show i ∈ ((View.whole main_v78).slice (win0_19.rect t)).set ↔ _
  rw [View.set_slice_whole, Rect.mem_set_unit]
  exact Iff.rfl

/-- THE COVERED INDICES: in some flushing point's block iff inside the box those blocks fill. -/
theorem covered_iff19 (i : S8x8192x1024.Idx) :
    (∃ t : Fin cfg0.N, (cfg0.win 19).flush t = true ∧ i ∈ ((cfg0.win 19).blk t).view.set) ↔ 0 ≤ (i 0).val ∧ (i 0).val < 8 ∧ 0 ≤ (i 1).val ∧ (i 1).val < 8192 ∧ 0 ≤ (i 2).val ∧ (i 2).val < 1024 := by
  constructor
  · rintro ⟨t, -, hi⟩
    rw [mem_blk19] at hi
    have b0 : win0_19.index t (0 : Fin 3) * 1 ≤ (i 0).val ∧ (i 0).val < win0_19.index t (0 : Fin 3) * 1 + 1 := hi 0
    have b1 : win0_19.index t (1 : Fin 3) * 1024 ≤ (i 1).val ∧ (i 1).val < win0_19.index t (1 : Fin 3) * 1024 + 1024 := hi 1
    have b2 : win0_19.index t (2 : Fin 3) * 1024 ≤ (i 2).val ∧ (i 2).val < win0_19.index t (2 : Fin 3) * 1024 + 1024 := hi 2
    obtain ⟨e0, e1, e2, e3⟩ := idx_facts19 t
    omega
  · intro h
    have hi0 : (i 0).val < 8 := (i 0).isLt
    have hi1 : (i 1).val < 8192 := (i 1).isLt
    have hi2 : (i 2).val < 1024 := (i 2).isLt
    obtain ⟨t, hft, ht⟩ := idx_onto19 ⟨(i 0).val / 1 - 0, by omega⟩ ⟨(i 1).val / 1024 - 0, by omega⟩ ⟨(i 2).val / 1024 - 0, by omega⟩
    have q0 : win0_19.index t (0 : Fin 3) = (i 0).val / 1 - 0 + 0 := congrFun ht 0
    have q1 : win0_19.index t (1 : Fin 3) = (i 1).val / 1024 - 0 + 0 := congrFun ht 1
    have q2 : win0_19.index t (2 : Fin 3) = (i 2).val / 1024 - 0 + 0 := congrFun ht 2
    refine ⟨t, hft, ?_⟩
    rw [mem_blk19]
    intro a
    match a with
    | ⟨0, _⟩ => show win0_19.index t (0 : Fin 3) * 1 ≤ (i 0).val ∧ (i 0).val < win0_19.index t (0 : Fin 3) * 1 + 1; omega
    | ⟨1, _⟩ => show win0_19.index t (1 : Fin 3) * 1024 ≤ (i 1).val ∧ (i 1).val < win0_19.index t (1 : Fin 3) * 1024 + 1024; omega
    | ⟨2, _⟩ => show win0_19.index t (2 : Fin 3) * 1024 ≤ (i 2).val ∧ (i 2).val < win0_19.index t (2 : Fin 3) * 1024 + 1024; omega

/-- THE ARRAY after the run: `G19` (the flushing blocks tile it). -/
theorem final19 (c : Dev nD) : (dats m 0 c).arrAt 19 cfg0.N = G19 m c :=
  (dats m 0 c).arrAt_eq_of_cover 19 _ (fun t hf => flushed19_eq m c t hf) (fun i => (covered_iff19 i).2 (by
    have h0 : (i 0).val < 8 := (i 0).isLt; have h1 : (i 1).val < 8192 := (i 1).isLt; have h2 : (i 2).val < 1024 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v78) = G19 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(post19 m r h c).trans (final19 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.MixValueIdeal

end
-- ==== Proof.MixRefRun.lean ====
/- After the generated module `Gen/MixRefIdeal/StepRun.lean`, with one proof changed (`step_9`, whose rewriting did not find its
   place): the reference's run stated over the step of Gen/MixRefIdeal/Step.lean. One application of the run's `STEP` keeps a
   valuation holding a state, with `step` applied; the result is what the operations after the loop make of state number 64. -/
module

public import proofs.«01_k».proof.Proof.Gen.MixRefIdeal.Run
public import proofs.«01_k».proof.Proof.Gen.MixRefIdeal.Step

@[expose] public section

noncomputable section

namespace Cert.MixRefRun

open Idealize.ShloMosaic Idealize.ShloMosaic.TcCoe Idealize.SL.Sem Idealize.ShloMosaic.StableHlo
open Cert.MixRefIdeal Cert.MixRefIdeal.Gen Cert.MixRefIdeal.Value
open Cert.MixRefIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v145_8) = s.main_v145_8
  f_9 : V0 (Proc.devRef .tc main_v145_9) = s.main_v145_9
  f_0 : V0 (Proc.devRef .tc main_v145_0) = s.main_v145_0
  f_1 : V0 (Proc.devRef .tc main_v145_1) = s.main_v145_1
  f_2 : V0 (Proc.devRef .tc main_v145_2) = s.main_v145_2
  n_7 : V0 (Proc.devRef .tc main_v145_7) = constantI S_ 32 (BitVec.ofNat 32 j)
  k_3 : V0 (Proc.devRef .tc main_v145_3) = Cert.MixRefIdeal.Step.K_main_v117 (F := F)
  k_4 : V0 (Proc.devRef .tc main_v145_4) = Cert.MixRefIdeal.Step.K_main_v133 (F := F)
  k_5 : V0 (Proc.devRef .tc main_v145_5) = Cert.MixRefIdeal.Step.K_main_v125 (F := F)
  k_6 : V0 (Proc.devRef .tc main_v145_6) = Cert.MixRefIdeal.Step.K_main_v136 (F := F)

variable {V0 s j}

set_option maxRecDepth 8192 in
theorem al_0 (h : Holds V0 s j) : (constantI S_ 32 0#32 : (Proc.devRef .tc main_while0b_call1_c : DevRef τ sig).ty.Contents (Elt F)) = Cert.MixRefIdeal.Step.b0 j s := by
  unfold Cert.MixRefIdeal.Step.b0
  rfl
set_option maxRecDepth 8192 in
theorem al_1 (h : Holds V0 s j) : (constantI S_ 32 0#32 : (Proc.devRef .tc main_while0b_call1_c_0 : DevRef τ sig).ty.Contents (Elt F)) = Cert.MixRefIdeal.Step.b1 j s := by
  unfold Cert.MixRefIdeal.Step.b1
  rfl
set_option maxRecDepth 8192 in
theorem al_2 (h : Holds V0 s j) : (constantI S_ 32 0#32 : (Proc.devRef .tc main_while0b_call1_c_1 : DevRef τ sig).ty.Contents (Elt F)) = Cert.MixRefIdeal.Step.b2 j s := by
  unfold Cert.MixRefIdeal.Step.b2
  rfl
set_option maxRecDepth 8192 in
theorem al_3 (h : Holds V0 s j) : (constantI S_ 32 0#32 : (Proc.devRef .tc main_while0b_call1_c_2 : DevRef τ sig).ty.Contents (Elt F)) = Cert.MixRefIdeal.Step.b3 j s := by
  unfold Cert.MixRefIdeal.Step.b3
  rfl
set_option maxRecDepth 8192 in
theorem al_4 (h : Holds V0 s j) : (Host.dynamicSlice S1x8x128x4x128 (V0 (Proc.devRef .tc main_v145_0)) (fun k => (((![V0 (Proc.devRef .tc main_v145_7), constantI S_ 32 0#32, constantI S_ 32 0#32, constantI S_ 32 0#32, constantI S_ 32 0#32] : Fin 5 → (⟨S_, .i32⟩ : BufTy).Contents (Elt F))) k (Shape.Idx.first h_S_)).toInt) sliceFits_S64x8x128x4x128_S1x8x128x4x128 : (Proc.devRef .tc main_while0b_call1_v0 : DevRef τ sig).ty.Contents (Elt F)) = Cert.MixRefIdeal.Step.b4 j s := by
  unfold Cert.MixRefIdeal.Step.b4
  rw [← al_0 h, ← al_1 h, ← al_2 h, ← al_3 h, h.f_0, h.n_7]
  try rfl
set_option maxRecDepth 8192 in
theorem al_5 (h : Holds V0 s j) : (res_main_while0b_v245 V0 : (Proc.devRef .tc main_while0b_v245 : DevRef τ sig).ty.Contents (Elt F)) = Cert.MixRefIdeal.Step.b5 j s := by
  unfold res_main_while0b_v245 Cert.MixRefIdeal.Step.b5
  rw [← al_4 h]
  try rfl
set_option maxRecDepth 8192 in
theorem al_6 (h : Holds V0 s j) : (constantI S_ 32 0#32 : (Proc.devRef .tc main_while0b_call2_c : DevRef τ sig).ty.Contents (Elt F)) = Cert.MixRefIdeal.Step.b6 j s := by
  unfold Cert.MixRefIdeal.Step.b6
  rfl
set_option maxRecDepth 8192 in
theorem al_7 (h : Holds V0 s j) : (constantI S_ 32 0#32 : (Proc.devRef .tc main_while0b_call2_c_0 : DevRef τ sig).ty.Contents (Elt F)) = Cert.MixRefIdeal.Step.b7 j s := by
  unfold Cert.MixRefIdeal.Step.b7
  rfl
set_option maxRecDepth 8192 in
theorem al_8 (h : Holds V0 s j) : (constantI S_ 32 0#32 : (Proc.devRef .tc main_while0b_call2_c_1 : DevRef τ sig).ty.Contents (Elt F)) = Cert.MixRefIdeal.Step.b8 j s := by
  unfold Cert.MixRefIdeal.Step.b8
  rfl
set_option maxRecDepth 8192 in
theorem al_9 (h : Holds V0 s j) : (constantI S_ 32 0#32 : (Proc.devRef .tc main_while0b_call2_c_2 : DevRef τ sig).ty.Contents (Elt F)) = Cert.MixRefIdeal.Step.b9 j s := by
  unfold Cert.MixRefIdeal.Step.b9
  rfl
set_option maxRecDepth 8192 in
theorem al_10 (h : Holds V0 s j) : (Host.dynamicSlice S1x8x128x4x128 (V0 (Proc.devRef .tc main_v145_1)) (fun k => (((![V0 (Proc.devRef .tc main_v145_7), constantI S_ 32 0#32, constantI S_ 32 0#32, constantI S_ 32 0#32, constantI S_ 32 0#32] : Fin 5 → (⟨S_, .i32⟩ : BufTy).Contents (Elt F))) k (Shape.Idx.first h_S_)).toInt) sliceFits_S64x8x128x4x128_S1x8x128x4x128 : (Proc.devRef .tc main_while0b_call2_v0 : DevRef τ sig).ty.Contents (Elt F)) = Cert.MixRefIdeal.Step.b10 j s := by
  unfold Cert.MixRefIdeal.Step.b10
  rw [← al_6 h, ← al_7 h, ← al_8 h, ← al_9 h, h.f_1, h.n_7]
  try rfl
set_option maxRecDepth 8192 in
theorem al_11 (h : Holds V0 s j) : (res_main_while0b_v246 V0 : (Proc.devRef .tc main_while0b_v246 : DevRef τ sig).ty.Contents (Elt F)) = Cert.MixRefIdeal.Step.b11 j s := by
  unfold res_main_while0b_v246 Cert.MixRefIdeal.Step.b11
  rw [← al_10 h]
  try rfl
set_option maxRecDepth 8192 in
theorem al_12 (h : Holds V0 s j) : (constantI S_ 32 0#32 : (Proc.devRef .tc main_while0b_call3_c : DevRef τ sig).ty.Contents (Elt F)) = Cert.MixRefIdeal.Step.b12 j s := by
  unfold Cert.MixRefIdeal.Step.b12
  rfl
set_option maxRecDepth 8192 in
theorem al_13 (h : Holds V0 s j) : (constantI S_ 32 0#32 : (Proc.devRef .tc main_while0b_call3_c_0 : DevRef τ sig).ty.Contents (Elt F)) = Cert.MixRefIdeal.Step.b13 j s := by
  unfold Cert.MixRefIdeal.Step.b13
  rfl
set_option maxRecDepth 8192 in
theorem al_14 (h : Holds V0 s j) : (constantI S_ 32 0#32 : (Proc.devRef .tc main_while0b_call3_c_1 : DevRef τ sig).ty.Contents (Elt F)) = Cert.MixRefIdeal.Step.b14 j s := by
  unfold Cert.MixRefIdeal.Step.b14
  rfl
set_option maxRecDepth 8192 in
theorem al_15 (h : Holds V0 s j) : (constantI S_ 32 0#32 : (Proc.devRef .tc main_while0b_call3_c_2 : DevRef τ sig).ty.Contents (Elt F)) = Cert.MixRefIdeal.Step.b15 j s := by
  unfold Cert.MixRefIdeal.Step.b15
  rfl
set_option maxRecDepth 8192 in
theorem al_16 (h : Holds V0 s j) : (Host.dynamicSlice S1x8x128x4x256 (V0 (Proc.devRef .tc main_v145_2)) (fun k => (((![V0 (Proc.devRef .tc main_v145_7), constantI S_ 32 0#32, constantI S_ 32 0#32, constantI S_ 32 0#32, constantI S_ 32 0#32] : Fin 5 → (⟨S_, .i32⟩ : BufTy).Contents (Elt F))) k (Shape.Idx.first h_S_)).toInt) sliceFits_S64x8x128x4x256_S1x8x128x4x256 : (Proc.devRef .tc main_while0b_call3_v0 : DevRef τ sig).ty.Contents (Elt F)) = Cert.MixRefIdeal.Step.b16 j s := by
  unfold Cert.MixRefIdeal.Step.b16
  rw [← al_12 h, ← al_13 h, ← al_14 h, ← al_15 h, h.f_2, h.n_7]
  try rfl
set_option maxRecDepth 8192 in
theorem al_17 (h : Holds V0 s j) : (res_main_while0b_v247 V0 : (Proc.devRef .tc main_while0b_v247 : DevRef τ sig).ty.Contents (Elt F)) = Cert.MixRefIdeal.Step.b17 j s := by
  unfold res_main_while0b_v247 Cert.MixRefIdeal.Step.b17
  rw [← al_16 h]
  try rfl
set_option maxRecDepth 8192 in
theorem al_18 (h : Holds V0 s j) : (Host.dotGeneral dot_S8x128x4x128_S8x128x4x128_S8x4x128x128_3_3_1_1_02_02 none (res_main_while0b_v245 V0) (res_main_while0b_v246 V0) : (Proc.devRef .tc main_while0b_v248 : DevRef τ sig).ty.Contents (Elt F)) = Cert.MixRefIdeal.Step.b18 j s := by
  unfold Cert.MixRefIdeal.Step.b18
  rw [← al_5 h, ← al_11 h]
  try rfl
set_option maxRecDepth 8192 in
theorem al_19 (h : Holds V0 s j) : (broadcastInDim S1x4x128x128 ![1, 2, 3] bcast_S4x128x128_S1x4x128x128_1_2_3 (V0 (Proc.devRef .tc main_v145_3)) : (Proc.devRef .tc main_while0b_v249 : DevRef τ sig).ty.Contents (Elt F)) = Cert.MixRefIdeal.Step.b19 j s := by
  unfold Cert.MixRefIdeal.Step.b19
  rw [h.k_3]
  try rfl
set_option maxRecDepth 8192 in
theorem al_20 (h : Holds V0 s j) : (broadcastInDim S8x4x128x128 ![0, 1, 2, 3] bcast_S1x4x128x128_S8x4x128x128_0_1_2_3 (broadcastInDim S1x4x128x128 ![1, 2, 3] bcast_S4x128x128_S1x4x128x128_1_2_3 (V0 (Proc.devRef .tc main_v145_3))) : (Proc.devRef .tc main_while0b_v250 : DevRef τ sig).ty.Contents (Elt F)) = Cert.MixRefIdeal.Step.b20 j s := by
  unfold Cert.MixRefIdeal.Step.b20
  rw [← al_19 h]
  try rfl
set_option maxRecDepth 8192 in
theorem al_21 (h : Holds V0 s j) : (mulf (Host.dotGeneral dot_S8x128x4x128_S8x128x4x128_S8x4x128x128_3_3_1_1_02_02 none (res_main_while0b_v245 V0) (res_main_while0b_v246 V0)) (broadcastInDim S8x4x128x128 ![0, 1, 2, 3] bcast_S1x4x128x128_S8x4x128x128_0_1_2_3 (broadcastInDim S1x4x128x128 ![1, 2, 3] bcast_S4x128x128_S1x4x128x128_1_2_3 (V0 (Proc.devRef .tc main_v145_3)))) : (Proc.devRef .tc main_while0b_v251 : DevRef τ sig).ty.Contents (Elt F)) = Cert.MixRefIdeal.Step.b21 j s := by
  unfold Cert.MixRefIdeal.Step.b21
  rw [← al_18 h, ← al_20 h]
  try rfl
set_option maxRecDepth 8192 in
theorem al_22 (h : Holds V0 s j) : (Host.dotGeneral dot_S8x128x4x256_S8x4x128x128_S8x4x256x128_1_3_3_2_02_01 none (res_main_while0b_v247 V0) (mulf (Host.dotGeneral dot_S8x128x4x128_S8x128x4x128_S8x4x128x128_3_3_1_1_02_02 none (res_main_while0b_v245 V0) (res_main_while0b_v246 V0)) (broadcastInDim S8x4x128x128 ![0, 1, 2, 3] bcast_S1x4x128x128_S8x4x128x128_0_1_2_3 (broadcastInDim S1x4x128x128 ![1, 2, 3] bcast_S4x128x128_S1x4x128x128_1_2_3 (V0 (Proc.devRef .tc main_v145_3))))) : (Proc.devRef .tc main_while0b_v252 : DevRef τ sig).ty.Contents (Elt F)) = Cert.MixRefIdeal.Step.b22 j s := by
  unfold Cert.MixRefIdeal.Step.b22
  rw [← al_17 h, ← al_21 h]
  try rfl
set_option maxRecDepth 8192 in
theorem al_23 (h : Holds V0 s j) : (transpose S8x128x4x256 [0, 3, 1, 2] (Host.dotGeneral dot_S8x128x4x256_S8x4x128x128_S8x4x256x128_1_3_3_2_02_01 none (res_main_while0b_v247 V0) (mulf (Host.dotGeneral dot_S8x128x4x128_S8x128x4x128_S8x4x128x128_3_3_1_1_02_02 none (res_main_while0b_v245 V0) (res_main_while0b_v246 V0)) (broadcastInDim S8x4x128x128 ![0, 1, 2, 3] bcast_S1x4x128x128_S8x4x128x128_0_1_2_3 (broadcastInDim S1x4x128x128 ![1, 2, 3] bcast_S4x128x128_S1x4x128x128_1_2_3 (V0 (Proc.devRef .tc main_v145_3)))))) transposes_S8x4x256x128_S8x128x4x256_0_3_1_2 : (Proc.devRef .tc main_while0b_v253 : DevRef τ sig).ty.Contents (Elt F)) = Cert.MixRefIdeal.Step.b23 j s := by
  unfold Cert.MixRefIdeal.Step.b23
  rw [← al_22 h]
  try rfl
set_option maxRecDepth 8192 in
theorem al_24 (h : Holds V0 s j) : (broadcastInDim S1x128x4x1 ![1, 2] bcast_S128x4_S1x128x4x1_1_2 (V0 (Proc.devRef .tc main_v145_4)) : (Proc.devRef .tc main_while0b_v254 : DevRef τ sig).ty.Contents (Elt F)) = Cert.MixRefIdeal.Step.b24 j s := by
  unfold Cert.MixRefIdeal.Step.b24
  rw [h.k_4]
  try rfl
set_option maxRecDepth 8192 in
theorem al_25 (h : Holds V0 s j) : (broadcastInDim S8x128x4x128 ![0, 1, 2, 3] bcast_S1x128x4x1_S8x128x4x128_0_1_2_3 (broadcastInDim S1x128x4x1 ![1, 2] bcast_S128x4_S1x128x4x1_1_2 (V0 (Proc.devRef .tc main_v145_4))) : (Proc.devRef .tc main_while0b_v255 : DevRef τ sig).ty.Contents (Elt F)) = Cert.MixRefIdeal.Step.b25 j s := by
  unfold Cert.MixRefIdeal.Step.b25
  rw [← al_24 h]
  try rfl
set_option maxRecDepth 8192 in
theorem al_26 (h : Holds V0 s j) : (mulf (res_main_while0b_v245 V0) (broadcastInDim S8x128x4x128 ![0, 1, 2, 3] bcast_S1x128x4x1_S8x128x4x128_0_1_2_3 (broadcastInDim S1x128x4x1 ![1, 2] bcast_S128x4_S1x128x4x1_1_2 (V0 (Proc.devRef .tc main_v145_4)))) : (Proc.devRef .tc main_while0b_v256 : DevRef τ sig).ty.Contents (Elt F)) = Cert.MixRefIdeal.Step.b26 j s := by
  unfold Cert.MixRefIdeal.Step.b26
  rw [← al_5 h, ← al_25 h]
  try rfl
set_option maxRecDepth 8192 in
theorem al_27 (h : Holds V0 s j) : (Host.dotGeneral dot_S8x4x128x256_S8x128x4x128_S8x4x256x128_2_3_3_1_01_02 none (V0 (Proc.devRef .tc main_v145_8)) (mulf (res_main_while0b_v245 V0) (broadcastInDim S8x128x4x128 ![0, 1, 2, 3] bcast_S1x128x4x1_S8x128x4x128_0_1_2_3 (broadcastInDim S1x128x4x1 ![1, 2] bcast_S128x4_S1x128x4x1_1_2 (V0 (Proc.devRef .tc main_v145_4))))) : (Proc.devRef .tc main_while0b_v257 : DevRef τ sig).ty.Contents (Elt F)) = Cert.MixRefIdeal.Step.b27 j s := by
  unfold Cert.MixRefIdeal.Step.b27
  rw [← al_26 h, h.f_8]
  try rfl
set_option maxRecDepth 8192 in
theorem al_28 (h : Holds V0 s j) : (transpose S8x128x4x256 [0, 3, 1, 2] (Host.dotGeneral dot_S8x4x128x256_S8x128x4x128_S8x4x256x128_2_3_3_1_01_02 none (V0 (Proc.devRef .tc main_v145_8)) (mulf (res_main_while0b_v245 V0) (broadcastInDim S8x128x4x128 ![0, 1, 2, 3] bcast_S1x128x4x1_S8x128x4x128_0_1_2_3 (broadcastInDim S1x128x4x1 ![1, 2] bcast_S128x4_S1x128x4x1_1_2 (V0 (Proc.devRef .tc main_v145_4)))))) transposes_S8x4x256x128_S8x128x4x256_0_3_1_2 : (Proc.devRef .tc main_while0b_v258 : DevRef τ sig).ty.Contents (Elt F)) = Cert.MixRefIdeal.Step.b28 j s := by
  unfold Cert.MixRefIdeal.Step.b28
  rw [← al_27 h]
  try rfl
set_option maxRecDepth 8192 in
theorem al_29 (h : Holds V0 s j) : (broadcastInDim S1x128x4x1 ![1, 2] bcast_S128x4_S1x128x4x1_1_2 (V0 (Proc.devRef .tc main_v145_5)) : (Proc.devRef .tc main_while0b_v259 : DevRef τ sig).ty.Contents (Elt F)) = Cert.MixRefIdeal.Step.b29 j s := by
  unfold Cert.MixRefIdeal.Step.b29
  rw [h.k_5]
  try rfl
set_option maxRecDepth 8192 in
theorem al_30 (h : Holds V0 s j) : (broadcastInDim S8x128x4x256 ![0, 1, 2, 3] bcast_S1x128x4x1_S8x128x4x256_0_1_2_3 (broadcastInDim S1x128x4x1 ![1, 2] bcast_S128x4_S1x128x4x1_1_2 (V0 (Proc.devRef .tc main_v145_5))) : (Proc.devRef .tc main_while0b_v260 : DevRef τ sig).ty.Contents (Elt F)) = Cert.MixRefIdeal.Step.b30 j s := by
  unfold Cert.MixRefIdeal.Step.b30
  rw [← al_29 h]
  try rfl
set_option maxRecDepth 8192 in
theorem al_31 (h : Holds V0 s j) : (mulf (res_main_while0b_v247 V0) (broadcastInDim S8x128x4x256 ![0, 1, 2, 3] bcast_S1x128x4x1_S8x128x4x256_0_1_2_3 (broadcastInDim S1x128x4x1 ![1, 2] bcast_S128x4_S1x128x4x1_1_2 (V0 (Proc.devRef .tc main_v145_5)))) : (Proc.devRef .tc main_while0b_v261 : DevRef τ sig).ty.Contents (Elt F)) = Cert.MixRefIdeal.Step.b31 j s := by
  unfold Cert.MixRefIdeal.Step.b31
  rw [← al_17 h, ← al_30 h]
  try rfl
set_option maxRecDepth 8192 in
theorem al_32 (h : Holds V0 s j) : (Host.dotGeneral dot_S8x128x4x128_S8x128x4x256_S8x4x128x256_1_1_3_3_02_02 none (res_main_while0b_v246 V0) (mulf (res_main_while0b_v247 V0) (broadcastInDim S8x128x4x256 ![0, 1, 2, 3] bcast_S1x128x4x1_S8x128x4x256_0_1_2_3 (broadcastInDim S1x128x4x1 ![1, 2] bcast_S128x4_S1x128x4x1_1_2 (V0 (Proc.devRef .tc main_v145_5))))) : (Proc.devRef .tc main_while0b_v262 : DevRef τ sig).ty.Contents (Elt F)) = Cert.MixRefIdeal.Step.b32 j s := by
  unfold Cert.MixRefIdeal.Step.b32
  rw [← al_11 h, ← al_31 h]
  try rfl
set_option maxRecDepth 8192 in
theorem al_33 (h : Holds V0 s j) : (broadcastInDim S1x4x1x1 ![1] bcast_S4_S1x4x1x1_1 (V0 (Proc.devRef .tc main_v145_6)) : (Proc.devRef .tc main_while0b_v263 : DevRef τ sig).ty.Contents (Elt F)) = Cert.MixRefIdeal.Step.b33 j s := by
  unfold Cert.MixRefIdeal.Step.b33
  rw [h.k_6]
  try rfl
set_option maxRecDepth 8192 in
theorem al_34 (h : Holds V0 s j) : (broadcastInDim S8x4x128x256 ![0, 1, 2, 3] bcast_S1x4x1x1_S8x4x128x256_0_1_2_3 (broadcastInDim S1x4x1x1 ![1] bcast_S4_S1x4x1x1_1 (V0 (Proc.devRef .tc main_v145_6))) : (Proc.devRef .tc main_while0b_v264 : DevRef τ sig).ty.Contents (Elt F)) = Cert.MixRefIdeal.Step.b34 j s := by
  unfold Cert.MixRefIdeal.Step.b34
  rw [← al_33 h]
  try rfl
set_option maxRecDepth 8192 in
theorem al_35 (h : Holds V0 s j) : (mulf (broadcastInDim S8x4x128x256 ![0, 1, 2, 3] bcast_S1x4x1x1_S8x4x128x256_0_1_2_3 (broadcastInDim S1x4x1x1 ![1] bcast_S4_S1x4x1x1_1 (V0 (Proc.devRef .tc main_v145_6)))) (V0 (Proc.devRef .tc main_v145_8)) : (Proc.devRef .tc main_while0b_v265 : DevRef τ sig).ty.Contents (Elt F)) = Cert.MixRefIdeal.Step.b35 j s := by
  unfold Cert.MixRefIdeal.Step.b35
  rw [← al_34 h, h.f_8]
  try rfl
set_option maxRecDepth 8192 in
theorem al_36 (h : Holds V0 s j) : (addf (mulf (broadcastInDim S8x4x128x256 ![0, 1, 2, 3] bcast_S1x4x1x1_S8x4x128x256_0_1_2_3 (broadcastInDim S1x4x1x1 ![1] bcast_S4_S1x4x1x1_1 (V0 (Proc.devRef .tc main_v145_6)))) (V0 (Proc.devRef .tc main_v145_8))) (Host.dotGeneral dot_S8x128x4x128_S8x128x4x256_S8x4x128x256_1_1_3_3_02_02 none (res_main_while0b_v246 V0) (mulf (res_main_while0b_v247 V0) (broadcastInDim S8x128x4x256 ![0, 1, 2, 3] bcast_S1x128x4x1_S8x128x4x256_0_1_2_3 (broadcastInDim S1x128x4x1 ![1, 2] bcast_S128x4_S1x128x4x1_1_2 (V0 (Proc.devRef .tc main_v145_5)))))) : (Proc.devRef .tc main_while0b_v266 : DevRef τ sig).ty.Contents (Elt F)) = Cert.MixRefIdeal.Step.b36 j s := by
  unfold Cert.MixRefIdeal.Step.b36
  rw [← al_35 h, ← al_32 h]
  try rfl
set_option maxRecDepth 8192 in
theorem al_37 (h : Holds V0 s j) : (addf (transpose S8x128x4x256 [0, 3, 1, 2] (Host.dotGeneral dot_S8x128x4x256_S8x4x128x128_S8x4x256x128_1_3_3_2_02_01 none (res_main_while0b_v247 V0) (mulf (Host.dotGeneral dot_S8x128x4x128_S8x128x4x128_S8x4x128x128_3_3_1_1_02_02 none (res_main_while0b_v245 V0) (res_main_while0b_v246 V0)) (broadcastInDim S8x4x128x128 ![0, 1, 2, 3] bcast_S1x4x128x128_S8x4x128x128_0_1_2_3 (broadcastInDim S1x4x128x128 ![1, 2, 3] bcast_S4x128x128_S1x4x128x128_1_2_3 (V0 (Proc.devRef .tc main_v145_3)))))) transposes_S8x4x256x128_S8x128x4x256_0_3_1_2) (transpose S8x128x4x256 [0, 3, 1, 2] (Host.dotGeneral dot_S8x4x128x256_S8x128x4x128_S8x4x256x128_2_3_3_1_01_02 none (V0 (Proc.devRef .tc main_v145_8)) (mulf (res_main_while0b_v245 V0) (broadcastInDim S8x128x4x128 ![0, 1, 2, 3] bcast_S1x128x4x1_S8x128x4x128_0_1_2_3 (broadcastInDim S1x128x4x1 ![1, 2] bcast_S128x4_S1x128x4x1_1_2 (V0 (Proc.devRef .tc main_v145_4)))))) transposes_S8x4x256x128_S8x128x4x256_0_3_1_2) : (Proc.devRef .tc main_while0b_v267 : DevRef τ sig).ty.Contents (Elt F)) = Cert.MixRefIdeal.Step.b37 j s := by
  unfold Cert.MixRefIdeal.Step.b37
  rw [← al_23 h, ← al_28 h]
  try rfl
set_option maxRecDepth 8192 in
theorem al_38 (h : Holds V0 s j) : (broadcastInDim S1x8x128x4x256 ![1, 2, 3, 4] bcast_S8x128x4x256_S1x8x128x4x256_1_2_3_4 (addf (transpose S8x128x4x256 [0, 3, 1, 2] (Host.dotGeneral dot_S8x128x4x256_S8x4x128x128_S8x4x256x128_1_3_3_2_02_01 none (res_main_while0b_v247 V0) (mulf (Host.dotGeneral dot_S8x128x4x128_S8x128x4x128_S8x4x128x128_3_3_1_1_02_02 none (res_main_while0b_v245 V0) (res_main_while0b_v246 V0)) (broadcastInDim S8x4x128x128 ![0, 1, 2, 3] bcast_S1x4x128x128_S8x4x128x128_0_1_2_3 (broadcastInDim S1x4x128x128 ![1, 2, 3] bcast_S4x128x128_S1x4x128x128_1_2_3 (V0 (Proc.devRef .tc main_v145_3)))))) transposes_S8x4x256x128_S8x128x4x256_0_3_1_2) (transpose S8x128x4x256 [0, 3, 1, 2] (Host.dotGeneral dot_S8x4x128x256_S8x128x4x128_S8x4x256x128_2_3_3_1_01_02 none (V0 (Proc.devRef .tc main_v145_8)) (mulf (res_main_while0b_v245 V0) (broadcastInDim S8x128x4x128 ![0, 1, 2, 3] bcast_S1x128x4x1_S8x128x4x128_0_1_2_3 (broadcastInDim S1x128x4x1 ![1, 2] bcast_S128x4_S1x128x4x1_1_2 (V0 (Proc.devRef .tc main_v145_4)))))) transposes_S8x4x256x128_S8x128x4x256_0_3_1_2)) : (Proc.devRef .tc main_while0b_call4_v0 : DevRef τ sig).ty.Contents (Elt F)) = Cert.MixRefIdeal.Step.b38 j s := by
  unfold Cert.MixRefIdeal.Step.b38
  rw [← al_37 h]
  try rfl
set_option maxRecDepth 8192 in
theorem al_39 (h : Holds V0 s j) : (constantI S_ 32 0#32 : (Proc.devRef .tc main_while0b_call4_c : DevRef τ sig).ty.Contents (Elt F)) = Cert.MixRefIdeal.Step.b39 j s := by
  unfold Cert.MixRefIdeal.Step.b39
  rfl
set_option maxRecDepth 8192 in
theorem al_40 (h : Holds V0 s j) : (constantI S_ 32 0#32 : (Proc.devRef .tc main_while0b_call4_c_0 : DevRef τ sig).ty.Contents (Elt F)) = Cert.MixRefIdeal.Step.b40 j s := by
  unfold Cert.MixRefIdeal.Step.b40
  rfl
set_option maxRecDepth 8192 in
theorem al_41 (h : Holds V0 s j) : (constantI S_ 32 0#32 : (Proc.devRef .tc main_while0b_call4_c_1 : DevRef τ sig).ty.Contents (Elt F)) = Cert.MixRefIdeal.Step.b41 j s := by
  unfold Cert.MixRefIdeal.Step.b41
  rfl
set_option maxRecDepth 8192 in
theorem al_42 (h : Holds V0 s j) : (constantI S_ 32 0#32 : (Proc.devRef .tc main_while0b_call4_c_2 : DevRef τ sig).ty.Contents (Elt F)) = Cert.MixRefIdeal.Step.b42 j s := by
  unfold Cert.MixRefIdeal.Step.b42
  rfl
set_option maxRecDepth 8192 in
theorem al_43 (h : Holds V0 s j) : (Host.dynamicUpdateSlice (V0 (Proc.devRef .tc main_v145_9)) (broadcastInDim S1x8x128x4x256 ![1, 2, 3, 4] bcast_S8x128x4x256_S1x8x128x4x256_1_2_3_4 (addf (transpose S8x128x4x256 [0, 3, 1, 2] (Host.dotGeneral dot_S8x128x4x256_S8x4x128x128_S8x4x256x128_1_3_3_2_02_01 none (res_main_while0b_v247 V0) (mulf (Host.dotGeneral dot_S8x128x4x128_S8x128x4x128_S8x4x128x128_3_3_1_1_02_02 none (res_main_while0b_v245 V0) (res_main_while0b_v246 V0)) (broadcastInDim S8x4x128x128 ![0, 1, 2, 3] bcast_S1x4x128x128_S8x4x128x128_0_1_2_3 (broadcastInDim S1x4x128x128 ![1, 2, 3] bcast_S4x128x128_S1x4x128x128_1_2_3 (V0 (Proc.devRef .tc main_v145_3)))))) transposes_S8x4x256x128_S8x128x4x256_0_3_1_2) (transpose S8x128x4x256 [0, 3, 1, 2] (Host.dotGeneral dot_S8x4x128x256_S8x128x4x128_S8x4x256x128_2_3_3_1_01_02 none (V0 (Proc.devRef .tc main_v145_8)) (mulf (res_main_while0b_v245 V0) (broadcastInDim S8x128x4x128 ![0, 1, 2, 3] bcast_S1x128x4x1_S8x128x4x128_0_1_2_3 (broadcastInDim S1x128x4x1 ![1, 2] bcast_S128x4_S1x128x4x1_1_2 (V0 (Proc.devRef .tc main_v145_4)))))) transposes_S8x4x256x128_S8x128x4x256_0_3_1_2))) (fun k => (((![V0 (Proc.devRef .tc main_v145_7), constantI S_ 32 0#32, constantI S_ 32 0#32, constantI S_ 32 0#32, constantI S_ 32 0#32] : Fin 5 → (⟨S_, .i32⟩ : BufTy).Contents (Elt F))) k (Shape.Idx.first h_S_)).toInt) updateFits_S64x8x128x4x256_S1x8x128x4x256 : (Proc.devRef .tc main_while0b_v268 : DevRef τ sig).ty.Contents (Elt F)) = Cert.MixRefIdeal.Step.b43 j s := by
  unfold Cert.MixRefIdeal.Step.b43
  rw [← al_38 h, ← al_39 h, ← al_40 h, ← al_41 h, ← al_42 h, h.f_9, h.n_7]
  try rfl

/-! One trip's step of the carried values is `step`, field by field; a counter steps to the next number. -/

theorem step_8 (h : Holds V0 s j) : step_main_v145_8 V0 = (step j s).main_v145_8 := by
  unfold step_main_v145_8 Cert.MixRefIdeal.Step.step
  show id (addf (mulf (broadcastInDim S8x4x128x256 ![0, 1, 2, 3] bcast_S1x4x1x1_S8x4x128x256_0_1_2_3 (broadcastInDim S1x4x1x1 ![1] bcast_S4_S1x4x1x1_1 (V0 (Proc.devRef .tc main_v145_6)))) (V0 (Proc.devRef .tc main_v145_8))) (Host.dotGeneral dot_S8x128x4x128_S8x128x4x256_S8x4x128x256_1_1_3_3_02_02 none (res_main_while0b_v246 V0) (mulf (res_main_while0b_v247 V0) (broadcastInDim S8x128x4x256 ![0, 1, 2, 3] bcast_S1x128x4x1_S8x128x4x256_0_1_2_3 (broadcastInDim S1x128x4x1 ![1, 2] bcast_S128x4_S1x128x4x1_1_2 (V0 (Proc.devRef .tc main_v145_5))))))) = _
  rw [al_36 h]
  try rfl
theorem step_9 (h : Holds V0 s j) : step_main_v145_9 V0 = (step j s).main_v145_9 := (congrArg id (al_43 h)).trans (by unfold Cert.MixRefIdeal.Step.step; rfl)
theorem step_7 (h : Holds V0 s j) : step_main_v145_7 V0 = constantI S_ 32 (BitVec.ofNat 32 (j + 1)) := by
  unfold step_main_v145_7
  rw [h.n_7]
  funext i
  show BitVec.ofNat 32 j + 1#32 = BitVec.ofNat 32 (j + 1)
  simp only [BitVec.ofNat_add]

set_option maxRecDepth 8192 in
theorem out_main_v244_holds (h : Holds V0 s j) {x_main_arg0 : (⟨S8x8192x1024, .f32⟩ : BufTy).Contents (Elt F)} (h_main_arg0 : V0 (Proc.devRef .tc main_arg0) = x_main_arg0) {x_main_arg1 : (⟨S8x8192x512, .f32⟩ : BufTy).Contents (Elt F)} (h_main_arg1 : V0 (Proc.devRef .tc main_arg1) = x_main_arg1) {x_main_arg3 : (⟨S1x1024, .f32⟩ : BufTy).Contents (Elt F)} (h_main_arg3 : V0 (Proc.devRef .tc main_arg3) = x_main_arg3) {x_main_arg4 : (⟨S1x1024x5632, .f32⟩ : BufTy).Contents (Elt F)} (h_main_arg4 : V0 (Proc.devRef .tc main_arg4) = x_main_arg4) {x_main_arg10 : (⟨S1x512x1024, .f32⟩ : BufTy).Contents (Elt F)} (h_main_arg10 : V0 (Proc.devRef .tc main_arg10) = x_main_arg10) {x_main_arg11 : (⟨S1x512x1024, .f32⟩ : BufTy).Contents (Elt F)} (h_main_arg11 : V0 (Proc.devRef .tc main_arg11) = x_main_arg11) {x_main_arg12 : (⟨S1x1024x1024, .f32⟩ : BufTy).Contents (Elt F)} (h_main_arg12 : V0 (Proc.devRef .tc main_arg12) = x_main_arg12) {x_main_arg13 : (⟨S1x1024x1024, .f32⟩ : BufTy).Contents (Elt F)} (h_main_arg13 : V0 (Proc.devRef .tc main_arg13) = x_main_arg13) {x_main_arg14 : (⟨S1x1024, .f32⟩ : BufTy).Contents (Elt F)} (h_main_arg14 : V0 (Proc.devRef .tc main_arg14) = x_main_arg14) : out_main_v244 V0 = Cert.MixRefIdeal.Step.R_main_v244 s x_main_arg0 x_main_arg1 x_main_arg3 x_main_arg4 x_main_arg10 x_main_arg11 x_main_arg12 x_main_arg13 x_main_arg14 := by
  unfold out_main_v244 Cert.MixRefIdeal.Step.R_main_v244
  rw [h.f_9, h_main_arg0, h_main_arg1, h_main_arg3, h_main_arg4, h_main_arg10, h_main_arg11, h_main_arg12, h_main_arg13, h_main_arg14]
  try rfl

/-- One trip keeps the valuation holding: `step` of the state, the same set-up values, the next number. -/
theorem holds_step (h : Holds V0 s j) : Holds (STEP V0) (step j s) (j + 1) where
  f_8 := (STEP_main_v145_8 V0).trans (step_8 h)
  f_9 := (STEP_main_v145_9 V0).trans (step_9 h)
  n_7 := (STEP_main_v145_7 V0).trans (step_7 h)
  k_3 := (STEP_main_v145_3 V0).trans h.k_3
  k_4 := (STEP_main_v145_4 V0).trans h.k_4
  k_5 := (STEP_main_v145_5 V0).trans h.k_5
  k_6 := (STEP_main_v145_6 V0).trans h.k_6
  f_0 := (STEP_main_v145_0 V0).trans h.f_0
  f_1 := (STEP_main_v145_1 V0).trans h.f_1
  f_2 := (STEP_main_v145_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `MixRefIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v244) = Cert.MixRefIdeal.Step.R_main_v244 (it c 64) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    have hk := holds_iter m c (it c) (h0 c) (hs c) 64
    ⟨(h c).1.trans (out_main_v244_holds hk (iter_main_arg0 m c 64) (iter_main_arg1 m c 64) (iter_main_arg3 m c 64) (iter_main_arg4 m c 64) (iter_main_arg10 m c 64) (iter_main_arg11 m c 64) (iter_main_arg12 m c 64) (iter_main_arg13 m c 64) (iter_main_arg14 m c 64)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2⟩) (Value.run m ρ)

end Cert.MixRefRun

end
-- ==== Proof.FfnSpec.lean ====
/- Hand-written, untrusted: THE FEED-FORWARD HALF OF THE LAYER, ONE TOKEN AT A TIME, over extended reals: the scaled
   root-mean-square norm of a row, the gated hidden value, and the row of the result. Both programs are shown to hold
   these functions of the argument arrays. Also the two facts of arithmetic between the two texts: the sigmoid through
   the hyperbolic tangent, and the sum over the hidden values cut into the kernel's three chunks. -/
module

public import Idealize.ShloMosaic.PureOps.Ideal.Laws
public import Idealize.ShloMosaic.Lib.IdealHost
public import Idealize.ShloMosaic.Lib.ValueIdxCore
public import Idealize.ShloMosaic.Lib.Pointwise.Tactic

@[expose] public section

noncomputable section

namespace Cert.Spec

open Idealize.ShloMosaic

/-- A value of a row divided by the root of the row's mean square (with the small addend), times its gain. -/
def nrm (v w : Fin 1024 → EReal) (c : Fin 1024) : EReal :=
  v c * Ideal.rsqrt (Ideal.div (∑ k, v k * v k) (Ideal.ofBits .f32 0x44800000#32) + Ideal.ofBits .f32 0x358637BD#32) * w c

/-- `g` times its logistic value. -/
def silu (g : EReal) : EReal := g * Ideal.div 1 (1 + Ideal.exp (-g))

/-- One gated hidden value of a normed row: the two columns of weights are `a` and `b`. -/
def hid (n a b : Fin 1024 → EReal) : EReal := silu (∑ k, n k * a k) * ∑ k, n k * b k

/-- One row of the result. -/
def ffnRow (x pre : Fin 1024 → EReal) (wg wu : Fin 1024 → Fin 2816 → EReal) (wd : Fin 2816 → Fin 1024 → EReal)
    (post : Fin 1024 → EReal) (c : Fin 1024) : EReal :=
  x c + nrm (fun c => ∑ j, hid (nrm x pre) (fun k => wg k j) (fun k => wu k j) * wd j c) post c

/-- The word of one half denotes one half. -/
theorem half_bits : Ideal.ofBits .f32 0x3F000000#32 = ((1 / 2 : ℝ) : EReal) := by
  have h : (1056964608 >>> 23 % 256 : ℕ) = 126 := by decide
  have hs : BitVec.extractLsb' 31 1 1056964608#32 = 0#1 := by decide
  simp only [Ideal.ofBits, Ideal.ieee]
  norm_num [h, hs]

/-- The kernel's sigmoid is the logistic function, at the infinities too. -/
theorem half_tanh (g : EReal) :
    Ideal.ofBits .f32 0x3F000000#32 * Ideal.tanh (Ideal.ofBits .f32 0x3F000000#32 * g) + Ideal.ofBits .f32 0x3F000000#32
      = Ideal.div 1 (1 + Ideal.exp (-g)) := by
  rw [half_bits]
  show _ = Ideal.logistic g
  induction g using EReal.rec with
  | bot =>
    rw [EReal.coe_mul_bot_of_pos (by norm_num), Ideal.tanh_bot, Ideal.logistic_bot]
    rw [mul_neg, mul_one, ← EReal.coe_neg, ← EReal.coe_add]
    norm_num
  | top =>
    rw [EReal.coe_mul_top_of_pos (by norm_num), Ideal.tanh_top, Ideal.logistic_top]
    norm_cast; norm_num
  | coe r =>
    rw [← EReal.coe_mul, Ideal.tanh_coe, ← EReal.coe_mul, ← EReal.coe_add, Ideal.logistic_coe]
    norm_cast
    rw [Real.tanh_eq_sinh_div_cosh, Real.sinh_eq, Real.cosh_eq]
    have h1 : Real.exp (-r) = Real.exp (-(1 / 2 * r)) * Real.exp (-(1 / 2 * r)) := by rw [← Real.exp_add]; ring_nf
    have h2 : Real.exp (1 / 2 * r) * Real.exp (-(1 / 2 * r)) = 1 := by rw [← Real.exp_add]; simp
    rw [h1]
    have p1 := Real.exp_pos (1 / 2 * r)
    have p2 := Real.exp_pos (-(1 / 2 * r))
    set a := Real.exp (1 / 2 * r)
    set b := Real.exp (-(1 / 2 * r))
    have hb : b = 1 / a := by field_simp; linarith
    rw [hb]
    field_simp
    ring

/-- A sum over the 2816 hidden values, in the kernel's three chunks. -/
theorem sum_chunks {M : Type*} [AddCommMonoid M] (f : Fin 2816 → M) :
    ∑ j, f j = ∑ k : Fin 1024, f ⟨k.val, by omega⟩ + ∑ k : Fin 1024, f ⟨1024 + k.val, by omega⟩
      + ∑ k : Fin 768, f ⟨2048 + k.val, by omega⟩ := by
  have e1 := Fin.sum_univ_add (a := 2048) (b := 768) f
  have e2 := Fin.sum_univ_add (a := 1024) (b := 1024) (fun i : Fin (1024 + 1024) => f (Fin.castAdd 768 i))
  exact e1.trans (congrArg (· + _) e2)

end Cert.Spec

end
-- ==== Proof.FfnBlock.lean ====
/- Hand-written, untrusted: WHAT ONE GRID POINT OF THE FEED-FORWARD CALL WRITES, index by index. The four stores of a
   point are one function (`rowBlock`) of four row blocks of its input, and that function at an index is
   `Cert.Spec.ffnRow` of the input's row. -/
module

public import proofs.«01_k».proof.Proof.FfnSpec
public import proofs.«01_k».proof.Proof.Gen.FfnIdeal.Value
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pointwise.Tactic
public import Idealize.ShloMosaic.Lib.Pointwise

@[expose] public section

noncomputable section

namespace Cert.FfnValue

open Cert.FfnIdeal Cert.FfnIdeal.Gen Cert.Spec Idealize.ShloMosaic

/-- One row block's stored value, of the row block, the gains and the chunks of the weights. -/
def rowBlock (x : Vec Ideal S256x1024 .f32) (pre : Vec Ideal S1x1024 .f32)
    (g0 u0 d0 g1 u1 d1 : Vec Ideal S1024x1024 .bf16) (g2 u2 : Vec Ideal S1024x768 .bf16) (d2 : Vec Ideal S768x1024 .bf16)
    (post : Vec Ideal S1x1024 .f32) : Vec Ideal S256x1024 .f32 :=
  k0_pay6 (k0_pay5 (k0_pay2 x pre) (k0_pay3 x pre g0 u0 d0) (k0_pay4 g1) u1 d1 g2 u2 d2) x post

/-- The normed row block at an index. -/
theorem pay2_apply (x : Vec Ideal S256x1024 .f32) (pre : Vec Ideal S1x1024 .f32) (r : Fin 256) (c : Fin 1024) :
    k0_pay2 (F := Ideal) x pre (ix2 r c) = nrm (fun k => x (ix2 r k)) (fun k => pre (ix2 0 k)) c := by
  pointwise [k0_pay2, nrm]

theorem pay3_apply (x : Vec Ideal S256x1024 .f32) (pre : Vec Ideal S1x1024 .f32) (g0 u0 d0 : Vec Ideal S1024x1024 .bf16) (r : Fin 256) (c : Fin 1024) :
    k0_pay3 (F := Ideal) x pre g0 u0 d0 (ix2 r c)
      = ∑ k : Fin 1024, hid (fun i => k0_pay2 (F := Ideal) x pre (ix2 r i)) (fun i => g0 (ix2 i k)) (fun i => u0 (ix2 i k)) * d0 (ix2 k c) := by
  pointwise [k0_pay3, half_tanh, hid, silu]

theorem pay6_apply (f : Vec Ideal S256x1024 .f32) (x : Vec Ideal S256x1024 .f32) (post : Vec Ideal S1x1024 .f32) (r : Fin 256) (c : Fin 1024) :
    k0_pay6 (F := Ideal) f x post (ix2 r c) = x (ix2 r c) + nrm (fun k => f (ix2 r k)) (fun k => post (ix2 0 k)) c := by
  pointwise [k0_pay6, nrm]

theorem pay5_apply (n : FVec Ideal S256x1024 .bf16) (f : FVec Ideal S256x1024 .f32)
    (g1 u1 d1 : Vec Ideal S1024x1024 .bf16) (g2 u2 : Vec Ideal S1024x768 .bf16) (d2 : Vec Ideal S768x1024 .bf16) (r : Fin 256) (c : Fin 1024) :
    k0_pay5 (F := Ideal) n f g1 u1 d1 g2 u2 d2 (ix2 r c)
      = f (ix2 r c) + ∑ k : Fin 1024, hid (fun i => n (ix2 r i)) (fun i => g1 (ix2 i k)) (fun i => u1 (ix2 i k)) * d1 (ix2 k c)
        + ∑ k : Fin 768, hid (fun i => n (ix2 r i)) (fun i => g2 (ix2 i k)) (fun i => u2 (ix2 i k)) * d2 (ix2 k c) := by
  pointwise [k0_pay5, half_tanh, hid, silu]

/-- A row block's stored value at an index, when its loads are parts of the blocks `x0` to `x5`, the rows from `o` on. -/
theorem rowBlock_apply (x0 : Vec Ideal S1024x1024 .f32) (x1 : Vec Ideal S1x1024 .f32) (x2 x3 : Vec Ideal S1024x2816 .bf16)
    (x4 : Vec Ideal S2816x1024 .bf16) (x5 : Vec Ideal S1x1024 .f32) (xr : Vec Ideal S256x1024 .f32) (R : Fin 1024) (r : Fin 256)
    (hx : ∀ k, xr (ix2 r k) = x0 (ix2 R k)) (c : Fin 1024) :
    rowBlock xr (View.ld x1 r0_1) (View.ld x2 r0_2) (View.ld x3 r0_2) (View.ld x4 r0_3) (View.ld x2 r0_4) (View.ld x3 r0_4)
        (View.ld x4 r0_5) (View.ld x2 r0_6) (View.ld x3 r0_6) (View.ld x4 r0_7) (View.ld x5 r0_1) (ix2 r c)
      = ffnRow (fun k => x0 (ix2 R k)) (fun k => x1 (ix2 0 k)) (fun k j => x2 (ix2 k j)) (fun k j => x3 (ix2 k j))
          (fun j k => x4 (ix2 j k)) (fun k => x5 (ix2 0 k)) c := by
  unfold rowBlock ffnRow
  rw [pay6_apply, hx]
  simp only [pay5_apply, pay3_apply, pay2_apply, hx, sum_chunks, k0_pay4]
  pointwise

/-- What a point writes, index by index. -/
theorem out_apply (x0 : Vec Ideal S1024x1024 .f32) (x1 : Vec Ideal S1x1024 .f32) (x2 x3 : Vec Ideal S1024x2816 .bf16)
    (x4 : Vec Ideal S2816x1024 .bf16) (x5 : Vec Ideal S1x1024 .f32) (y : S1024x1024.Idx) :
    out0_6 x0 x1 x2 x3 x4 x5 y
      = ffnRow (fun k => x0 (ix2 (y 0) k)) (fun k => x1 (ix2 0 k)) (fun k j => x2 (ix2 k j)) (fun k j => x3 (ix2 k j))
          (fun j k => x4 (ix2 j k)) (fun k => x5 (ix2 0 k)) (y 1) := by
  refine View.canon_eq_of_allAt _ y _ (cover0_6 _ _ _ _ y) ?_
  have key (o : ℕ) (inb : ∀ a, (![o, 0] : Fin 2 → ℕ) a + S256x1024.size a ≤ S1024x1024.size a) :
      View.TileAt y (![o, 0] : Fin 2 → ℕ) S256x1024.size
        (rowBlock (View.ld x0 (Rect.unit (s := S1024x1024) ![o, 0] S256x1024.size inb)) (View.ld x1 r0_1) (View.ld x2 r0_2) (View.ld x3 r0_2)
          (View.ld x4 r0_3) (View.ld x2 r0_4) (View.ld x3 r0_4) (View.ld x4 r0_5) (View.ld x2 r0_6) (View.ld x3 r0_6) (View.ld x4 r0_7) (View.ld x5 r0_1))
        (ffnRow (fun k => x0 (ix2 (y 0) k)) (fun k => x1 (ix2 0 k)) (fun k j => x2 (ix2 k j)) (fun k j => x3 (ix2 k j))
          (fun j k => x4 (ix2 j k)) (fun k => x5 (ix2 0 k)) (y 1)) := by
    intro x hx
    have h0 : ((y 0 : Fin 1024) : ℕ) = o + (x 0 : Fin 256) := hx 0
    have h1 : ((y 1 : Fin 1024) : ℕ) = 0 + (x 1 : Fin 1024) := hx 1
    have e1 : (x 1 : Fin 1024) = y 1 := Fin.ext (by omega)
    have ex : x = ix2 (x 0 : Fin 256) (y 1 : Fin 1024) := by
      funext a; match a with
        | ⟨0, _⟩ => rfl
        | ⟨1, _⟩ => exact e1
    rw [ex]
    refine rowBlock_apply x0 x1 x2 x3 x4 x5 _ (y 0) (x 0) (fun k => ?_) (y 1)
    refine congrArg x0 (funext fun a => Fin.ext ?_)
    match a with
    | ⟨0, _⟩ => show o + 1 * ((x 0 : Fin 256) : ℕ) = ((y 0 : Fin 1024) : ℕ); omega
    | ⟨1, _⟩ => show 0 + 1 * (k : ℕ) = (k : ℕ); omega
  refine View.allAt_cons_unit _ _ _ _ _ (key 768 _) (View.allAt_cons_unit _ _ _ _ _ (key 512 _)
    (View.allAt_cons_unit _ _ _ _ _ (key 256 _) (View.allAt_cons_unit _ _ _ _ _ (key 0 _) (View.allAt_nil _ _))))

end Cert.FfnValue

end
-- ==== Proof.FfnKernel.lean ====
/- Hand-written, untrusted: THE FEED-FORWARD CALL'S RESULT ARRAY AS ONE FUNCTION OF THE ARGUMENT ARRAYS (`result`): row
   `t` of the 65536 is `Cert.Spec.ffnRow` of row `t` of the input. The blocks that the windows bring in are read off the
   arguments through the host's reshapes and casts. -/
module

public import proofs.«01_k».proof.Proof.FfnBlock

@[expose] public section

noncomputable section

namespace Cert.FfnValue

open Cert.FfnIdeal Cert.FfnIdeal.Gen Cert.Spec Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result of argument arrays, at row `t` and column `c`. -/
def result (x0 : Vec Ideal S8x8192x1024 .f32) (x1 : Vec Ideal S1x1024 .f32) (x2 x3 : Vec Ideal S1x1024x2816 .f32)
    (x4 : Vec Ideal S1x2816x1024 .f32) (x5 : Vec Ideal S1x1024 .f32) : Vec Ideal S65536x1024 .f32 := fun i =>
  ffnRow (fun k => x0 (ix3 ⟨(i 0).val / 8192, Nat.div_lt_of_lt_mul (i 0).isLt⟩ ⟨(i 0).val % 8192, Nat.mod_lt _ (by decide)⟩ k))
    (fun k => x1 (ix2 0 k)) (fun k j => x2 (ix3 0 k j)) (fun k j => x3 (ix3 0 k j)) (fun j k => x4 (ix3 0 j k)) (fun k => x5 (ix2 0 k)) (i 1)

theorem V0 (c : Dev nD) : V m c main_v0 = shapeCast S65536x1024 (m ((c : Thread nD τ).loc main_arg0)) shapeCasts_S8x8192x1024_S65536x1024 := by
  unfold V; simp only [hostOps0]; after_results_simp; rfl
theorem V2 (c : Dev nD) : V m c main_v2 = shapeCast S1x1024 (shapeCast S1024 (m ((c : Thread nD τ).loc main_arg1)) shapeCasts_S1x1024_S1024) shapeCasts_S1024_S1x1024 := by
  unfold V; simp only [hostOps0]; after_results_simp; rfl
theorem V4 (c : Dev nD) : V m c main_v4 = truncf (F := Ideal) (φ := .f32) .bf16 (shapeCast S1024x2816 (m ((c : Thread nD τ).loc main_arg2)) shapeCasts_S1x1024x2816_S1024x2816) bitsLt_bf16_f32 := by
  unfold V; simp only [hostOps0]; after_results_simp; rfl
theorem V6 (c : Dev nD) : V m c main_v6 = truncf (F := Ideal) (φ := .f32) .bf16 (shapeCast S1024x2816 (m ((c : Thread nD τ).loc main_arg3)) shapeCasts_S1x1024x2816_S1024x2816) bitsLt_bf16_f32 := by
  unfold V; simp only [hostOps0]; after_results_simp; rfl
theorem V8 (c : Dev nD) : V m c main_v8 = truncf (F := Ideal) (φ := .f32) .bf16 (shapeCast S2816x1024 (m ((c : Thread nD τ).loc main_arg4)) shapeCasts_S1x2816x1024_S2816x1024) bitsLt_bf16_f32 := by
  unfold V; simp only [hostOps0]; after_results_simp; rfl
theorem V10 (c : Dev nD) : V m c main_v10 = shapeCast S1x1024 (shapeCast S1024 (m ((c : Thread nD τ).loc main_arg5)) shapeCasts_S1x1024_S1024) shapeCasts_S1024_S1x1024 := by
  unfold V; simp only [hostOps0]; after_results_simp; rfl

theorem e0 : ∀ t : Fin cfg0.N, win0_0.index t = ![(grid0.coords t 0).val, 0] := (by decide +kernel : ∀ t : Fin grid0.N, _)
theorem e6 : ∀ t : Fin cfg0.N, win0_6.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)

/-- Equal inputs give equal rows. -/
theorem ffnRow_congr {x x' g g' h h' : Fin 1024 → EReal} {a a' b b' : Fin 1024 → Fin 2816 → EReal} {d d' : Fin 2816 → Fin 1024 → EReal}
    (hx : ∀ k, x k = x' k) (hg : ∀ k, g k = g' k) (ha : ∀ k j, a k j = a' k j) (hb : ∀ k j, b k j = b' k j)
    (hd : ∀ j k, d j k = d' j k) (hh : ∀ k, h k = h' k) (i : Fin 1024) : ffnRow x g a b d h i = ffnRow x' g' a' b' d' h' i := by
  obtain rfl := funext hx; obtain rfl := funext hg; obtain rfl := funext hh
  obtain rfl := funext fun k => funext (ha k); obtain rfl := funext fun k => funext (hb k); obtain rfl := funext fun k => funext (hd k)
  rfl

/-- The host's arrays at an index. -/
theorem V0_apply (c : Dev nD) (R : Fin 65536) (k : Fin 1024) : V m c main_v0 (ix2 R k)
    = m ((c : Thread nD τ).loc main_arg0) (ix3 ⟨R.val / 8192, Nat.div_lt_of_lt_mul R.isLt⟩ ⟨R.val % 8192, Nat.mod_lt _ (by decide)⟩ k) := by
  rw [V0]
  exact shapeCast_apply (s := S8x8192x1024) (t := S65536x1024) _ _ (ix2 R k) (ix3 ⟨R.val / 8192, Nat.div_lt_of_lt_mul R.isLt⟩ ⟨R.val % 8192, Nat.mod_lt _ (by decide)⟩ k)
    (by rw [Shape.rowMajor_val_three, Shape.rowMajor_val_two]; show (R.val / 8192 * 8192 + R.val % 8192) * 1024 + k.val = R.val * 1024 + k.val; omega)
theorem V2_apply (c : Dev nD) (k : Fin 1024) : V m c main_v2 (ix2 0 k) = m ((c : Thread nD τ).loc main_arg1) (ix2 0 k) := by
  rw [V2]; pointwise
theorem V4_apply (c : Dev nD) (k : Fin 1024) (j : Fin 2816) : V m c main_v4 (ix2 k j) = m ((c : Thread nD τ).loc main_arg2) (ix3 0 k j) := by
  rw [V4]
  exact shapeCast_apply (s := S1x1024x2816) (t := S1024x2816) _ _ (ix2 k j) (ix3 0 k j)
    (by rw [Shape.rowMajor_val_three, Shape.rowMajor_val_two]; show (0 * 1024 + k.val) * 2816 + j.val = k.val * 2816 + j.val; omega)
theorem V6_apply (c : Dev nD) (k : Fin 1024) (j : Fin 2816) : V m c main_v6 (ix2 k j) = m ((c : Thread nD τ).loc main_arg3) (ix3 0 k j) := by
  rw [V6]
  exact shapeCast_apply (s := S1x1024x2816) (t := S1024x2816) _ _ (ix2 k j) (ix3 0 k j)
    (by rw [Shape.rowMajor_val_three, Shape.rowMajor_val_two]; show (0 * 1024 + k.val) * 2816 + j.val = k.val * 2816 + j.val; omega)
theorem V8_apply (c : Dev nD) (j : Fin 2816) (k : Fin 1024) : V m c main_v8 (ix2 j k) = m ((c : Thread nD τ).loc main_arg4) (ix3 0 j k) := by
  rw [V8]
  exact shapeCast_apply (s := S1x2816x1024) (t := S2816x1024) _ _ (ix2 j k) (ix3 0 j k)
    (by rw [Shape.rowMajor_val_three, Shape.rowMajor_val_two]; show (0 * 2816 + j.val) * 1024 + k.val = j.val * 1024 + k.val; omega)
theorem V10_apply (c : Dev nD) (k : Fin 1024) : V m c main_v10 (ix2 0 k) = m ((c : Thread nD τ).loc main_arg5) (ix2 0 k) := by
  rw [V10]; pointwise

/-- The blocks of a point at an index: rows `1024 t` and on of the input, and the whole of every other array. -/
theorem b0 (c : Dev nD) (t : Fin cfg0.N) (r k : Fin 1024) (h : (grid0.coords t 0).val * 1024 + r.val < 65536) :
    iblk m c 0 t (ix2 r k) = V m c main_v0 (ix2 ⟨(grid0.coords t 0).val * 1024 + r.val, h⟩ k) :=
  congrArg (V m c main_v0) (by funext a; apply Fin.ext; match a with | ⟨0, _⟩ => (blk_simp [e0]) | ⟨1, _⟩ => (blk_simp [e0]))
theorem b1 (c : Dev nD) (t : Fin cfg0.N) (j : S1x1024.Idx) : iblk m c 1 t j = V m c main_v2 j :=
  congrArg (V m c main_v2) (by funext a; apply Fin.ext; match a with | ⟨0, _⟩ => (blk_simp [e1]) | ⟨1, _⟩ => (blk_simp [e1]))
theorem b2 (c : Dev nD) (t : Fin cfg0.N) (j : S1024x2816.Idx) : iblk m c 2 t j = V m c main_v4 j :=
  congrArg (V m c main_v4) (by funext a; apply Fin.ext; match a with | ⟨0, _⟩ => (blk_simp [e2]) | ⟨1, _⟩ => (blk_simp [e2]))
theorem b3 (c : Dev nD) (t : Fin cfg0.N) (j : S1024x2816.Idx) : iblk m c 3 t j = V m c main_v6 j :=
  congrArg (V m c main_v6) (by funext a; apply Fin.ext; match a with | ⟨0, _⟩ => (blk_simp [e3]) | ⟨1, _⟩ => (blk_simp [e3]))
theorem b4 (c : Dev nD) (t : Fin cfg0.N) (j : S2816x1024.Idx) : iblk m c 4 t j = V m c main_v8 j :=
  congrArg (V m c main_v8) (by funext a; apply Fin.ext; match a with | ⟨0, _⟩ => (blk_simp [e4]) | ⟨1, _⟩ => (blk_simp [e4]))
theorem b5 (c : Dev nD) (t : Fin cfg0.N) (j : S1x1024.Idx) : iblk m c 5 t j = V m c main_v10 j :=
  congrArg (V m c main_v10) (by funext a; apply Fin.ext; match a with | ⟨0, _⟩ => (blk_simp [e5]) | ⟨1, _⟩ => (blk_simp [e5]))

/-- The result array after the run. -/
theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  have hy0 : ((y 0 : Fin 1024) : ℕ) < 1024 := (y 0 : Fin 1024).isLt
  have ht : (grid0.coords t 0).val < 64 := (grid0.coords t 0).isLt
  have a6 : ((cfg0.win 6).blk t).view.emb y
      = (ix2 (⟨(grid0.coords t 0).val * 1024 + (y 0 : Fin 1024).val, by omega⟩ : Fin 65536) (y 1 : Fin 1024) : S65536x1024.Idx) := by
    funext a; apply Fin.ext; match a with | ⟨0, _⟩ => (blk_simp [e6]; rfl) | ⟨1, _⟩ => (blk_simp [e6]; rfl)
  refine Eq.trans ?_ (congrArg (result _ _ _ _ _ _) a6).symm
  blk_simp
  rw [after0_6, out_apply]
  simp only [b1, b2, b3, b4, b5, b0 m c t _ _ (show (grid0.coords t 0).val * 1024 + (y 0 : Fin 1024).val < 65536 by omega)]
  exact ffnRow_congr (fun k => V0_apply m c _ k) (fun k => V2_apply m c k) (fun k j => V4_apply m c k j) (fun k j => V6_apply m c k j)
    (fun j k => V8_apply m c j k) (fun k => V10_apply m c k) _

end Cert.FfnValue

end
-- ==== Proof.FfnRef.lean ====
/- Hand-written, untrusted: THE REFERENCE'S RESULT ARRAY IS THE SAME FUNCTION (`Cert.FfnValue.result`) of its arguments:
   the generated stages read at an index, one after another. -/
module

public import proofs.«01_k».proof.Proof.FfnKernel
public import proofs.«01_k».proof.Proof.Gen.FfnRefIdeal.Read

@[expose] public section

noncomputable section

namespace Cert.FfnRefValue

open Cert.FfnRefIdeal Cert.FfnRefIdeal.Gen Cert.FfnRefIdeal.Read Cert.Spec Idealize.ShloMosaic

variable (x0 : Vec Ideal S8x8192x1024 .f32) (x1 : Vec Ideal S1x1024 .f32) (x2 x3 : Vec Ideal S1x1024x2816 .f32)
    (x4 : Vec Ideal S1x2816x1024 .f32) (x5 : Vec Ideal S1x1024 .f32)

/-- The normed input. -/
theorem v13 (b : Fin 8) (t : Fin 8192) (c : Fin 1024) :
    val_main_v13 (F := Ideal) x0 x1 (ix3 b t c) = nrm (fun k => x0 (ix3 b t k)) (fun k => x1 (ix2 0 k)) c := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, nrm]

/-- The gated hidden values. -/
theorem v19 (b : Fin 8) (t : Fin 8192) (j : Fin 2816) :
    val_main_v19 (F := Ideal) x0 x1 x2 x3 (ix3 b t j)
      = hid (nrm (fun k => x0 (ix3 b t k)) (fun k => x1 (ix2 0 k))) (fun k => x2 (ix3 0 k j)) (fun k => x3 (ix3 0 k j)) := by
  pointwise [val_main_v19, val_main_v18, val_main_v17, val_main_v16, val_main_v15, val_main_v14, val_main_call0_v0, val_main_call0_v1, val_main_call0_v2, val_main_call0_v3, val_main_call0_v4, val_main_call0_v5, val_main_call0_cst, val_main_call0_cst_0, v13, hid, silu]

/-- The second product. -/
theorem v21 (b : Fin 8) (t : Fin 8192) (c : Fin 1024) :
    val_main_v21 (F := Ideal) x0 x1 x2 x3 x4 (ix3 b t c)
      = ∑ j, hid (nrm (fun k => x0 (ix3 b t k)) (fun k => x1 (ix2 0 k))) (fun k => x2 (ix3 0 k j)) (fun k => x3 (ix3 0 k j)) * x4 (ix3 0 j c) := by
  pointwise [val_main_v21, val_main_v20, v19]

/-- The result before its reshape. -/
theorem v36 (b : Fin 8) (t : Fin 8192) (c : Fin 1024) :
    val_main_v36 (F := Ideal) x0 x1 x2 x3 x4 x5 (ix3 b t c)
      = ffnRow (fun k => x0 (ix3 b t k)) (fun k => x1 (ix2 0 k)) (fun k j => x2 (ix3 0 k j)) (fun k j => x3 (ix3 0 k j))
          (fun j k => x4 (ix3 0 j k)) (fun k => x5 (ix2 0 k)) c := by
  pointwise [val_main_v36, val_main_v35, val_main_v34, val_main_v33, val_main_v32, val_main_v31, val_main_v30, val_main_v29, val_main_v28, val_main_v27, val_main_v26, val_main_v25, val_main_v24, val_main_v23, val_main_v22, val_main_cst_2, val_main_cst_3, val_main_cst_4, v21, ffnRow, nrm]

/-- The whole result. -/
theorem v37 : val_main_v37 (F := Ideal) x0 x1 x2 x3 x4 x5 = Cert.FfnValue.result x0 x1 x2 x3 x4 x5 := by
  funext i
  have hi0 : (i 0).val < 65536 := (i 0).isLt
  have hi1 : (i 1).val < 1024 := (i 1).isLt
  have h : idx_main_v37 i = ix3 ⟨(i 0).val / 8192, Nat.div_lt_of_lt_mul hi0⟩ ⟨(i 0).val % 8192, Nat.mod_lt _ (by decide)⟩ ⟨(i 1).val, hi1⟩ := by
    funext a
    apply Fin.ext
    match a with
    | ⟨0, _⟩ => show ((i 0).val * 1024 + (i 1).val) / 8388608 = (i 0).val / 8192; omega
    | ⟨1, _⟩ => show ((i 0).val * 1024 + (i 1).val) / 1024 % 8192 = (i 0).val % 8192; omega
    | ⟨2, _⟩ => show ((i 0).val * 1024 + (i 1).val) % 1024 = (i 1).val; omega
  rw [val_main_v37_apply, h, v36]
  rfl

end Cert.FfnRefValue

end
-- ==== Proof.FfnClaim.lean ====
/- Hand-written, untrusted: the feed-forward's value claim and its reference's frame, from the two results. -/
module

public import proofs.«01_k».proof.Defs
public import proofs.«01_k».proof.Proof.FfnRef

@[expose] public section

noncomputable section

namespace Cert.Proof

open Idealize.ShloMosaic Idealize.SL.Sem

/-- The kernel and the reference compute the same result array. -/
theorem algebraic : algebraic_FfnIdeal_FfnRefIdeal := by
  intro m g m' g' _ hagree
  refine ⟨fun c => Cert.FfnValue.result (m ((c.tc : Thread _ _).loc Cert.FfnIdeal.main_arg0)) (m ((c.tc : Thread _ _).loc Cert.FfnIdeal.main_arg1))
    (m ((c.tc : Thread _ _).loc Cert.FfnIdeal.main_arg2)) (m ((c.tc : Thread _ _).loc Cert.FfnIdeal.main_arg3))
    (m ((c.tc : Thread _ _).loc Cert.FfnIdeal.main_arg4)) (m ((c.tc : Thread _ _).loc Cert.FfnIdeal.main_arg5)), ?_, ?_⟩
  · exact (θ_run _ _ _).mono (fun r h c => ⟨(h c).1.trans (Cert.FfnValue.final m c), (h c).2⟩) (Cert.FfnIdeal.Value.run_blocks m g)
  · refine (θ_run _ _ _).mono (fun r h c => ⟨?_, (h c).2⟩) (Cert.FfnRefIdeal.Value.run m' g')
    obtain ⟨h0, h1, h2, h3, h4, h5⟩ := hagree c
    rw [(h c).1, Cert.FfnRefIdeal.Read.val_main_v37_eq m' c, Cert.FfnRefValue.v37, h0, h1, h2, h3, h4, h5]

/-- The reference runs, keeps its arguments and declares no semaphore. -/
theorem frameRef : quiescent_FfnRefIdeal :=
  fun m ρ _ => (θ_run _ _ _).mono (fun r h => ⟨fun c => (h c).2, sem_eq_zero_of_no_sems (by decide) r.2⟩) (Cert.FfnRefIdeal.Value.run m ρ)

end Cert.Proof

end
-- ==== Proof.MixSpec.lean ====
/- Hand-written, untrusted: THE RETENTION HALF OF THE MIXER, OVER EXTENDED REALS: the projections of a normed row, the rotary
   turn, the decay tables, the state that one chunk of 128 tokens hands the next, the retention of a token, and the row of
   the result. Both programs are shown to hold these functions of the argument arrays. -/
module

public import proofs.«01_k».proof.Proof.FfnSpec

@[expose] public section

noncomputable section

namespace Cert.Spec

open Idealize.ShloMosaic

/-- A word as a number. -/
abbrev num (n : ℕ) : EReal := FloatOps.sitofp (F := Ideal) .f32 (BitVec.ofNat 32 n)

/-- The angle by which one position turns pair `d`. -/
def freq (d : ℕ) : EReal :=
  Ideal.pow (Ideal.ofBits .f32 0x461C4000#32) (Ideal.div (-(0 + Ideal.ofBits .f32 0x40000000#32 * num d)) (Ideal.ofBits .f32 0x43000000#32))

/-- The logarithm of head `h`'s decay. -/
def lg (h : ℕ) : EReal := Ideal.log (1 - Ideal.pow (Ideal.ofBits .f32 0x40000000#32) (Ideal.ofBits .f32 0xC0A00000#32 - num h))

/-- The decay from token `j` of a chunk to token `i` of the same chunk. -/
def dec (h i j : ℕ) : EReal :=
  Scalar.select (FloatOps.cmpf (F := Ideal) (φ := .f32) .oge (num i - num j) 0) (Ideal.exp (lg h * max (num i - num j) 0)) 0

/-- The decay from token `j` of a chunk to the chunk's end. -/
def zeta (h j : ℕ) : EReal := Ideal.exp (lg h * (Ideal.ofBits .f32 0x42FE0000#32 - num j))

/-- The decay from before a chunk to its token `i`. -/
def xi (h i : ℕ) : EReal := Ideal.exp (lg h * (num i + 1))

/-- The decay over a chunk. -/
def cdec (h : ℕ) : EReal := Ideal.exp (lg h * Ideal.ofBits .f32 0x43000000#32)

/-- The rotary turn of a head at position `p`. -/
def rot (z : Fin 128 → EReal) (p : EReal) (d : Fin 128) : EReal :=
  if h : d.val < 64 then z d * Ideal.cos (p * freq d.val) - z ⟨d.val + 64, by omega⟩ * Ideal.sin (p * freq d.val)
  else z ⟨d.val - 64, by omega⟩ * Ideal.sin (p * freq (d.val - 64)) + z d * Ideal.cos (p * freq (d.val - 64))

variable (g : Fin 1024 → EReal) (w : Fin 1024 → Fin 5632 → EReal)

/-- Column `j` of the projection of a row. -/
def pr (x : Fin 1024 → EReal) (j : Fin 5632) : EReal := ∑ k, nrm x g k * w k j

/-- The query, the key and the value of a row at position `p`. -/
def qr (x : Fin 1024 → EReal) (p : EReal) (h : Fin 4) (d : Fin 128) : EReal := rot (fun d => pr g w x ⟨h.val * 128 + d.val, by omega⟩) p d
def kr (x : Fin 1024 → EReal) (p : EReal) (h : Fin 4) (d : Fin 128) : EReal :=
  rot (fun d => pr g w x ⟨512 + (h.val * 128 + d.val), by omega⟩) p d * Ideal.ofBits .f32 0x3DB504F3#32
def vr (x : Fin 1024 → EReal) (h : Fin 4) (e : Fin 256) : EReal := pr g w x ⟨1024 + (h.val * 256 + e.val), by omega⟩

/-- Token `i` of chunk `n`. -/
def tok (n : ℕ) (i : Fin 128) : Fin 8192 := ⟨(n * 128 + i.val) % 8192, Nat.mod_lt _ (by decide)⟩

variable (X : Fin 8192 → Fin 1024 → EReal) (P : Fin 8192 → EReal)

/-- The state after a chunk, of the state before it and of the chunk's keys and values. -/
def stNext (s : Fin 4 → Fin 128 → Fin 256 → EReal) (n : ℕ) (h : Fin 4) (d : Fin 128) (e : Fin 256) : EReal :=
  cdec h.val * s h d e + ∑ j : Fin 128, kr g w (X (tok n j)) (P (tok n j)) h d * (vr g w (X (tok n j)) h e * zeta h.val j.val)

/-- The state before chunk `n`. -/
def st : ℕ → Fin 4 → Fin 128 → Fin 256 → EReal
  | 0 => fun _ _ _ => 0
  | n + 1 => stNext g w X P (st n) n

/-- The retention of token `i` of chunk `n`, of the state before the chunk. -/
def retOf (s : Fin 4 → Fin 128 → Fin 256 → EReal) (n : ℕ) (i : Fin 128) (h : Fin 4) (e : Fin 256) : EReal :=
  (∑ j : Fin 128, (∑ d, qr g w (X (tok n i)) (P (tok n i)) h d * kr g w (X (tok n j)) (P (tok n j)) h d) * dec h.val i.val j.val
      * vr g w (X (tok n j)) h e)
    + (∑ d, qr g w (X (tok n i)) (P (tok n i)) h d * s h d e) * xi h.val i.val

/-- A head's values less their mean, over the root of their variance (with the small addend). -/
def mean (o : Fin 256 → EReal) : EReal := Ideal.div (∑ e, o e) (Ideal.ofBits .f32 0x43800000#32)
def gn (o : Fin 256 → EReal) (e : Fin 256) : EReal :=
  (o e - mean o) * Ideal.rsqrt (Ideal.div (∑ e, (o e - mean o) * (o e - mean o)) (Ideal.ofBits .f32 0x43800000#32) + Ideal.ofBits .f32 0x358637BD#32)

/-- The logistic function. -/
def logi (v : EReal) : EReal := Ideal.div 1 (1 + Ideal.exp (-v))

/-- The gated retention of a row. -/
def gated (x : Fin 1024 → EReal) (o : Fin 4 → Fin 256 → EReal) (c : Fin 1024) : EReal :=
  gn (o ⟨c.val / 256, by omega⟩) ⟨c.val % 256, by omega⟩ * silu (pr g w x ⟨2048 + c.val, by omega⟩)

/-- The smooth gate that the second branch's input goes through. -/
def gelu (v : EReal) : EReal :=
  v * (Ideal.ofBits .f32 0x3F000000#32 * (1 + Ideal.tanh (Ideal.ofBits .f32 0x3F4C422A#32 * (v + Ideal.ofBits .f32 0x3D372713#32 * (v * v * v)))))

variable (ga gb : Fin 512 → Fin 1024 → EReal) (wr wo : Fin 1024 → Fin 1024 → EReal) (gp : Fin 1024 → EReal)

/-- The merge of the two branches. -/
def merged (x : Fin 1024 → EReal) (y : Fin 512 → EReal) (o : Fin 4 → Fin 256 → EReal) (c : Fin 1024) : EReal :=
  logi (pr g w x ⟨3584 + c.val, by omega⟩) * (∑ j, gated g w x o j * wr j c)
    + logi (pr g w x ⟨4608 + c.val, by omega⟩) * ((∑ j, gelu (y j) * ga j c) * logi (∑ j, gelu (y j) * gb j c))

/-- One row of the result, of the row, of the second branch's input and of the row's retention. -/
def mixRow (x : Fin 1024 → EReal) (y : Fin 512 → EReal) (o : Fin 4 → Fin 256 → EReal) (c : Fin 1024) : EReal :=
  x c + nrm (fun c => ∑ j, merged g w ga gb wr x y o j * wo j c) gp c

/-! ## The decays as numbers: what the two orders of the share of the state before the chunk need -/

theorem two_bits : Ideal.ofBits .f32 0x40000000#32 = ((2 : ℝ) : EReal) := by
  have h : (1073741824 >>> 23 % 256 : ℕ) = 128 := by decide
  have hs : BitVec.extractLsb' 31 1 1073741824#32 = 0#1 := by decide
  simp only [Ideal.ofBits, Ideal.ieee]
  norm_num [h, hs]
theorem neg5_bits : Ideal.ofBits .f32 0xC0A00000#32 = ((-5 : ℝ) : EReal) := by
  have h : (3231711232 >>> 23 % 256 : ℕ) = 129 := by decide
  have h2 : (3231711232 % 8388608 : ℕ) = 2097152 := by decide
  have hs : BitVec.extractLsb' 31 1 3231711232#32 = 1#1 := by decide
  simp only [Ideal.ofBits, Ideal.ieee]
  norm_num [h, hs, h2]
theorem num_eq (n : ℕ) (h : n < 1024) : num n = ((n : ℝ) : EReal) := by
  show (((BitVec.ofNat 32 n).toInt : ℝ) : EReal) = _
  have : (BitVec.ofNat 32 n).toInt = (n : ℤ) := by
    rw [BitVec.toInt_eq_toNat_of_lt (by rw [BitVec.toNat_ofNat]; omega), BitVec.toNat_ofNat]; omega
  rw [this]; norm_num

theorem lg_nonpos (h : Fin 4) : lg h.val ≤ 0 := by
  unfold lg
  rw [two_bits, neg5_bits, num_eq _ (by omega)]
  have e : (1 : EReal) - Ideal.pow ((2 : ℝ) : EReal) (((-5 : ℝ) : EReal) - ((h.val : ℝ) : EReal)) = ((1 - Real.rpow 2 (-5 - (h.val : ℝ)) : ℝ) : EReal) := by
    rw [← EReal.coe_sub, Ideal.pow_coe_coe]; norm_cast
  rw [e, Ideal.log_coe]
  split
  · exact bot_le
  · rename_i hx
    have : Real.log (1 - Real.rpow 2 (-5 - (h.val : ℝ))) ≤ 0 :=
      Real.log_nonpos (le_of_not_ge hx) (by have := Real.rpow_nonneg (x := 2) (by norm_num) (-5 - (h.val : ℝ)); show 1 - (2:ℝ)^(_:ℝ) ≤ 1; linarith)
    exact_mod_cast this

theorem exp_nonneg (v : EReal) : 0 ≤ Ideal.exp v := by
  induction v using EReal.rec with
  | bot => simp
  | top => simp
  | coe r => rw [Ideal.exp_coe]; exact_mod_cast (Real.exp_pos r).le

theorem exp_ne_top (v : EReal) (h : v ≠ ⊤) : Ideal.exp v ≠ ⊤ := by
  induction v using EReal.rec with
  | bot => simp
  | top => exact absurd rfl h
  | coe r => rw [Ideal.exp_coe]; exact EReal.coe_ne_top _

theorem xi_nonneg (h i : ℕ) : 0 ≤ xi h i := exp_nonneg _
theorem xi_ne_top (h : Fin 4) (i : Fin 128) : xi h.val i.val ≠ ⊤ := by
  apply exp_ne_top
  have h1 := lg_nonpos h
  have h2 : (0 : EReal) ≤ num i.val + 1 := by
    rw [num_eq _ (by omega)]; positivity
  have h3 : lg h.val * (num i.val + 1) ≤ 0 := by
    have := mul_nonneg (a := -lg h.val) (b := num i.val + 1) (by simpa using EReal.neg_le_neg_iff.mpr h1) h2
    rw [EReal.neg_mul] at this
    simpa using EReal.neg_le_neg_iff.mpr this
  exact ne_of_lt (lt_of_le_of_lt h3 (by simp))

/-- A number neither negative nor the top goes through a sum. -/
theorem sum_mul_of_nonneg {ι : Type} [Fintype ι] (f : ι → EReal) (c : EReal) (h0 : 0 ≤ c) (ht : c ≠ ⊤) : (∑ i, f i) * c = ∑ i, f i * c := by
  classical
  induction (Finset.univ : Finset ι) using Finset.induction_on with
  | empty => simp
  | insert a s ha ih => rw [Finset.sum_insert ha, Finset.sum_insert ha, EReal.right_distrib_of_nonneg_of_ne_top h0 ht, ih]

/-- The share of the state before the chunk, with the decay inside the sum. -/
theorem cross_eq (q s : Fin 128 → EReal) (h : Fin 4) (i : Fin 128) :
    (∑ d, q d * s d) * xi h.val i.val = ∑ d, s d * (q d * xi h.val i.val) := by
  rw [sum_mul_of_nonneg _ _ (xi_nonneg _ _) (xi_ne_top h i)]
  exact Finset.sum_congr rfl fun d _ => by rw [mul_comm (q d), mul_assoc]

end Cert.Spec

end
-- ==== Proof.MixHost.lean ====
/- Hand-written, untrusted: WHAT THE HOST PREPARES FOR THE MIXER SLICE, index by index: the reshaped and cast weights, the
   positions, and the decay tables of the retention. Then the blocks of a point, as the windows bring them in. -/
module

public import proofs.«01_k».proof.Proof.MixSpec
public import proofs.«01_k».proof.Proof.MixValueIdeal
public import Idealize.ShloMosaic.Lib.ValueIdx
public import Idealize.ShloMosaic.PureOps.Ideal.Laws
public import Idealize.ShloMosaic.Lib.Pipeline.ValueKit.Tiles
public import Idealize.ShloMosaic.Lib.Pipeline.ValueKit.Geometry
public import Idealize.ShloMosaic.Lib.Pointwise.Tactic
public import Idealize.ShloMosaic.Lib.Pointwise

@[expose] public section

noncomputable section

namespace Cert.MixValue

open Cert.MixIdeal Cert.MixIdeal.Gen Cert.MixFrameIdeal Cert.Spec Idealize.ShloMosaic Idealize.ShloMosaic.TcCoe Idealize.SL.Sem

variable (m : (ℓ : Loc nD τ sig) → Buf (Elt Ideal) ℓ)

theorem V12_apply (c : Dev nD) (d : Fin 128) : V m c main_v12 (ix2 d 0) = freq (d.val % 64) := by
  obtain ⟨f, hf⟩ : ∃ f, f = (fun (a b : FVec Ideal S64 .f32) => concatenate S128 0 [⟨S64, a⟩, ⟨S64, b⟩] concatenates_S64_S64_S128_d0) := ⟨_, rfl⟩
  unfold V; simp only [hostOps0, hostOps0_1, hostOps0_2, List.flatten_cons, List.flatten_nil, List.append_nil, List.cons_append, List.nil_append]
  rw [← hf]
  after_results_simp
  rw [hf]
  pointwise [freq]
  by_cases hd : d.val < 64
  · rw [dif_pos hd, Nat.mod_eq_of_lt hd]
  · rw [dif_neg hd, show d.val % 64 = d.val - 64 by omega]
theorem V37_apply (c : Dev nD) (h : Fin 4) (i j : Fin 128) : V m c main_v37 (ix3 h i j) = dec h.val i.val j.val := by
  unfold V; simp only [hostOps0, hostOps0_1, hostOps0_2, List.flatten_cons, List.flatten_nil, List.append_nil, List.cons_append, List.nil_append]; after_results_simp
  simp only [StableHlo.TRef.toBuf, StableHlo.TRef.ofBuf, cast_eq, id]
  pointwise [dec, lg]
theorem V58_apply (c : Dev nD) (h : Fin 4) (i d : Fin 128) : V m c main_v58 (ix3 h i d) = zeta h.val i.val := by
  unfold V; simp only [hostOps0, hostOps0_1, hostOps0_2, List.flatten_cons, List.flatten_nil, List.append_nil, List.cons_append, List.nil_append]; after_results_simp
  pointwise [zeta, lg]
theorem V60_apply (c : Dev nD) (h : Fin 4) (i : Fin 128) (e : Fin 256) : V m c main_v60 (ix3 h i e) = xi h.val i.val := by
  unfold V; simp only [hostOps0, hostOps0_1, hostOps0_2, List.flatten_cons, List.flatten_nil, List.append_nil, List.cons_append, List.nil_append]; after_results_simp
  pointwise [xi, lg]
theorem V62_apply (c : Dev nD) (h : Fin 4) (e : Fin 256) : V m c main_v62 (ix3 h 0 e) = cdec h.val := by
  unfold V; simp only [hostOps0, hostOps0_1, hostOps0_2, List.flatten_cons, List.flatten_nil, List.append_nil, List.cons_append, List.nil_append]; after_results_simp
  pointwise [cdec, lg]
theorem V66_lo (c : Dev nD) (j : Fin 512) (z : Fin 1024) :
    V m c main_v66 (ix2 j ⟨z.val, Nat.lt_of_lt_of_le z.isLt (Nat.le_add_right 1024 1024)⟩) = m ((c : Thread nD τ).loc main_arg10) (ix3 0 j z) := by
  obtain ⟨f, hf⟩ : ∃ f, f = (fun (a b : FVec Ideal S512x1024 .f32) => concatenate S512x2048 1 [⟨S512x1024, a⟩, ⟨S512x1024, b⟩] concatenates_S512x1024_S512x1024_S512x2048_d1) := ⟨_, rfl⟩
  unfold V; simp only [hostOps0, hostOps0_1, hostOps0_2, List.flatten_cons, List.flatten_nil, List.append_nil, List.cons_append, List.nil_append]
  rw [← hf]
  after_results_simp
  rw [hf]
  pointwise
theorem V66_hi (c : Dev nD) (j : Fin 512) (z : Fin 1024) :
    V m c main_v66 (ix2 j ⟨1024 + z.val, Nat.add_lt_add_left z.isLt 1024⟩) = m ((c : Thread nD τ).loc main_arg11) (ix3 0 j z) := by
  obtain ⟨f, hf⟩ : ∃ f, f = (fun (a b : FVec Ideal S512x1024 .f32) => concatenate S512x2048 1 [⟨S512x1024, a⟩, ⟨S512x1024, b⟩] concatenates_S512x1024_S512x1024_S512x2048_d1) := ⟨_, rfl⟩
  unfold V; simp only [hostOps0, hostOps0_1, hostOps0_2, List.flatten_cons, List.flatten_nil, List.append_nil, List.cons_append, List.nil_append]
  rw [← hf]
  after_results_simp
  rw [hf]
  pointwise
theorem V68_apply (c : Dev nD) (k : Fin 1024) : V m c main_v68 (ix2 0 k) = m ((c : Thread nD τ).loc main_arg3) (ix2 0 k) := by
  unfold V; simp only [hostOps0, hostOps0_1, hostOps0_2, List.flatten_cons, List.flatten_nil, List.append_nil, List.cons_append, List.nil_append]; after_results_simp
  pointwise
theorem V76_apply (c : Dev nD) (k : Fin 1024) : V m c main_v76 (ix2 0 k) = m ((c : Thread nD τ).loc main_arg14) (ix2 0 k) := by
  unfold V; simp only [hostOps0, hostOps0_1, hostOps0_2, List.flatten_cons, List.flatten_nil, List.append_nil, List.cons_append, List.nil_append]; after_results_simp
  pointwise
theorem V70_apply (c : Dev nD) (k : Fin 1024) (j : Fin 5632) : V m c main_v70 (ix2 k j) = m ((c : Thread nD τ).loc main_arg4) (ix3 0 k j) := by
  unfold V; simp only [hostOps0, hostOps0_1, hostOps0_2, List.flatten_cons, List.flatten_nil, List.append_nil, List.cons_append, List.nil_append]; after_results_simp
  exact shapeCast_apply (s := S1x1024x5632) (t := S1024x5632) _ _ (ix2 k j) (ix3 0 k j)
    (by rw [Shape.rowMajor_val_three, Shape.rowMajor_val_two]; show (0 * 1024 + k.val) * 5632 + j.val = k.val * 5632 + j.val; omega)
theorem V72_apply (c : Dev nD) (k j : Fin 1024) : V m c main_v72 (ix2 k j) = m ((c : Thread nD τ).loc main_arg12) (ix3 0 k j) := by
  unfold V; simp only [hostOps0, hostOps0_1, hostOps0_2, List.flatten_cons, List.flatten_nil, List.append_nil, List.cons_append, List.nil_append]; after_results_simp
  exact shapeCast_apply (s := S1x1024x1024) (t := S1024x1024) _ _ (ix2 k j) (ix3 0 k j)
    (by rw [Shape.rowMajor_val_three, Shape.rowMajor_val_two]; show (0 * 1024 + k.val) * 1024 + j.val = k.val * 1024 + j.val; omega)
theorem V74_apply (c : Dev nD) (k j : Fin 1024) : V m c main_v74 (ix2 k j) = m ((c : Thread nD τ).loc main_arg13) (ix3 0 k j) := by
  unfold V; simp only [hostOps0, hostOps0_1, hostOps0_2, List.flatten_cons, List.flatten_nil, List.append_nil, List.cons_append, List.nil_append]; after_results_simp
  exact shapeCast_apply (s := S1x1024x1024) (t := S1024x1024) _ _ (ix2 k j) (ix3 0 k j)
    (by rw [Shape.rowMajor_val_three, Shape.rowMajor_val_two]; show (0 * 1024 + k.val) * 1024 + j.val = k.val * 1024 + j.val; omega)
theorem V77_apply (c : Dev nD) (b u a : Fin 8) (l : Fin 128) : V m c main_v77 (ix4 b u a l)
    = FloatOps.sitofp (F := Ideal) .f32 (m ((c : Thread nD τ).loc main_arg2) (ix2 b ⟨u.val * 1024 + (a.val * 128 + l.val), by omega⟩)) := by
  unfold V; simp only [hostOps0, hostOps0_1, hostOps0_2, List.flatten_cons, List.flatten_nil, List.append_nil, List.cons_append, List.nil_append]; after_results_simp
  pointwise
  exact congrArg (fun k => FloatOps.sitofp (F := Ideal) .f32 (m ((c : Thread nD τ).loc main_arg2) (ix2 b k))) (Fin.ext (Nat.add_assoc _ _ _))
/-! ## The blocks of a point -/

theorem point (t : Fin cfg0.N) : t.val = 8 * (grid0.coords t 0).val + (grid0.coords t 1).val := (by decide +kernel : ∀ t : Fin grid0.N, t.val = 8 * (grid0.coords t 0).val + (grid0.coords t 1).val) t
theorem e0 : ∀ t : Fin cfg0.N, win0_0.index t = ![(grid0.coords t 0).val, (grid0.coords t 1).val, 0] := (by decide +kernel : ∀ t : Fin grid0.N, _)
theorem e1 : ∀ t : Fin cfg0.N, win0_1.index t = ![(grid0.coords t 0).val, 0, 0, 0] := (by decide +kernel : ∀ t : Fin grid0.N, _)
theorem e2 : ∀ t : Fin cfg0.N, win0_2.index t = ![(grid0.coords t 0).val, (grid0.coords t 1).val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![0, 0, 0] := (by decide +kernel : ∀ t : Fin grid0.N, _)
theorem e8 : ∀ t : Fin cfg0.N, win0_8.index t = ![0, 0, 0] := (by decide +kernel : ∀ t : Fin grid0.N, _)
theorem e9 : ∀ t : Fin cfg0.N, win0_9.index t = ![0, 0, 0] := (by decide +kernel : ∀ t : Fin grid0.N, _)
theorem e10 : ∀ t : Fin cfg0.N, win0_10.index t = ![0, 0] := (by decide +kernel : ∀ t : Fin grid0.N, _)
theorem e16 : ∀ t : Fin cfg0.N, win0_16.index t = ![0, 0] := (by decide +kernel : ∀ t : Fin grid0.N, _)
theorem e17 : ∀ t : Fin cfg0.N, win0_17.index t = ![0, 0] := (by decide +kernel : ∀ t : Fin grid0.N, _)
theorem e18 : ∀ t : Fin cfg0.N, win0_18.index t = ![0, 0] := (by decide +kernel : ∀ t : Fin grid0.N, _)
theorem e19 : ∀ t : Fin cfg0.N, win0_19.index t = ![(grid0.coords t 0).val, (grid0.coords t 1).val, 0] := (by decide +kernel : ∀ t : Fin grid0.N, _)

variable (c : Dev nD) (t : Fin cfg0.N)

theorem b0 (r k : Fin 1024) (h : (grid0.coords t 1).val * 1024 + r.val < 8192) : iblk m c 0 t (ix3 0 r k) = V m c main_arg0 (ix3 (grid0.coords t 0) ⟨(grid0.coords t 1).val * 1024 + r.val, h⟩ k) :=
  congrArg (V m c main_arg0) (by funext a; apply Fin.ext; match a with | ⟨0, _⟩ => (blk_simp [e0]; rfl) | ⟨1, _⟩ => (blk_simp [e0]) | ⟨2, _⟩ => (blk_simp [e0]))
theorem b2 (r : Fin 1024) (k : Fin 512) (h : (grid0.coords t 1).val * 1024 + r.val < 8192) : iblk m c 2 t (ix3 0 r k) = V m c main_arg1 (ix3 (grid0.coords t 0) ⟨(grid0.coords t 1).val * 1024 + r.val, h⟩ k) :=
  congrArg (V m c main_arg1) (by funext a; apply Fin.ext; match a with | ⟨0, _⟩ => (blk_simp [e2]; rfl) | ⟨1, _⟩ => (blk_simp [e2]) | ⟨2, _⟩ => (blk_simp [e2]))
theorem b1 (u a : Fin 8) (l : Fin 128) : iblk m c 1 t (ix4 0 u a l) = V m c main_v77 (ix4 (grid0.coords t 0) u a l) :=
  congrArg (V m c main_v77) (by funext a; apply Fin.ext; match a with | ⟨0, _⟩ => (blk_simp [e1]; rfl) | ⟨1, _⟩ => (blk_simp [e1]) | ⟨2, _⟩ => (blk_simp [e1]) | ⟨3, _⟩ => (blk_simp [e1]))
theorem b3 (j : S128x1.Idx) : iblk m c 3 t j = V m c main_v12 j :=
  congrArg (V m c main_v12) (by funext a; apply Fin.ext; match a with | ⟨0, _⟩ => (blk_simp [e3]) | ⟨1, _⟩ => (blk_simp [e3]))
theorem b4 (j : S1x1024.Idx) : iblk m c 4 t j = V m c main_v68 j :=
  congrArg (V m c main_v68) (by funext a; apply Fin.ext; match a with | ⟨0, _⟩ => (blk_simp [e4]) | ⟨1, _⟩ => (blk_simp [e4]))
theorem b5 (j : S1024x5632.Idx) : iblk m c 5 t j = V m c main_v70 j :=
  congrArg (V m c main_v70) (by funext a; apply Fin.ext; match a with | ⟨0, _⟩ => (blk_simp [e5]) | ⟨1, _⟩ => (blk_simp [e5]))
theorem b6 (j : S4x128x128.Idx) : iblk m c 6 t j = V m c main_v37 j :=
  congrArg (V m c main_v37) (by funext a; apply Fin.ext; match a with | ⟨0, _⟩ => (blk_simp [e6]) | ⟨1, _⟩ => (blk_simp [e6]) | ⟨2, _⟩ => (blk_simp [e6]))
theorem b7 (j : S4x128x256.Idx) : iblk m c 7 t j = V m c main_v60 j :=
  congrArg (V m c main_v60) (by funext a; apply Fin.ext; match a with | ⟨0, _⟩ => (blk_simp [e7]) | ⟨1, _⟩ => (blk_simp [e7]) | ⟨2, _⟩ => (blk_simp [e7]))
theorem b8 (j : S4x128x128.Idx) : iblk m c 8 t j = V m c main_v58 j :=
  congrArg (V m c main_v58) (by funext a; apply Fin.ext; match a with | ⟨0, _⟩ => (blk_simp [e8]) | ⟨1, _⟩ => (blk_simp [e8]) | ⟨2, _⟩ => (blk_simp [e8]))
theorem b9 (j : S4x1x256.Idx) : iblk m c 9 t j = V m c main_v62 j :=
  congrArg (V m c main_v62) (by funext a; apply Fin.ext; match a with | ⟨0, _⟩ => (blk_simp [e9]) | ⟨1, _⟩ => (blk_simp [e9]) | ⟨2, _⟩ => (blk_simp [e9]))
theorem b10 (j : S1024x1024.Idx) : iblk m c 10 t j = V m c main_v72 j :=
  congrArg (V m c main_v72) (by funext a; apply Fin.ext; match a with | ⟨0, _⟩ => (blk_simp [e10]) | ⟨1, _⟩ => (blk_simp [e10]))
theorem b16 (j : S512x2048.Idx) : iblk m c 16 t j = V m c main_v66 j :=
  congrArg (V m c main_v66) (by funext a; apply Fin.ext; match a with | ⟨0, _⟩ => (blk_simp [e16]) | ⟨1, _⟩ => (blk_simp [e16]))
theorem b17 (j : S1024x1024.Idx) : iblk m c 17 t j = V m c main_v74 j :=
  congrArg (V m c main_v74) (by funext a; apply Fin.ext; match a with | ⟨0, _⟩ => (blk_simp [e17]) | ⟨1, _⟩ => (blk_simp [e17]))
theorem b18 (j : S1x1024.Idx) : iblk m c 18 t j = V m c main_v76 j :=
  congrArg (V m c main_v76) (by funext a; apply Fin.ext; match a with | ⟨0, _⟩ => (blk_simp [e18]) | ⟨1, _⟩ => (blk_simp [e18]))

end Cert.MixValue

end
-- ==== Proof.MixPay.lean ====
/- Hand-written, untrusted: THE STORES OF ONE GRID POINT OF THE MIXER SLICE, index by index: the normed rows, the
   projections, the rotary turn, the state a chunk leaves, the gated retention of a chunk and the rows of the result,
   each as a function of the loads it is made of. -/
module

public import proofs.«01_k».proof.Proof.MixSpec
public import proofs.«01_k».proof.Proof.Gen.MixIdeal.Skeleton
public import Idealize.ShloMosaic.Lib.Pipeline.Value
public import Idealize.ShloMosaic.Lib.ValueIdx
public import Idealize.ShloMosaic.PureOps.Ideal.Laws
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pointwise.Tactic
public import Idealize.ShloMosaic.Lib.Pointwise

@[expose] public section

noncomputable section

namespace Cert.MixValue

open Cert.MixIdeal Cert.MixIdeal.Gen Cert.Spec Idealize.ShloMosaic

/-- A normed row block at an index. -/
theorem rms_apply (x : Vec Ideal S1x256x1024 .f32) (g : Vec Ideal S1x1024 .f32) (r : Fin 256) (c : Fin 1024) :
    k0_pay5 (F := Ideal) x g (ix2 r c) = nrm (fun k => x (ix3 0 r k)) (fun k => g (ix2 0 k)) c := by
  pointwise [k0_pay5, nrm]

/-- The projections at an index. -/
theorem proj_apply (u : Vec Ideal S512x1024 .bf16) (w : Vec Ideal S1024x512 .bf16) (r j : Fin 512) :
    k0_pay8 (F := Ideal) u w (ix2 r j) = ∑ k : Fin 1024, u (ix2 r k) * w (ix2 k j) := by
  pointwise [k0_pay8]
theorem value_apply (u : Vec Ideal S512x1024 .bf16) (w : Vec Ideal S1024x1024 .bf16) (r : Fin 512) (j : Fin 1024) :
    k0_pay28 (F := Ideal) u w (ix2 r j) = ∑ k : Fin 1024, u (ix2 r k) * w (ix2 k j) := by
  pointwise [k0_pay28]
theorem silu_apply (u : Vec Ideal S512x1024 .bf16) (w : Vec Ideal S1024x1024 .bf16) (r : Fin 512) (j : Fin 1024) :
    k0_pay29 (F := Ideal) u w (ix2 r j) = silu (∑ k : Fin 1024, u (ix2 r k) * w (ix2 k j)) := by
  pointwise [k0_pay29, half_tanh, silu]
theorem logi_apply (u : Vec Ideal S512x1024 .bf16) (w : Vec Ideal S1024x1024 .bf16) (r : Fin 512) (j : Fin 1024) :
    k0_pay30 (F := Ideal) u w (ix2 r j) = logi (∑ k : Fin 1024, u (ix2 r k) * w (ix2 k j)) := by
  pointwise [k0_pay30, half_tanh, logi]

/-- The test of a lane against 64. -/
theorem slt_select {α : Type} (d : Fin 128) (a b : α) :
    Scalar.select (IntOp.cmpi .slt (BitVec.ofNat 32 d.val) 64#32) a b = if d.val < 64 then a else b := by
  have h : ∀ d : Fin 128, IntOp.cmpi .slt (BitVec.ofNat 32 d.val) 64#32 = if d.val < 64 then 1#1 else 0#1 := by decide +kernel
  rw [h]; split <;> rfl

/-- The angles at an index: the lower 64 lanes hold the first 256 tokens' and the upper 64 lanes the other 256 tokens'. -/
theorem angle_apply (p : Vec Ideal S1x1x4x128 .f32) (f : Vec Ideal S128x1 .f32) (d : Fin 128) (r : Fin 256) :
    k0_pay10 (F := Ideal) p f (ix2 d r) = f (ix2 d 0) * (if d.val < 64 then
        (if h : r.val < 128 then p (ix4 0 0 0 ⟨r.val, h⟩) else p (ix4 0 0 1 ⟨r.val - 128, by omega⟩))
      else (if h : r.val < 128 then p (ix4 0 0 2 ⟨r.val, h⟩) else p (ix4 0 0 3 ⟨r.val - 128, by omega⟩))) := by
  pointwise [k0_pay10]
  rw [slt_select]

theorem freq_mul {n : ℕ} (P : Fin n → EReal) {a c : ℕ} {b r : Fin n} (h : a = c) (h' : b.val = r.val) : freq a * P b = P r * freq c := by
  rw [h, Fin.ext h', mul_comm]

/-- The turn's cosines at an index: lane `d`'s of token `r`. -/
theorem cos_apply (p : Vec Ideal S1x1x4x128 .f32) (f : Vec Ideal S128x1 .f32) (P : Fin 512 → EReal)
    (hf : ∀ d, f (ix2 d 0) = freq (d.val % 64)) (hp : ∀ (a : Fin 4) (l : Fin 128), p (ix4 0 0 a l) = P ⟨a.val * 128 + l.val, by omega⟩)
    (r : Fin 512) (d : Fin 128) :
    k0_pay14 (F := Ideal) (k0_pay11 p f) (iota .tc S256x128 32 [1] iota_S256x128_d1_w32) (ix2 r d) = Ideal.cos (P r * freq (d.val % 64)) := by
  have h0 : ∀ l : Fin 128, p (ix4 0 0 0 l) = P ⟨0 + l.val, by omega⟩ := hp 0
  have h1 : ∀ l : Fin 128, p (ix4 0 0 1 l) = P ⟨128 + l.val, by omega⟩ := hp 1
  have h2 : ∀ l : Fin 128, p (ix4 0 0 2 l) = P ⟨256 + l.val, by omega⟩ := hp 2
  have h3 : ∀ l : Fin 128, p (ix4 0 0 3 l) = P ⟨384 + l.val, by omega⟩ := hp 3
  pointwise [k0_pay14, k0_pay13, k0_pay11, angle_apply]
  simp only [slt_select, hf, h0, h1, h2, h3]
  split_ifs <;> first | (exfalso; omega) | exact congrArg Ideal.cos (freq_mul P (by omega) (by dsimp only; omega))
theorem sin_apply (p : Vec Ideal S1x1x4x128 .f32) (f : Vec Ideal S128x1 .f32) (P : Fin 512 → EReal)
    (hf : ∀ d, f (ix2 d 0) = freq (d.val % 64)) (hp : ∀ (a : Fin 4) (l : Fin 128), p (ix4 0 0 a l) = P ⟨a.val * 128 + l.val, by omega⟩)
    (r : Fin 512) (d : Fin 128) :
    k0_pay15 (F := Ideal) (k0_pay12 p f) (iota .tc S256x128 32 [1] iota_S256x128_d1_w32) (ix2 r d)
      = if d.val < 64 then 0 - Ideal.sin (P r * freq (d.val % 64)) else Ideal.sin (P r * freq (d.val % 64)) := by
  have h0 : ∀ l : Fin 128, p (ix4 0 0 0 l) = P ⟨0 + l.val, by omega⟩ := hp 0
  have h1 : ∀ l : Fin 128, p (ix4 0 0 1 l) = P ⟨128 + l.val, by omega⟩ := hp 1
  have h2 : ∀ l : Fin 128, p (ix4 0 0 2 l) = P ⟨256 + l.val, by omega⟩ := hp 2
  have h3 : ∀ l : Fin 128, p (ix4 0 0 3 l) = P ⟨384 + l.val, by omega⟩ := hp 3
  pointwise [k0_pay15, k0_pay13, k0_pay12, angle_apply]
  simp only [slt_select, hf, h0, h1, h2, h3]
  split_ifs <;> first
    | (exfalso; omega)
    | exact congrArg (fun v => 0 - Ideal.sin v) (freq_mul P (by omega) (by dsimp only; omega))
    | exact congrArg Ideal.sin (freq_mul P (by omega) (by dsimp only; omega))

/-- A head's turned queries and keys, of the head's part of the projection and of the turn. -/
def turn (z c s : FVec Ideal S512x128 .f32) : FVec Ideal S512x128 .f32 :=
  addf (mulf z c) (mulf (dynamicRotate 1 64#32 none z rotates_S512x128_d1) s)
def turnQ (z c s : FVec Ideal S512x128 .f32) : FVec Ideal S512x128 .bf16 :=
  shapeCast S512x128 (truncf .bf16 (turn z c s) bitsLt_bf16_f32) shapeCasts_S512x128_S512x128
def turnK (z c s : FVec Ideal S512x128 .f32) : FVec Ideal S512x128 .f32 :=
  shapeCast S512x128 (mulf (turn z c s) (broadcast S512x128 (Scalar.ofBits .f32 0x3DB504F3#32))) shapeCasts_S512x128_S512x128

theorem turn_apply (z c s : FVec Ideal S512x128 .f32) (p : EReal) (r : Fin 512)
    (hc : ∀ d : Fin 128, c (ix2 r d) = Ideal.cos (p * freq (d.val % 64)))
    (hs : ∀ d : Fin 128, s (ix2 r d) = if d.val < 64 then 0 - Ideal.sin (p * freq (d.val % 64)) else Ideal.sin (p * freq (d.val % 64)))
    (d : Fin 128) : turn z c s (ix2 r d) = rot (fun d => z (ix2 r d)) p d := by
  pointwise [turn, hc, hs]
  unfold rot
  split_ifs with h
  · rw [zero_sub, mul_neg, ← sub_eq_add_neg, Nat.mod_eq_of_lt h]
    have e : (⟨(d.val + 128 - 64) % 128, Nat.mod_lt _ (by decide)⟩ : Fin 128) = ⟨d.val + 64, by omega⟩ := Fin.ext (by dsimp only; omega)
    rw [e]
  · have e : d.val % 64 = d.val - 64 := by omega
    have e' : (⟨(d.val + 128 - 64) % 128, Nat.mod_lt _ (by decide)⟩ : Fin 128) = ⟨d.val - 64, by omega⟩ := Fin.ext (by dsimp only; omega)
    rw [e, add_comm, e']

/-- What a chunk leaves of a head's state, of its keys and values, the state before it and the decays. -/
def stOp (k : Vec Ideal S128x128 .f32) (v : Vec Ideal S128x256 .bf16) (s : Vec Ideal S1x128x256 .f32) (z : Vec Ideal S1x128x128 .f32)
    (cd : Vec Ideal S1x1x256 .f32) : FVec Ideal S1x128x256 .f32 := k0_pay46 k v (k0_pay36 s) z cd

theorem stOp_apply (k : Vec Ideal S128x128 .f32) (v : Vec Ideal S128x256 .bf16) (s : Vec Ideal S1x128x256 .f32) (z : Vec Ideal S1x128x128 .f32)
    (cd : Vec Ideal S1x1x256 .f32) (d : Fin 128) (e : Fin 256) :
    stOp k v s z cd (ix3 0 d e) = cd (ix3 0 0 e) * s (ix3 0 d e) + ∑ j : Fin 128, k (ix2 j d) * z (ix3 0 j d) * v (ix2 j e) := by
  pointwise [stOp, k0_pay46, k0_pay36]

/-- A chunk's gated retention in a head. -/
def gOp (q : Vec Ideal S128x128 .bf16) (k : Vec Ideal S128x128 .f32) (v : Vec Ideal S128x256 .bf16) (s : Vec Ideal S1x128x256 .f32)
    (dec : Vec Ideal S1x128x128 .f32) (xi : Vec Ideal S1x128x256 .f32) (sg : Vec Ideal S128x256 .bf16) : FVec Ideal S128x256 .bf16 :=
  k0_pay50 v (k0_pay32 q k dec) (k0_pay40 q (k0_pay36 s) xi) sg

theorem gOp_apply (q : Vec Ideal S128x128 .bf16) (k : Vec Ideal S128x128 .f32) (v : Vec Ideal S128x256 .bf16) (s : Vec Ideal S1x128x256 .f32)
    (dec : Vec Ideal S1x128x128 .f32) (xi : Vec Ideal S1x128x256 .f32) (sg : Vec Ideal S128x256 .bf16) (i : Fin 128) (e : Fin 256) :
    gOp q k v s dec xi sg (ix2 i e)
      = gn (fun e => (∑ j : Fin 128, (∑ d : Fin 128, q (ix2 i d) * k (ix2 j d)) * dec (ix3 0 i j) * v (ix2 j e))
          + (∑ d : Fin 128, q (ix2 i d) * s (ix3 0 d e)) * xi (ix3 0 i e)) e * sg (ix2 i e) := by
  pointwise [gOp, k0_pay50, k0_pay32, k0_pay40, k0_pay36, gn, mean]

/-- The second branch's input through its gate, from its four parts. -/
def geOp (a b c d : Vec Ideal S1x512x128 .f32) : FVec Ideal S512x512 .bf16 :=
  k0_pay148 (k0_pay144 a) (k0_pay145 b) (k0_pay146 b) k0_pay147 c d

theorem geOp_apply (a b c d : Vec Ideal S1x512x128 .f32) (r : Fin 512) (Y : Fin 512 → EReal)
    (ha : ∀ l : Fin 128, a (ix3 0 r l) = Y ⟨l.val, by omega⟩) (hb : ∀ l : Fin 128, b (ix3 0 r l) = Y ⟨128 + l.val, by omega⟩)
    (hc : ∀ l : Fin 128, c (ix3 0 r l) = Y ⟨256 + l.val, by omega⟩) (hd : ∀ l : Fin 128, d (ix3 0 r l) = Y ⟨384 + l.val, by omega⟩)
    (j : Fin 512) : geOp a b c d (ix2 r j) = gelu (Y j) := by
  pointwise [geOp, k0_pay148, k0_pay144, k0_pay145, k0_pay146, k0_pay147, gelu]
  have Ye (j k : Fin 512) (h : j.val = k.val) : Y j = Y k := by rw [Fin.ext h]
  have gk (v : EReal) : v * (Ideal.ofBits .f32 0x3F000000#32 * (1 + Ideal.tanh (Ideal.ofBits .f32 0x3F4C422A#32 * (v + Ideal.ofBits .f32 0x3D372713#32 * (v * (v * v)))))) = gelu v := by
    rw [gelu, mul_assoc v v v]
  simp only [ha, hb, hc, hd]
  split_ifs <;> exact (gk _).trans (congrArg gelu (Ye _ _ (by first | rfl | (dsimp only; omega))))

/-- The merge of the two branches. -/
theorem merge_apply (m1 m2 : FVec Ideal S512x1024 .f32) (y : FVec Ideal S512x512 .bf16) (w : Vec Ideal S512x2048 .bf16)
    (o : Vec Ideal S512x1024 .bf16) (wr : Vec Ideal S1024x1024 .bf16) (r : Fin 512) (c : Fin 1024) :
    k0_pay149 (F := Ideal) m1 m2 y w o wr (ix2 r c)
      = m1 (ix2 r c) * (∑ j : Fin 1024, o (ix2 r j) * wr (ix2 j c))
        + m2 (ix2 r c) * ((∑ j : Fin 512, y (ix2 r j) * w (ix2 j ⟨c.val, by omega⟩)) * logi (∑ j : Fin 512, y (ix2 r j) * w (ix2 j ⟨1024 + c.val, by omega⟩))) := by
  pointwise [k0_pay149, half_tanh, logi]

/-- The stored rows: the row block, and the normed output projection of the merge. -/
theorem outLo_apply (m1 m2 : FVec Ideal S512x1024 .f32) (y : FVec Ideal S512x512 .bf16) (w : Vec Ideal S512x2048 .bf16)
    (o : Vec Ideal S512x1024 .bf16) (wr wo : Vec Ideal S1024x1024 .bf16) (gp : Vec Ideal S1x1024 .f32) (x : Vec Ideal S1x256x1024 .f32)
    (r : Fin 256) (c : Fin 1024) :
    k0_pay152 (F := Ideal) (k0_pay150 x) (k0_pay151 m1 m2 y w o wr wo gp) (ix3 0 r c)
      = x (ix3 0 r c) + nrm (fun c => ∑ j : Fin 1024, k0_pay149 (F := Ideal) m1 m2 y w o wr (ix2 ⟨r.val, by omega⟩ j) * wo (ix2 j c)) (fun k => gp (ix2 0 k)) c := by
  pointwise [k0_pay152, k0_pay150, k0_pay151, nrm]
theorem outHi_apply (n : FVec Ideal S512x1024 .bf16) (wo : Vec Ideal S1024x1024 .bf16) (gp : Vec Ideal S1x1024 .f32) (x : Vec Ideal S1x256x1024 .f32)
    (r : Fin 256) (c : Fin 1024) :
    k0_pay153 (F := Ideal) n wo x gp (ix3 0 r c)
      = x (ix3 0 r c) + nrm (fun c => ∑ j : Fin 1024, n (ix2 ⟨256 + r.val, by omega⟩ j) * wo (ix2 j c)) (fun k => gp (ix2 0 k)) c := by
  pointwise [k0_pay153, nrm]

end Cert.MixValue
-- ==== Proof.MixList.lean ====
/- Hand-written, untrusted: THE BUFFERS OF ONE GRID POINT OF THE MIXER SLICE. A sub-tile is 512 tokens, the four chunks from
   chunk `n` on; what its stores leave in a buffer is one array of the specification, whatever lies under them. -/
module

public import proofs.«01_k».proof.Proof.MixPay
public import Idealize.ShloMosaic.Lib.Pipeline.FrameBody
public import Idealize.ShloMosaic.Lib.Pipeline.ReadBack
public import Idealize.ShloMosaic.Lib.Ring

@[expose] public section

noncomputable section

namespace Cert.MixValue

open Cert.MixIdeal Cert.MixIdeal.Gen Cert.Spec Idealize.ShloMosaic

/-! ## Reading a buffer of known contents -/

/-- The array with entry `f i j`. -/
abbrev ar (e : EltTy) {m n : ℕ} (f : ℕ → ℕ → Elt Ideal e) : (⟨2, ![m, n]⟩ : Shape).Idx → Elt Ideal e := fun y => f (y 0).val (y 1).val

theorem rd2 {κ : Kind} {sg : RefSig} {sp : Space} {e : EltTy} {m n a b o0 o1 : ℕ} {v : View sg κ sp (⟨2, ![m, n]⟩ : Shape) e}
    {L : List (View.Piece (Elt Ideal) (⟨2, ![m, n]⟩ : Shape) e)} {f : ℕ → ℕ → Elt Ideal e}
    {inb : ∀ x, (![o0, o1] : Fin 2 → ℕ) x + (![a, b] : Fin 2 → ℕ) x ≤ (![m, n] : Fin 2 → ℕ) x}
    (h : View.canon L = ar e f) (i : Fin a) (j : Fin b) :
    v.readCov L (Rect.unit (s := ⟨2, ![m, n]⟩) ![o0, o1] ![a, b] inb).toLoadRect (ix2 i j) = f (o0 + i.val) (o1 + j.val) := by
  rw [View.readCov_eq_canon', h]
  show f (o0 + 1 * i.val) (o1 + 1 * j.val) = _
  rw [one_mul, one_mul]

theorem rd3 {κ : Kind} {sg : RefSig} {sp : Space} {e : EltTy} {m n k a b c o0 o1 o2 : ℕ} {v : View sg κ sp (⟨3, ![m, n, k]⟩ : Shape) e}
    {L : List (View.Piece (Elt Ideal) (⟨3, ![m, n, k]⟩ : Shape) e)} {f : ℕ → ℕ → ℕ → Elt Ideal e}
    {inb : ∀ x, (![o0, o1, o2] : Fin 3 → ℕ) x + (![a, b, c] : Fin 3 → ℕ) x ≤ (![m, n, k] : Fin 3 → ℕ) x}
    (h : View.canon L = fun y => f (y 0).val (y 1).val (y 2).val) (i : Fin a) (j : Fin b) (l : Fin c) :
    v.readCov L (Rect.unit (s := ⟨3, ![m, n, k]⟩) ![o0, o1, o2] ![a, b, c] inb).toLoadRect (ix3 i j l)
      = f (o0 + i.val) (o1 + j.val) (o2 + l.val) := by
  rw [View.readCov_eq_canon', h]
  show f (o0 + 1 * i.val) (o1 + 1 * j.val) (o2 + 1 * l.val) = _
  rw [one_mul, one_mul, one_mul]

/-- A load of a part of a window. -/
theorem ldw {κ : Kind} {sg : RefSig} {sp : Space} {e : EltTy} {s : Shape} {a : Memref sg κ sp s e} {h : a.IsWhole} {x : s.Idx → Elt Ideal e}
    {r : Rect s} (j : r.shape.Idx) : View.readAt (Elt Ideal) a.view r.toLoadRect (h.unread x) j = x (r.idx j) := by
  rw [View.readAt_eq_ld, h.read_unread]

/-! ## The arrays -/

variable (g : Fin 1024 → EReal) (w : Fin 1024 → Fin 5632 → EReal) (X : Fin 8192 → Fin 1024 → EReal) (P : Fin 8192 → EReal)

/-- Token `r` counted from chunk `n`. -/
def row (n r : ℕ) : Fin 8192 := ⟨(n * 128 + r) % 8192, Nat.mod_lt _ (by decide)⟩
theorem row_add (n c i : ℕ) : row n (128 * c + i) = row (n + c) i := Fin.ext (by simp only [row]; congr 1; omega)
theorem row_four (n r : ℕ) : row n (512 + r) = row (n + 4) r := row_add n 4 r
theorem row_tok (n : ℕ) (i : Fin 128) : row n i.val = tok n i := rfl

def uN (n r c : ℕ) : EReal := nrm (X (row n r)) g ⟨c % 1024, Nat.mod_lt _ (by decide)⟩
def prN (n r c : ℕ) : EReal := pr g w (X (row n r)) ⟨c % 5632, Nat.mod_lt _ (by decide)⟩
def qN (n r c : ℕ) : EReal := qr g w (X (row n r)) (P (row n r)) ⟨c / 128 % 4, Nat.mod_lt _ (by decide)⟩ ⟨c % 128, Nat.mod_lt _ (by decide)⟩
def kN (n r c : ℕ) : EReal := kr g w (X (row n r)) (P (row n r)) ⟨c / 128 % 4, Nat.mod_lt _ (by decide)⟩ ⟨c % 128, Nat.mod_lt _ (by decide)⟩
def vN (n r c : ℕ) : EReal := prN g w X n r (1024 + c)
def sN (n r c : ℕ) : EReal := silu (prN g w X n r (2048 + c))
def stN (n h d e : ℕ) : EReal :=
  st g w X P n ⟨h % 4, Nat.mod_lt _ (by decide)⟩ ⟨d % 128, Nat.mod_lt _ (by decide)⟩ ⟨e % 256, Nat.mod_lt _ (by decide)⟩
/-- The retention of token `r` counted from chunk `n`. -/
def retN (n r : ℕ) (h : Fin 4) (e : Fin 256) : EReal :=
  retOf g w X P (st g w X P (n + r / 128)) (n + r / 128) ⟨r % 128, Nat.mod_lt _ (by decide)⟩ h e
def gN (n r c : ℕ) : EReal := gated g w (X (row n r)) (retN g w X P n r) ⟨c % 1024, Nat.mod_lt _ (by decide)⟩

theorem qN_at (n c h : ℕ) (hh : h < 4) (i d : Fin 128) :
    qN g w X P n (128 * c + i.val) (128 * h + d.val) = qr g w (X (tok (n + c) i)) (P (tok (n + c) i)) ⟨h, hh⟩ d := by
  rw [qN, row_add, row_tok]; congr 1 <;> refine Fin.ext ?_ <;> dsimp only <;> omega
theorem kN_at (n c h : ℕ) (hh : h < 4) (i d : Fin 128) :
    kN g w X P n (128 * c + i.val) (128 * h + d.val) = kr g w (X (tok (n + c) i)) (P (tok (n + c) i)) ⟨h, hh⟩ d := by
  rw [kN, row_add, row_tok]; congr 1 <;> refine Fin.ext ?_ <;> dsimp only <;> omega
theorem vN_at (n c h : ℕ) (hh : h < 4) (i : Fin 128) (e : Fin 256) :
    vN g w X n (128 * c + i.val) (256 * h + e.val) = vr g w (X (tok (n + c) i)) ⟨h, hh⟩ e := by
  rw [vN, prN, row_add, row_tok, vr]; congr 1; refine Fin.ext ?_; dsimp only; omega
theorem stN_at (n h : ℕ) (hh : h < 4) (d : Fin 128) (e : Fin 256) : stN g w X P n (h + (0 : Fin 1).val) (0 + d.val) (0 + e.val) = st g w X P n ⟨h, hh⟩ d e := by
  rw [stN]; congr 1 <;> refine Fin.ext ?_ <;> simp only [Fin.val_zero] <;> omega

theorem ex2 {a b : ℕ} (y : (⟨2, ![a, b]⟩ : Shape).Idx) : ∃ (r : Fin a) (c : Fin b), y = ix2 r c :=
  ⟨y 0, y 1, funext fun a => match a with | ⟨0, _⟩ => rfl | ⟨1, _⟩ => rfl⟩
theorem ex3 {b c : ℕ} (y : (⟨3, ![1, b, c]⟩ : Shape).Idx) : ∃ (r : Fin b) (k : Fin c), y = ix3 0 r k :=
  ⟨y 1, y 2, funext fun a => match a with | ⟨0, _⟩ => Fin.ext (by have := (y 0).isLt; show (y 0).val = 0; change (y 0).val < 1 at this; omega) | ⟨1, _⟩ => rfl | ⟨2, _⟩ => rfl⟩

/-- A stored piece that is the array at its place. -/
theorem pc2 {e : EltTy} {m n a b o0 o1 : ℕ} (inb : ∀ x, (![o0, o1] : Fin 2 → ℕ) x + (![a, b] : Fin 2 → ℕ) x ≤ (![m, n] : Fin 2 → ℕ) x)
    {p : (⟨2, ![a, b]⟩ : Shape).Idx → Elt Ideal e} {f : ℕ → ℕ → Elt Ideal e} (h : ∀ (i : Fin a) (j : Fin b), p (ix2 i j) = f (o0 + i.val) (o1 + j.val))
    (y : (⟨2, ![a, b]⟩ : Shape).Idx) : p y = ar e f ((Rect.unit (s := ⟨2, ![m, n]⟩) ![o0, o1] ![a, b] inb).emb y) := by
  obtain ⟨i, j, rfl⟩ := ex2 y
  rw [h]
  show _ = f ((Rect.unit (s := ⟨2, ![m, n]⟩) ![o0, o1] ![a, b] inb).emb (ix2 i j) 0).val ((Rect.unit (s := ⟨2, ![m, n]⟩) ![o0, o1] ![a, b] inb).emb (ix2 i j) 1).val
  rw [ValueKit.rect_emb_unit_val, ValueKit.rect_emb_unit_val]
  rfl
abbrev ar3 (e : EltTy) {m n k : ℕ} (f : ℕ → ℕ → ℕ → Elt Ideal e) : (⟨3, ![m, n, k]⟩ : Shape).Idx → Elt Ideal e := fun y => f (y 0).val (y 1).val (y 2).val
theorem pc3 {e : EltTy} {m n k b c o0 o1 o2 : ℕ} (inb : ∀ x, (![o0, o1, o2] : Fin 3 → ℕ) x + (![1, b, c] : Fin 3 → ℕ) x ≤ (![m, n, k] : Fin 3 → ℕ) x)
    {p : (⟨3, ![1, b, c]⟩ : Shape).Idx → Elt Ideal e} {f : ℕ → ℕ → ℕ → Elt Ideal e}
    (h : ∀ (i : Fin b) (j : Fin c), p (ix3 0 i j) = f o0 (o1 + i.val) (o2 + j.val))
    (y : (⟨3, ![1, b, c]⟩ : Shape).Idx) : p y = ar3 e f ((Rect.unit (s := ⟨3, ![m, n, k]⟩) ![o0, o1, o2] ![1, b, c] inb).emb y) := by
  obtain ⟨i, j, rfl⟩ := ex3 y
  rw [h]
  show _ = f ((Rect.unit (s := ⟨3, ![m, n, k]⟩) ![o0, o1, o2] ![1, b, c] inb).emb (ix3 0 i j) 0).val
    ((Rect.unit (s := ⟨3, ![m, n, k]⟩) ![o0, o1, o2] ![1, b, c] inb).emb (ix3 0 i j) 1).val ((Rect.unit (s := ⟨3, ![m, n, k]⟩) ![o0, o1, o2] ![1, b, c] inb).emb (ix3 0 i j) 2).val
  rw [ValueKit.rect_emb_unit_val, ValueKit.rect_emb_unit_val, ValueKit.rect_emb_unit_val]
  rfl

/-! ## The normed rows -/

variable {g w X P}

theorem canon_u {n : ℕ} {xl xh : Vec Ideal S1x256x1024 .f32} {gg : Vec Ideal S1x1024 .f32} {L : List (View.Piece (Elt Ideal) S512x1024 .bf16)}
    (hl : ∀ (r : Fin 256) k, xl (ix3 0 r k) = X (row n (0 + r.val)) k) (hh : ∀ (r : Fin 256) k, xh (ix3 0 r k) = X (row n (256 + r.val)) k)
    (hg : ∀ k, gg (ix2 0 k) = g k) :
    View.canon (⟨Rect.unit (s := S512x1024) ![256, 0] S256x1024.size inb_S512x1024_S256x1024_256_0, k0_pay5 xh gg⟩
      :: ⟨Rect.unit (s := S512x1024) ![0, 0] S256x1024.size inb_S512x1024_S256x1024_0_0, k0_pay5 xl gg⟩ :: L) = ar .bf16 (uN g X n) := by
  have key (o : ℕ) (xx : Vec Ideal S1x256x1024 .f32)
      (hx : ∀ (r : Fin 256) k, xx (ix3 0 r k) = X (row n (o + r.val)) k) (r : Fin 256) (c : Fin 1024) :
      k0_pay5 xx gg (ix2 r c) = uN g X n (o + r.val) (0 + c.val) := by
    rw [rms_apply]
    simp only [hx, hg]
    rw [uN]; congr 1; refine Fin.ext ?_; dsimp only; omega
  funext y
  exact View.canon_append_of_piecesOf _ L [_, _] ⟨pc2 inb_S512x1024_S256x1024_256_0 (key 256 xh hh), pc2 inb_S512x1024_S256x1024_0_0 (key 0 xl hl), trivial⟩ y (View.cover_of_tiledL (s := S512x1024) _ S256x1024.size (by sl_kernel_rfl) y)

/-! ## The projections, turned -/

theorem prN_of {n m o : ℕ} (ho : o + m ≤ 5632) {u : Vec Ideal S512x1024 .bf16} {W : (⟨2, ![1024, m]⟩ : Shape).Idx → EReal}
    (hu : ∀ (r : Fin 512) (k : Fin 1024), u (ix2 r k) = uN g X n (0 + r.val) (0 + k.val))
    (hW : ∀ k (j : Fin m), W (ix2 k j) = w k ⟨o + j.val, by omega⟩) (r : Fin 512) (j : Fin m) :
    ∑ k : Fin 1024, u (ix2 r k) * W (ix2 k j) = prN g w X n r.val (o + j.val) := by
  rw [prN, pr]
  refine Finset.sum_congr rfl fun k _ => ?_
  rw [hu, hW, uN]
  congr 2
  · rw [Nat.zero_add]
  · refine Fin.ext ?_; dsimp only; omega
  · refine Fin.ext ?_; dsimp only; omega

theorem turnQ_apply (z c s : FVec Ideal S512x128 .f32) (r : Fin 512) (d : Fin 128) : turnQ z c s (ix2 r d) = turn z c s (ix2 r d) := by
  pointwise [turnQ]
theorem turnK_apply (z c s : FVec Ideal S512x128 .f32) (r : Fin 512) (d : Fin 128) :
    turnK z c s (ix2 r d) = turn z c s (ix2 r d) * Ideal.ofBits .f32 0x3DB504F3#32 := by
  pointwise [turnK]

section
variable {n : ℕ} {A : FVec Ideal S512x512 .f32} {c s : FVec Ideal S512x128 .f32}
  (hc : ∀ (r : Fin 512) (d : Fin 128), c (ix2 r d) = Ideal.cos (P (row n r.val) * freq (d.val % 64)))
  (hs : ∀ (r : Fin 512) (d : Fin 128), s (ix2 r d)
    = if d.val < 64 then 0 - Ideal.sin (P (row n r.val) * freq (d.val % 64)) else Ideal.sin (P (row n r.val) * freq (d.val % 64)))
include hc hs

theorem q_piece (h : Fin 4) {z : FVec Ideal S512x128 .f32}
    (hz : ∀ (r : Fin 512) (d : Fin 128), z (ix2 r d) = prN g w X n r.val (128 * h.val + d.val)) (r : Fin 512) (d : Fin 128) :
    turnQ z c s (ix2 r d) = qN g w X P n (0 + r.val) (128 * h.val + d.val) := by
  rw [turnQ_apply, turn_apply z c s (P (row n r.val)) r (hc r) (hs r), qN, qr, Nat.zero_add]
  simp only [hz, prN]
  congr 1
  · funext d'; congr 1; refine Fin.ext ?_; dsimp only; omega
  · refine Fin.ext ?_; dsimp only; omega
theorem k_piece (h : Fin 4) {z : FVec Ideal S512x128 .f32}
    (hz : ∀ (r : Fin 512) (d : Fin 128), z (ix2 r d) = prN g w X n r.val (512 + (128 * h.val + d.val))) (r : Fin 512) (d : Fin 128) :
    turnK z c s (ix2 r d) = kN g w X P n (0 + r.val) (128 * h.val + d.val) := by
  rw [turnK_apply, turn_apply z c s (P (row n r.val)) r (hc r) (hs r), kN, kr, Nat.zero_add]
  simp only [hz, prN]
  congr 2
  · funext d'; congr 1; refine Fin.ext ?_; dsimp only; omega
  · refine Fin.ext ?_; dsimp only; omega

theorem canon_q {L : List (View.Piece (Elt Ideal) S512x512 .bf16)} (hA : ∀ r j : Fin 512, A (ix2 r j) = prN g w X n r.val (0 + j.val)) :
    View.canon (⟨Rect.unit (s := S512x512) ![0, 384] S512x128.size inb_S512x512_S512x128_0_384, turnQ (extractStridedSlice S512x128 ![0, 384] A slices_S512x512_o0_384_S512x128) c s⟩
      :: ⟨Rect.unit (s := S512x512) ![0, 256] S512x128.size inb_S512x512_S512x128_0_256, turnQ (extractStridedSlice S512x128 ![0, 256] A slices_S512x512_o0_256_S512x128) c s⟩
      :: ⟨Rect.unit (s := S512x512) ![0, 128] S512x128.size inb_S512x512_S512x128_0_128, turnQ (extractStridedSlice S512x128 ![0, 128] A slices_S512x512_o0_128_S512x128) c s⟩
      :: ⟨Rect.unit (s := S512x512) ![0, 0] S512x128.size inb_S512x512_S512x128_0_0, turnQ (extractStridedSlice S512x128 ![0, 0] A slices_S512x512_o0_0_S512x128) c s⟩ :: L)
      = ar .bf16 (qN g w X P n) := by
  funext y
  refine View.canon_append_of_piecesOf _ L [_, _, _, _] ⟨pc2 inb_S512x512_S512x128_0_384 (q_piece hc hs 3 fun r d => ?_), pc2 inb_S512x512_S512x128_0_256 (q_piece hc hs 2 fun r d => ?_), pc2 inb_S512x512_S512x128_0_128 (q_piece hc hs 1 fun r d => ?_),
    pc2 inb_S512x512_S512x128_0_0 (q_piece hc hs 0 fun r d => ?_), trivial⟩ y (View.cover_of_tiledL (s := S512x512) _ S512x128.size (by sl_kernel_rfl) y)
  all_goals
    pointwise [hA]
theorem canon_k {L : List (View.Piece (Elt Ideal) S512x512 .f32)} (hA : ∀ r j : Fin 512, A (ix2 r j) = prN g w X n r.val (512 + j.val)) :
    View.canon (⟨Rect.unit (s := S512x512) ![0, 384] S512x128.size inb_S512x512_S512x128_0_384, turnK (extractStridedSlice S512x128 ![0, 384] A slices_S512x512_o0_384_S512x128) c s⟩
      :: ⟨Rect.unit (s := S512x512) ![0, 256] S512x128.size inb_S512x512_S512x128_0_256, turnK (extractStridedSlice S512x128 ![0, 256] A slices_S512x512_o0_256_S512x128) c s⟩
      :: ⟨Rect.unit (s := S512x512) ![0, 128] S512x128.size inb_S512x512_S512x128_0_128, turnK (extractStridedSlice S512x128 ![0, 128] A slices_S512x512_o0_128_S512x128) c s⟩
      :: ⟨Rect.unit (s := S512x512) ![0, 0] S512x128.size inb_S512x512_S512x128_0_0, turnK (extractStridedSlice S512x128 ![0, 0] A slices_S512x512_o0_0_S512x128) c s⟩ :: L)
      = ar .f32 (kN g w X P n) := by
  funext y
  refine View.canon_append_of_piecesOf _ L [_, _, _, _] ⟨pc2 inb_S512x512_S512x128_0_384 (k_piece hc hs 3 fun r d => ?_), pc2 inb_S512x512_S512x128_0_256 (k_piece hc hs 2 fun r d => ?_), pc2 inb_S512x512_S512x128_0_128 (k_piece hc hs 1 fun r d => ?_),
    pc2 inb_S512x512_S512x128_0_0 (k_piece hc hs 0 fun r d => ?_), trivial⟩ y (View.cover_of_tiledL (s := S512x512) _ S512x128.size (by sl_kernel_rfl) y)
  all_goals
    pointwise [hA]
end

/-! ## The values and the retention gate -/

section
variable {n : ℕ} {u : Vec Ideal S512x1024 .bf16} (hu : ∀ (r : Fin 512) (k : Fin 1024), u (ix2 r k) = uN g X n (0 + r.val) (0 + k.val))
  {W : Vec Ideal S1024x1024 .bf16}
include hu

theorem canon_v {L : List (View.Piece (Elt Ideal) S512x1024 .bf16)} (hW : ∀ k (j : Fin 1024), W (ix2 k j) = w k ⟨1024 + j.val, by omega⟩) :
    View.canon (⟨Rect.unit (s := S512x1024) ![0, 0] S512x1024.size inb_S512x1024_S512x1024_0_0, k0_pay28 u W⟩ :: L) = ar .bf16 (vN g w X n) := by
  rw [View.canon_cons_unit_lit _ _ _ (by decide)]
  funext y
  obtain ⟨r, c, rfl⟩ := ex2 y
  rw [value_apply, prN_of (by decide) hu hW]
  rfl
theorem canon_s {L : List (View.Piece (Elt Ideal) S512x1024 .bf16)} (hW : ∀ k (j : Fin 1024), W (ix2 k j) = w k ⟨2048 + j.val, by omega⟩) :
    View.canon (⟨Rect.unit (s := S512x1024) ![0, 0] S512x1024.size inb_S512x1024_S512x1024_0_0, k0_pay29 u W⟩ :: L) = ar .bf16 (sN g w X n) := by
  rw [View.canon_cons_unit_lit _ _ _ (by decide)]
  funext y
  obtain ⟨r, c, rfl⟩ := ex2 y
  rw [silu_apply, prN_of (by decide) hu hW]
  rfl
end

/-! ## The state -/

section
variable {n : ℕ} {c : ℕ} {κ : Kind} {sg : RefSig} {sp : Space}
  {mk : View sg κ sp S512x512 .f32} {LK : List (View.Piece (Elt Ideal) S512x512 .f32)} (hK : View.canon LK = ar .f32 (kN g w X P n))
  {mv : View sg κ sp S512x1024 .bf16} {LV : List (View.Piece (Elt Ideal) S512x1024 .bf16)} (hV : View.canon LV = ar .bf16 (vN g w X n))
  {mz : Memref sg κ sp S4x128x128 .f32} {iz : mz.IsWhole} {z : S4x128x128.Idx → EReal} (hz : ∀ (h : Fin 4) (i d : Fin 128), z (ix3 h i d) = zeta h.val i.val)
  {mc : Memref sg κ sp S4x1x256 .f32} {ic : mc.IsWhole} {cd : S4x1x256.Idx → EReal} (hcd : ∀ (h : Fin 4) (e : Fin 256), cd (ix3 h 0 e) = cdec h.val)
  {s0 s1 s2 s3 : Vec Ideal S1x128x256 .f32}
  (h0 : ∀ i d e, s0 (ix3 i d e) = stN g w X P (n + c) (0 + i.val) (0 + d.val) (0 + e.val)) (h1 : ∀ i d e, s1 (ix3 i d e) = stN g w X P (n + c) (1 + i.val) (0 + d.val) (0 + e.val))
  (h2 : ∀ i d e, s2 (ix3 i d e) = stN g w X P (n + c) (2 + i.val) (0 + d.val) (0 + e.val)) (h3 : ∀ i d e, s3 (ix3 i d e) = stN g w X P (n + c) (3 + i.val) (0 + d.val) (0 + e.val))

theorem st_piece (h : ℕ) (hh : h < 4) {k : Vec Ideal S128x128 .f32} {v : Vec Ideal S128x256 .bf16} {s : Vec Ideal S1x128x256 .f32}
    {z : Vec Ideal S1x128x128 .f32} {cd : Vec Ideal S1x1x256 .f32} (hk : ∀ i d, k (ix2 i d) = kN g w X P n (128 * c + i.val) (128 * h + d.val))
    (hv : ∀ i e, v (ix2 i e) = vN g w X n (128 * c + i.val) (256 * h + e.val)) (hs : ∀ i d e, s (ix3 i d e) = stN g w X P (n + c) (h + i.val) (0 + d.val) (0 + e.val))
    (hz : ∀ i d, z (ix3 0 i d) = zeta h i.val) (hc : ∀ e, cd (ix3 0 0 e) = cdec h) (d : Fin 128) (e : Fin 256) :
    stOp k v s z cd (ix3 0 d e) = stN g w X P (n + c + 1) h (0 + d.val) (0 + e.val) := by
  refine Eq.trans ?_ (stN_at g w X P (n + c + 1) h hh d e).symm
  have hs' := (hs 0 d e).trans (stN_at g w X P (n + c) h hh d e)
  rw [stOp_apply, hs', hc]
  show _ = stNext g w X P (st g w X P (n + c)) (n + c) ⟨h, hh⟩ d e
  rw [stNext]
  congr 1
  refine Finset.sum_congr rfl fun j _ => ?_
  rw [hk, hv, hz, kN_at (hh := hh), vN_at (hh := hh), mul_assoc, mul_comm (zeta _ _)]

include hK hV hz hcd h0 h1 h2 h3 in
theorem canon_st (hc : c < 4) {L : List (View.Piece (Elt Ideal) S4x128x256 .f32)} {q0 q1 q2 q3 v0 v1 v2 v3} :
    View.canon (
      ⟨Rect.unit (s := S4x128x256) ![3, 0, 0] S1x128x256.size inb_S4x128x256_S1x128x256_3_0_0,
        stOp (mk.readCov LK (Rect.unit (s := S512x512) ![128 * c, 384] S128x128.size q3).toLoadRect) (mv.readCov LV (Rect.unit (s := S512x1024) ![128 * c, 768] S128x256.size v3).toLoadRect) s3
          (View.readAt (Elt Ideal) mz.view (Rect.unit (s := S4x128x128) ![3, 0, 0] S1x128x128.size inb_S4x128x128_S1x128x128_3_0_0).toLoadRect (iz.unread z))
          (View.readAt (Elt Ideal) mc.view (Rect.unit (s := S4x1x256) ![3, 0, 0] S1x1x256.size inb_S4x1x256_S1x1x256_3_0_0).toLoadRect (ic.unread cd))⟩ ::
      ⟨Rect.unit (s := S4x128x256) ![2, 0, 0] S1x128x256.size inb_S4x128x256_S1x128x256_2_0_0,
        stOp (mk.readCov LK (Rect.unit (s := S512x512) ![128 * c, 256] S128x128.size q2).toLoadRect) (mv.readCov LV (Rect.unit (s := S512x1024) ![128 * c, 512] S128x256.size v2).toLoadRect) s2
          (View.readAt (Elt Ideal) mz.view (Rect.unit (s := S4x128x128) ![2, 0, 0] S1x128x128.size inb_S4x128x128_S1x128x128_2_0_0).toLoadRect (iz.unread z))
          (View.readAt (Elt Ideal) mc.view (Rect.unit (s := S4x1x256) ![2, 0, 0] S1x1x256.size inb_S4x1x256_S1x1x256_2_0_0).toLoadRect (ic.unread cd))⟩ ::
      ⟨Rect.unit (s := S4x128x256) ![1, 0, 0] S1x128x256.size inb_S4x128x256_S1x128x256_1_0_0,
        stOp (mk.readCov LK (Rect.unit (s := S512x512) ![128 * c, 128] S128x128.size q1).toLoadRect) (mv.readCov LV (Rect.unit (s := S512x1024) ![128 * c, 256] S128x256.size v1).toLoadRect) s1
          (View.readAt (Elt Ideal) mz.view (Rect.unit (s := S4x128x128) ![1, 0, 0] S1x128x128.size inb_S4x128x128_S1x128x128_1_0_0).toLoadRect (iz.unread z))
          (View.readAt (Elt Ideal) mc.view (Rect.unit (s := S4x1x256) ![1, 0, 0] S1x1x256.size inb_S4x1x256_S1x1x256_1_0_0).toLoadRect (ic.unread cd))⟩ ::
      ⟨Rect.unit (s := S4x128x256) ![0, 0, 0] S1x128x256.size inb_S4x128x256_S1x128x256_0_0_0,
        stOp (mk.readCov LK (Rect.unit (s := S512x512) ![128 * c, 0] S128x128.size q0).toLoadRect) (mv.readCov LV (Rect.unit (s := S512x1024) ![128 * c, 0] S128x256.size v0).toLoadRect) s0
          (View.readAt (Elt Ideal) mz.view (Rect.unit (s := S4x128x128) ![0, 0, 0] S1x128x128.size inb_S4x128x128_S1x128x128_0_0_0).toLoadRect (iz.unread z))
          (View.readAt (Elt Ideal) mc.view (Rect.unit (s := S4x1x256) ![0, 0, 0] S1x1x256.size inb_S4x1x256_S1x1x256_0_0_0).toLoadRect (ic.unread cd))⟩ :: L)
      = ar3 .f32 (stN g w X P (n + c + 1)) := by
  have hz' (h : Fin 4) (inb : ∀ x, (![h.val, 0, 0] : Fin 3 → ℕ) x + S1x128x128.size x ≤ S4x128x128.size x) (i d : Fin 128) :
      View.readAt (Elt Ideal) mz.view (Rect.unit (s := S4x128x128) ![h.val, 0, 0] S1x128x128.size inb).toLoadRect (iz.unread z) (ix3 0 i d) = zeta h.val i.val := by
    rw [ldw, ← hz h i d]
    congr 1; funext a; refine Fin.ext ?_
    rw [Rect.idx_unit_val]
    match a with | ⟨0, _⟩ => rfl | ⟨1, _⟩ => exact Nat.zero_add _ | ⟨2, _⟩ => exact Nat.zero_add _
  have hc' (h : Fin 4) (inb : ∀ x, (![h.val, 0, 0] : Fin 3 → ℕ) x + S1x1x256.size x ≤ S4x1x256.size x) (e : Fin 256) :
      View.readAt (Elt Ideal) mc.view (Rect.unit (s := S4x1x256) ![h.val, 0, 0] S1x1x256.size inb).toLoadRect (ic.unread cd) (ix3 0 0 e) = cdec h.val := by
    rw [ldw, ← hcd h e]
    congr 1; funext a; refine Fin.ext ?_
    rw [Rect.idx_unit_val]
    match a with | ⟨0, _⟩ => rfl | ⟨1, _⟩ => rfl | ⟨2, _⟩ => exact Nat.zero_add _
  funext y
  refine View.canon_append_of_piecesOf _ L [_, _, _, _] ⟨
    pc3 inb_S4x128x256_S1x128x256_3_0_0 (st_piece 3 (by decide) (rd2 hK) (rd2 hV) h3 (hz' 3 _) (hc' 3 _)),
    pc3 inb_S4x128x256_S1x128x256_2_0_0 (st_piece 2 (by decide) (rd2 hK) (rd2 hV) h2 (hz' 2 _) (hc' 2 _)),
    pc3 inb_S4x128x256_S1x128x256_1_0_0 (st_piece 1 (by decide) (rd2 hK) (rd2 hV) h1 (hz' 1 _) (hc' 1 _)),
    pc3 inb_S4x128x256_S1x128x256_0_0_0 (st_piece 0 (by decide) (rd2 hK) (rd2 hV) h0 (hz' 0 _) (hc' 0 _)),
    trivial⟩ y (View.cover_of_tiledL (s := S4x128x256) _ S1x128x256.size (by sl_kernel_rfl) y)
end

/-! ## The gated retention -/

section
variable {n : ℕ}

theorem g_piece (c h : ℕ) (hh : h < 4) {q : Vec Ideal S128x128 .bf16} {k : Vec Ideal S128x128 .f32} {v : Vec Ideal S128x256 .bf16} {s : Vec Ideal S1x128x256 .f32}
    {dc : Vec Ideal S1x128x128 .f32} {x : Vec Ideal S1x128x256 .f32} {sg : Vec Ideal S128x256 .bf16}
    (hq : ∀ i d, q (ix2 i d) = qN g w X P n (128 * c + i.val) (128 * h + d.val)) (hk : ∀ i d, k (ix2 i d) = kN g w X P n (128 * c + i.val) (128 * h + d.val))
    (hv : ∀ i e, v (ix2 i e) = vN g w X n (128 * c + i.val) (256 * h + e.val)) (hs : ∀ i d e, s (ix3 i d e) = stN g w X P (n + c) (h + i.val) (0 + d.val) (0 + e.val))
    (hd : ∀ i j, dc (ix3 0 i j) = dec h i.val j.val) (hx : ∀ i e, x (ix3 0 i e) = xi h i.val)
    (hg : ∀ i e, sg (ix2 i e) = sN g w X n (128 * c + i.val) (256 * h + e.val)) (i : Fin 128) (e : Fin 256) :
    gOp q k v s dc x sg (ix2 i e) = gN g w X P n (128 * c + i.val) (256 * h + e.val) := by
  have hs' (d : Fin 128) (e : Fin 256) := (hs 0 d e).trans (stN_at g w X P (n + c) h hh d e)
  have e1 : (128 * c + i.val) / 128 = c := by omega
  have e2 : (⟨(128 * c + i.val) % 128, Nat.mod_lt _ (by decide)⟩ : Fin 128) = i := Fin.ext (by dsimp only; omega)
  have e3 : (⟨(256 * h + e.val) % 1024 / 256, by omega⟩ : Fin 4) = ⟨h, hh⟩ := Fin.ext (by dsimp only; omega)
  have e4 : (⟨(256 * h + e.val) % 1024 % 256, by omega⟩ : Fin 256) = e := Fin.ext (by dsimp only; omega)
  have e5 : (⟨2048 + (256 * h + e.val) % 1024, by omega⟩ : Fin 5632) = ⟨(2048 + (256 * h + e.val)) % 5632, Nat.mod_lt _ (by decide)⟩ := Fin.ext (by dsimp only; omega)
  have hq' (i d) := (hq i d).trans (qN_at g w X P n c h hh i d)
  have hk' (i d) := (hk i d).trans (kN_at g w X P n c h hh i d)
  have hv' (i e) := (hv i e).trans (vN_at g w X n c h hh i e)
  have er (e' : Fin 256) : retN g w X P n (128 * c + i.val) ⟨h, hh⟩ e' = retOf g w X P (st g w X P (n + c)) (n + c) i ⟨h, hh⟩ e' := by
    rw [retN, e1, e2]
  rw [gOp_apply, gN, gated, hg, sN, prN]
  simp only [e3, e4, e5]
  refine congrArg (fun a : EReal => a * silu _) (congrFun (congrArg gn (funext fun e' => ?_)) e)
  rw [er, retOf]
  simp only [hs', hq', hk', hv', hd, hx]

variable {κ : Kind} {sg : RefSig} {sp : Space}
  {mq : View sg κ sp S512x512 .bf16} {LQ : List (View.Piece (Elt Ideal) S512x512 .bf16)} (hQ : View.canon LQ = ar .bf16 (qN g w X P n))
  {mk : View sg κ sp S512x512 .f32} {LK : List (View.Piece (Elt Ideal) S512x512 .f32)} (hK : View.canon LK = ar .f32 (kN g w X P n))
  {mv : View sg κ sp S512x1024 .bf16} {LV : List (View.Piece (Elt Ideal) S512x1024 .bf16)} (hV : View.canon LV = ar .bf16 (vN g w X n))
  {ms : View sg κ sp S512x1024 .bf16} {LS : List (View.Piece (Elt Ideal) S512x1024 .bf16)} (hS : View.canon LS = ar .bf16 (sN g w X n))
  {md : Memref sg κ sp S4x128x128 .f32} {id : md.IsWhole} {dc : S4x128x128.Idx → EReal} (hd : ∀ (h : Fin 4) (i j : Fin 128), dc (ix3 h i j) = dec h.val i.val j.val)
  {mx : Memref sg κ sp S4x128x256 .f32} {ix : mx.IsWhole} {xx : S4x128x256.Idx → EReal} (hx : ∀ (h : Fin 4) (i : Fin 128) (e : Fin 256), xx (ix3 h i e) = xi h.val i.val)
  {s00 s01 s02 s03 s10 s11 s12 s13 s20 s21 s22 s23 s30 s31 s32 s33 : Vec Ideal S1x128x256 .f32}
  (h00 : ∀ i d e, s00 (ix3 i d e) = stN g w X P (n + 0) (0 + i.val) (0 + d.val) (0 + e.val))
  (h01 : ∀ i d e, s01 (ix3 i d e) = stN g w X P (n + 0) (1 + i.val) (0 + d.val) (0 + e.val))
  (h02 : ∀ i d e, s02 (ix3 i d e) = stN g w X P (n + 0) (2 + i.val) (0 + d.val) (0 + e.val))
  (h03 : ∀ i d e, s03 (ix3 i d e) = stN g w X P (n + 0) (3 + i.val) (0 + d.val) (0 + e.val))
  (h10 : ∀ i d e, s10 (ix3 i d e) = stN g w X P (n + 1) (0 + i.val) (0 + d.val) (0 + e.val))
  (h11 : ∀ i d e, s11 (ix3 i d e) = stN g w X P (n + 1) (1 + i.val) (0 + d.val) (0 + e.val))
  (h12 : ∀ i d e, s12 (ix3 i d e) = stN g w X P (n + 1) (2 + i.val) (0 + d.val) (0 + e.val))
  (h13 : ∀ i d e, s13 (ix3 i d e) = stN g w X P (n + 1) (3 + i.val) (0 + d.val) (0 + e.val))
  (h20 : ∀ i d e, s20 (ix3 i d e) = stN g w X P (n + 2) (0 + i.val) (0 + d.val) (0 + e.val))
  (h21 : ∀ i d e, s21 (ix3 i d e) = stN g w X P (n + 2) (1 + i.val) (0 + d.val) (0 + e.val))
  (h22 : ∀ i d e, s22 (ix3 i d e) = stN g w X P (n + 2) (2 + i.val) (0 + d.val) (0 + e.val))
  (h23 : ∀ i d e, s23 (ix3 i d e) = stN g w X P (n + 2) (3 + i.val) (0 + d.val) (0 + e.val))
  (h30 : ∀ i d e, s30 (ix3 i d e) = stN g w X P (n + 3) (0 + i.val) (0 + d.val) (0 + e.val))
  (h31 : ∀ i d e, s31 (ix3 i d e) = stN g w X P (n + 3) (1 + i.val) (0 + d.val) (0 + e.val))
  (h32 : ∀ i d e, s32 (ix3 i d e) = stN g w X P (n + 3) (2 + i.val) (0 + d.val) (0 + e.val))
  (h33 : ∀ i d e, s33 (ix3 i d e) = stN g w X P (n + 3) (3 + i.val) (0 + d.val) (0 + e.val))

include hQ hK hV hS hd hx h00 h01 h02 h03 h10 h11 h12 h13 h20 h21 h22 h23 h30 h31 h32 h33 in
theorem canon_g {L : List (View.Piece (Elt Ideal) S512x1024 .bf16)} :
    View.canon (
      ⟨Rect.unit (s := S512x1024) ![384, 768] S128x256.size inb_S512x1024_S128x256_384_768,
        gOp (mq.readCov LQ (Rect.unit (s := S512x512) ![384, 384] S128x128.size inb_S512x512_S128x128_384_384).toLoadRect) (mk.readCov LK (Rect.unit (s := S512x512) ![384, 384] S128x128.size inb_S512x512_S128x128_384_384).toLoadRect)
          (mv.readCov LV (Rect.unit (s := S512x1024) ![384, 768] S128x256.size inb_S512x1024_S128x256_384_768).toLoadRect) s33
          (View.readAt (Elt Ideal) md.view (Rect.unit (s := S4x128x128) ![3, 0, 0] S1x128x128.size inb_S4x128x128_S1x128x128_3_0_0).toLoadRect (id.unread dc))
          (View.readAt (Elt Ideal) mx.view (Rect.unit (s := S4x128x256) ![3, 0, 0] S1x128x256.size inb_S4x128x256_S1x128x256_3_0_0).toLoadRect (ix.unread xx))
          (ms.readCov LS (Rect.unit (s := S512x1024) ![384, 768] S128x256.size inb_S512x1024_S128x256_384_768).toLoadRect)⟩ ::
      ⟨Rect.unit (s := S512x1024) ![384, 512] S128x256.size inb_S512x1024_S128x256_384_512,
        gOp (mq.readCov LQ (Rect.unit (s := S512x512) ![384, 256] S128x128.size inb_S512x512_S128x128_384_256).toLoadRect) (mk.readCov LK (Rect.unit (s := S512x512) ![384, 256] S128x128.size inb_S512x512_S128x128_384_256).toLoadRect)
          (mv.readCov LV (Rect.unit (s := S512x1024) ![384, 512] S128x256.size inb_S512x1024_S128x256_384_512).toLoadRect) s32
          (View.readAt (Elt Ideal) md.view (Rect.unit (s := S4x128x128) ![2, 0, 0] S1x128x128.size inb_S4x128x128_S1x128x128_2_0_0).toLoadRect (id.unread dc))
          (View.readAt (Elt Ideal) mx.view (Rect.unit (s := S4x128x256) ![2, 0, 0] S1x128x256.size inb_S4x128x256_S1x128x256_2_0_0).toLoadRect (ix.unread xx))
          (ms.readCov LS (Rect.unit (s := S512x1024) ![384, 512] S128x256.size inb_S512x1024_S128x256_384_512).toLoadRect)⟩ ::
      ⟨Rect.unit (s := S512x1024) ![384, 256] S128x256.size inb_S512x1024_S128x256_384_256,
        gOp (mq.readCov LQ (Rect.unit (s := S512x512) ![384, 128] S128x128.size inb_S512x512_S128x128_384_128).toLoadRect) (mk.readCov LK (Rect.unit (s := S512x512) ![384, 128] S128x128.size inb_S512x512_S128x128_384_128).toLoadRect)
          (mv.readCov LV (Rect.unit (s := S512x1024) ![384, 256] S128x256.size inb_S512x1024_S128x256_384_256).toLoadRect) s31
          (View.readAt (Elt Ideal) md.view (Rect.unit (s := S4x128x128) ![1, 0, 0] S1x128x128.size inb_S4x128x128_S1x128x128_1_0_0).toLoadRect (id.unread dc))
          (View.readAt (Elt Ideal) mx.view (Rect.unit (s := S4x128x256) ![1, 0, 0] S1x128x256.size inb_S4x128x256_S1x128x256_1_0_0).toLoadRect (ix.unread xx))
          (ms.readCov LS (Rect.unit (s := S512x1024) ![384, 256] S128x256.size inb_S512x1024_S128x256_384_256).toLoadRect)⟩ ::
      ⟨Rect.unit (s := S512x1024) ![384, 0] S128x256.size inb_S512x1024_S128x256_384_0,
        gOp (mq.readCov LQ (Rect.unit (s := S512x512) ![384, 0] S128x128.size inb_S512x512_S128x128_384_0).toLoadRect) (mk.readCov LK (Rect.unit (s := S512x512) ![384, 0] S128x128.size inb_S512x512_S128x128_384_0).toLoadRect)
          (mv.readCov LV (Rect.unit (s := S512x1024) ![384, 0] S128x256.size inb_S512x1024_S128x256_384_0).toLoadRect) s30
          (View.readAt (Elt Ideal) md.view (Rect.unit (s := S4x128x128) ![0, 0, 0] S1x128x128.size inb_S4x128x128_S1x128x128_0_0_0).toLoadRect (id.unread dc))
          (View.readAt (Elt Ideal) mx.view (Rect.unit (s := S4x128x256) ![0, 0, 0] S1x128x256.size inb_S4x128x256_S1x128x256_0_0_0).toLoadRect (ix.unread xx))
          (ms.readCov LS (Rect.unit (s := S512x1024) ![384, 0] S128x256.size inb_S512x1024_S128x256_384_0).toLoadRect)⟩ ::
      ⟨Rect.unit (s := S512x1024) ![256, 768] S128x256.size inb_S512x1024_S128x256_256_768,
        gOp (mq.readCov LQ (Rect.unit (s := S512x512) ![256, 384] S128x128.size inb_S512x512_S128x128_256_384).toLoadRect) (mk.readCov LK (Rect.unit (s := S512x512) ![256, 384] S128x128.size inb_S512x512_S128x128_256_384).toLoadRect)
          (mv.readCov LV (Rect.unit (s := S512x1024) ![256, 768] S128x256.size inb_S512x1024_S128x256_256_768).toLoadRect) s23
          (View.readAt (Elt Ideal) md.view (Rect.unit (s := S4x128x128) ![3, 0, 0] S1x128x128.size inb_S4x128x128_S1x128x128_3_0_0).toLoadRect (id.unread dc))
          (View.readAt (Elt Ideal) mx.view (Rect.unit (s := S4x128x256) ![3, 0, 0] S1x128x256.size inb_S4x128x256_S1x128x256_3_0_0).toLoadRect (ix.unread xx))
          (ms.readCov LS (Rect.unit (s := S512x1024) ![256, 768] S128x256.size inb_S512x1024_S128x256_256_768).toLoadRect)⟩ ::
      ⟨Rect.unit (s := S512x1024) ![256, 512] S128x256.size inb_S512x1024_S128x256_256_512,
        gOp (mq.readCov LQ (Rect.unit (s := S512x512) ![256, 256] S128x128.size inb_S512x512_S128x128_256_256).toLoadRect) (mk.readCov LK (Rect.unit (s := S512x512) ![256, 256] S128x128.size inb_S512x512_S128x128_256_256).toLoadRect)
          (mv.readCov LV (Rect.unit (s := S512x1024) ![256, 512] S128x256.size inb_S512x1024_S128x256_256_512).toLoadRect) s22
          (View.readAt (Elt Ideal) md.view (Rect.unit (s := S4x128x128) ![2, 0, 0] S1x128x128.size inb_S4x128x128_S1x128x128_2_0_0).toLoadRect (id.unread dc))
          (View.readAt (Elt Ideal) mx.view (Rect.unit (s := S4x128x256) ![2, 0, 0] S1x128x256.size inb_S4x128x256_S1x128x256_2_0_0).toLoadRect (ix.unread xx))
          (ms.readCov LS (Rect.unit (s := S512x1024) ![256, 512] S128x256.size inb_S512x1024_S128x256_256_512).toLoadRect)⟩ ::
      ⟨Rect.unit (s := S512x1024) ![256, 256] S128x256.size inb_S512x1024_S128x256_256_256,
        gOp (mq.readCov LQ (Rect.unit (s := S512x512) ![256, 128] S128x128.size inb_S512x512_S128x128_256_128).toLoadRect) (mk.readCov LK (Rect.unit (s := S512x512) ![256, 128] S128x128.size inb_S512x512_S128x128_256_128).toLoadRect)
          (mv.readCov LV (Rect.unit (s := S512x1024) ![256, 256] S128x256.size inb_S512x1024_S128x256_256_256).toLoadRect) s21
          (View.readAt (Elt Ideal) md.view (Rect.unit (s := S4x128x128) ![1, 0, 0] S1x128x128.size inb_S4x128x128_S1x128x128_1_0_0).toLoadRect (id.unread dc))
          (View.readAt (Elt Ideal) mx.view (Rect.unit (s := S4x128x256) ![1, 0, 0] S1x128x256.size inb_S4x128x256_S1x128x256_1_0_0).toLoadRect (ix.unread xx))
          (ms.readCov LS (Rect.unit (s := S512x1024) ![256, 256] S128x256.size inb_S512x1024_S128x256_256_256).toLoadRect)⟩ ::
      ⟨Rect.unit (s := S512x1024) ![256, 0] S128x256.size inb_S512x1024_S128x256_256_0,
        gOp (mq.readCov LQ (Rect.unit (s := S512x512) ![256, 0] S128x128.size inb_S512x512_S128x128_256_0).toLoadRect) (mk.readCov LK (Rect.unit (s := S512x512) ![256, 0] S128x128.size inb_S512x512_S128x128_256_0).toLoadRect)
          (mv.readCov LV (Rect.unit (s := S512x1024) ![256, 0] S128x256.size inb_S512x1024_S128x256_256_0).toLoadRect) s20
          (View.readAt (Elt Ideal) md.view (Rect.unit (s := S4x128x128) ![0, 0, 0] S1x128x128.size inb_S4x128x128_S1x128x128_0_0_0).toLoadRect (id.unread dc))
          (View.readAt (Elt Ideal) mx.view (Rect.unit (s := S4x128x256) ![0, 0, 0] S1x128x256.size inb_S4x128x256_S1x128x256_0_0_0).toLoadRect (ix.unread xx))
          (ms.readCov LS (Rect.unit (s := S512x1024) ![256, 0] S128x256.size inb_S512x1024_S128x256_256_0).toLoadRect)⟩ ::
      ⟨Rect.unit (s := S512x1024) ![128, 768] S128x256.size inb_S512x1024_S128x256_128_768,
        gOp (mq.readCov LQ (Rect.unit (s := S512x512) ![128, 384] S128x128.size inb_S512x512_S128x128_128_384).toLoadRect) (mk.readCov LK (Rect.unit (s := S512x512) ![128, 384] S128x128.size inb_S512x512_S128x128_128_384).toLoadRect)
          (mv.readCov LV (Rect.unit (s := S512x1024) ![128, 768] S128x256.size inb_S512x1024_S128x256_128_768).toLoadRect) s13
          (View.readAt (Elt Ideal) md.view (Rect.unit (s := S4x128x128) ![3, 0, 0] S1x128x128.size inb_S4x128x128_S1x128x128_3_0_0).toLoadRect (id.unread dc))
          (View.readAt (Elt Ideal) mx.view (Rect.unit (s := S4x128x256) ![3, 0, 0] S1x128x256.size inb_S4x128x256_S1x128x256_3_0_0).toLoadRect (ix.unread xx))
          (ms.readCov LS (Rect.unit (s := S512x1024) ![128, 768] S128x256.size inb_S512x1024_S128x256_128_768).toLoadRect)⟩ ::
      ⟨Rect.unit (s := S512x1024) ![128, 512] S128x256.size inb_S512x1024_S128x256_128_512,
        gOp (mq.readCov LQ (Rect.unit (s := S512x512) ![128, 256] S128x128.size inb_S512x512_S128x128_128_256).toLoadRect) (mk.readCov LK (Rect.unit (s := S512x512) ![128, 256] S128x128.size inb_S512x512_S128x128_128_256).toLoadRect)
          (mv.readCov LV (Rect.unit (s := S512x1024) ![128, 512] S128x256.size inb_S512x1024_S128x256_128_512).toLoadRect) s12
          (View.readAt (Elt Ideal) md.view (Rect.unit (s := S4x128x128) ![2, 0, 0] S1x128x128.size inb_S4x128x128_S1x128x128_2_0_0).toLoadRect (id.unread dc))
          (View.readAt (Elt Ideal) mx.view (Rect.unit (s := S4x128x256) ![2, 0, 0] S1x128x256.size inb_S4x128x256_S1x128x256_2_0_0).toLoadRect (ix.unread xx))
          (ms.readCov LS (Rect.unit (s := S512x1024) ![128, 512] S128x256.size inb_S512x1024_S128x256_128_512).toLoadRect)⟩ ::
      ⟨Rect.unit (s := S512x1024) ![128, 256] S128x256.size inb_S512x1024_S128x256_128_256,
        gOp (mq.readCov LQ (Rect.unit (s := S512x512) ![128, 128] S128x128.size inb_S512x512_S128x128_128_128).toLoadRect) (mk.readCov LK (Rect.unit (s := S512x512) ![128, 128] S128x128.size inb_S512x512_S128x128_128_128).toLoadRect)
          (mv.readCov LV (Rect.unit (s := S512x1024) ![128, 256] S128x256.size inb_S512x1024_S128x256_128_256).toLoadRect) s11
          (View.readAt (Elt Ideal) md.view (Rect.unit (s := S4x128x128) ![1, 0, 0] S1x128x128.size inb_S4x128x128_S1x128x128_1_0_0).toLoadRect (id.unread dc))
          (View.readAt (Elt Ideal) mx.view (Rect.unit (s := S4x128x256) ![1, 0, 0] S1x128x256.size inb_S4x128x256_S1x128x256_1_0_0).toLoadRect (ix.unread xx))
          (ms.readCov LS (Rect.unit (s := S512x1024) ![128, 256] S128x256.size inb_S512x1024_S128x256_128_256).toLoadRect)⟩ ::
      ⟨Rect.unit (s := S512x1024) ![128, 0] S128x256.size inb_S512x1024_S128x256_128_0,
        gOp (mq.readCov LQ (Rect.unit (s := S512x512) ![128, 0] S128x128.size inb_S512x512_S128x128_128_0).toLoadRect) (mk.readCov LK (Rect.unit (s := S512x512) ![128, 0] S128x128.size inb_S512x512_S128x128_128_0).toLoadRect)
          (mv.readCov LV (Rect.unit (s := S512x1024) ![128, 0] S128x256.size inb_S512x1024_S128x256_128_0).toLoadRect) s10
          (View.readAt (Elt Ideal) md.view (Rect.unit (s := S4x128x128) ![0, 0, 0] S1x128x128.size inb_S4x128x128_S1x128x128_0_0_0).toLoadRect (id.unread dc))
          (View.readAt (Elt Ideal) mx.view (Rect.unit (s := S4x128x256) ![0, 0, 0] S1x128x256.size inb_S4x128x256_S1x128x256_0_0_0).toLoadRect (ix.unread xx))
          (ms.readCov LS (Rect.unit (s := S512x1024) ![128, 0] S128x256.size inb_S512x1024_S128x256_128_0).toLoadRect)⟩ ::
      ⟨Rect.unit (s := S512x1024) ![0, 768] S128x256.size inb_S512x1024_S128x256_0_768,
        gOp (mq.readCov LQ (Rect.unit (s := S512x512) ![0, 384] S128x128.size inb_S512x512_S128x128_0_384).toLoadRect) (mk.readCov LK (Rect.unit (s := S512x512) ![0, 384] S128x128.size inb_S512x512_S128x128_0_384).toLoadRect)
          (mv.readCov LV (Rect.unit (s := S512x1024) ![0, 768] S128x256.size inb_S512x1024_S128x256_0_768).toLoadRect) s03
          (View.readAt (Elt Ideal) md.view (Rect.unit (s := S4x128x128) ![3, 0, 0] S1x128x128.size inb_S4x128x128_S1x128x128_3_0_0).toLoadRect (id.unread dc))
          (View.readAt (Elt Ideal) mx.view (Rect.unit (s := S4x128x256) ![3, 0, 0] S1x128x256.size inb_S4x128x256_S1x128x256_3_0_0).toLoadRect (ix.unread xx))
          (ms.readCov LS (Rect.unit (s := S512x1024) ![0, 768] S128x256.size inb_S512x1024_S128x256_0_768).toLoadRect)⟩ ::
      ⟨Rect.unit (s := S512x1024) ![0, 512] S128x256.size inb_S512x1024_S128x256_0_512,
        gOp (mq.readCov LQ (Rect.unit (s := S512x512) ![0, 256] S128x128.size inb_S512x512_S128x128_0_256).toLoadRect) (mk.readCov LK (Rect.unit (s := S512x512) ![0, 256] S128x128.size inb_S512x512_S128x128_0_256).toLoadRect)
          (mv.readCov LV (Rect.unit (s := S512x1024) ![0, 512] S128x256.size inb_S512x1024_S128x256_0_512).toLoadRect) s02
          (View.readAt (Elt Ideal) md.view (Rect.unit (s := S4x128x128) ![2, 0, 0] S1x128x128.size inb_S4x128x128_S1x128x128_2_0_0).toLoadRect (id.unread dc))
          (View.readAt (Elt Ideal) mx.view (Rect.unit (s := S4x128x256) ![2, 0, 0] S1x128x256.size inb_S4x128x256_S1x128x256_2_0_0).toLoadRect (ix.unread xx))
          (ms.readCov LS (Rect.unit (s := S512x1024) ![0, 512] S128x256.size inb_S512x1024_S128x256_0_512).toLoadRect)⟩ ::
      ⟨Rect.unit (s := S512x1024) ![0, 256] S128x256.size inb_S512x1024_S128x256_0_256,
        gOp (mq.readCov LQ (Rect.unit (s := S512x512) ![0, 128] S128x128.size inb_S512x512_S128x128_0_128).toLoadRect) (mk.readCov LK (Rect.unit (s := S512x512) ![0, 128] S128x128.size inb_S512x512_S128x128_0_128).toLoadRect)
          (mv.readCov LV (Rect.unit (s := S512x1024) ![0, 256] S128x256.size inb_S512x1024_S128x256_0_256).toLoadRect) s01
          (View.readAt (Elt Ideal) md.view (Rect.unit (s := S4x128x128) ![1, 0, 0] S1x128x128.size inb_S4x128x128_S1x128x128_1_0_0).toLoadRect (id.unread dc))
          (View.readAt (Elt Ideal) mx.view (Rect.unit (s := S4x128x256) ![1, 0, 0] S1x128x256.size inb_S4x128x256_S1x128x256_1_0_0).toLoadRect (ix.unread xx))
          (ms.readCov LS (Rect.unit (s := S512x1024) ![0, 256] S128x256.size inb_S512x1024_S128x256_0_256).toLoadRect)⟩ ::
      ⟨Rect.unit (s := S512x1024) ![0, 0] S128x256.size inb_S512x1024_S128x256_0_0,
        gOp (mq.readCov LQ (Rect.unit (s := S512x512) ![0, 0] S128x128.size inb_S512x512_S128x128_0_0).toLoadRect) (mk.readCov LK (Rect.unit (s := S512x512) ![0, 0] S128x128.size inb_S512x512_S128x128_0_0).toLoadRect)
          (mv.readCov LV (Rect.unit (s := S512x1024) ![0, 0] S128x256.size inb_S512x1024_S128x256_0_0).toLoadRect) s00
          (View.readAt (Elt Ideal) md.view (Rect.unit (s := S4x128x128) ![0, 0, 0] S1x128x128.size inb_S4x128x128_S1x128x128_0_0_0).toLoadRect (id.unread dc))
          (View.readAt (Elt Ideal) mx.view (Rect.unit (s := S4x128x256) ![0, 0, 0] S1x128x256.size inb_S4x128x256_S1x128x256_0_0_0).toLoadRect (ix.unread xx))
          (ms.readCov LS (Rect.unit (s := S512x1024) ![0, 0] S128x256.size inb_S512x1024_S128x256_0_0).toLoadRect)⟩ ::
      L) = ar .bf16 (gN g w X P n) := by
  have hd' (h : Fin 4) (inb : ∀ x, (![h.val, 0, 0] : Fin 3 → ℕ) x + S1x128x128.size x ≤ S4x128x128.size x) (i j : Fin 128) :
      View.readAt (Elt Ideal) md.view (Rect.unit (s := S4x128x128) ![h.val, 0, 0] S1x128x128.size inb).toLoadRect (id.unread dc) (ix3 0 i j) = dec h.val i.val j.val := by
    rw [ldw, ← hd h i j]
    congr 1; funext a; refine Fin.ext ?_
    rw [Rect.idx_unit_val]
    match a with | ⟨0, _⟩ => rfl | ⟨1, _⟩ => exact Nat.zero_add _ | ⟨2, _⟩ => exact Nat.zero_add _
  have hx' (h : Fin 4) (inb : ∀ x, (![h.val, 0, 0] : Fin 3 → ℕ) x + S1x128x256.size x ≤ S4x128x256.size x) (i : Fin 128) (e : Fin 256) :
      View.readAt (Elt Ideal) mx.view (Rect.unit (s := S4x128x256) ![h.val, 0, 0] S1x128x256.size inb).toLoadRect (ix.unread xx) (ix3 0 i e) = xi h.val i.val := by
    rw [ldw, ← hx h i e]
    congr 1; funext a; refine Fin.ext ?_
    rw [Rect.idx_unit_val]
    match a with | ⟨0, _⟩ => rfl | ⟨1, _⟩ => exact Nat.zero_add _ | ⟨2, _⟩ => exact Nat.zero_add _
  funext y
  exact View.canon_append_of_piecesOf _ L [_, _, _, _, _, _, _, _, _, _, _, _, _, _, _, _] ⟨
    pc2 inb_S512x1024_S128x256_384_768 (g_piece 3 3 (by decide) (rd2 hQ) (rd2 hK) (rd2 hV) h33 (hd' 3 _) (hx' 3 _) (rd2 hS)),
    pc2 inb_S512x1024_S128x256_384_512 (g_piece 3 2 (by decide) (rd2 hQ) (rd2 hK) (rd2 hV) h32 (hd' 2 _) (hx' 2 _) (rd2 hS)),
    pc2 inb_S512x1024_S128x256_384_256 (g_piece 3 1 (by decide) (rd2 hQ) (rd2 hK) (rd2 hV) h31 (hd' 1 _) (hx' 1 _) (rd2 hS)),
    pc2 inb_S512x1024_S128x256_384_0 (g_piece 3 0 (by decide) (rd2 hQ) (rd2 hK) (rd2 hV) h30 (hd' 0 _) (hx' 0 _) (rd2 hS)),
    pc2 inb_S512x1024_S128x256_256_768 (g_piece 2 3 (by decide) (rd2 hQ) (rd2 hK) (rd2 hV) h23 (hd' 3 _) (hx' 3 _) (rd2 hS)),
    pc2 inb_S512x1024_S128x256_256_512 (g_piece 2 2 (by decide) (rd2 hQ) (rd2 hK) (rd2 hV) h22 (hd' 2 _) (hx' 2 _) (rd2 hS)),
    pc2 inb_S512x1024_S128x256_256_256 (g_piece 2 1 (by decide) (rd2 hQ) (rd2 hK) (rd2 hV) h21 (hd' 1 _) (hx' 1 _) (rd2 hS)),
    pc2 inb_S512x1024_S128x256_256_0 (g_piece 2 0 (by decide) (rd2 hQ) (rd2 hK) (rd2 hV) h20 (hd' 0 _) (hx' 0 _) (rd2 hS)),
    pc2 inb_S512x1024_S128x256_128_768 (g_piece 1 3 (by decide) (rd2 hQ) (rd2 hK) (rd2 hV) h13 (hd' 3 _) (hx' 3 _) (rd2 hS)),
    pc2 inb_S512x1024_S128x256_128_512 (g_piece 1 2 (by decide) (rd2 hQ) (rd2 hK) (rd2 hV) h12 (hd' 2 _) (hx' 2 _) (rd2 hS)),
    pc2 inb_S512x1024_S128x256_128_256 (g_piece 1 1 (by decide) (rd2 hQ) (rd2 hK) (rd2 hV) h11 (hd' 1 _) (hx' 1 _) (rd2 hS)),
    pc2 inb_S512x1024_S128x256_128_0 (g_piece 1 0 (by decide) (rd2 hQ) (rd2 hK) (rd2 hV) h10 (hd' 0 _) (hx' 0 _) (rd2 hS)),
    pc2 inb_S512x1024_S128x256_0_768 (g_piece 0 3 (by decide) (rd2 hQ) (rd2 hK) (rd2 hV) h03 (hd' 3 _) (hx' 3 _) (rd2 hS)),
    pc2 inb_S512x1024_S128x256_0_512 (g_piece 0 2 (by decide) (rd2 hQ) (rd2 hK) (rd2 hV) h02 (hd' 2 _) (hx' 2 _) (rd2 hS)),
    pc2 inb_S512x1024_S128x256_0_256 (g_piece 0 1 (by decide) (rd2 hQ) (rd2 hK) (rd2 hV) h01 (hd' 1 _) (hx' 1 _) (rd2 hS)),
    pc2 inb_S512x1024_S128x256_0_0 (g_piece 0 0 (by decide) (rd2 hQ) (rd2 hK) (rd2 hV) h00 (hd' 0 _) (hx' 0 _) (rd2 hS)),
    trivial⟩ y (View.cover_of_tiledL (s := S512x1024) _ S128x256.size (by sl_kernel_rfl) y)
end

end Cert.MixValue
-- ==== Proof.MixOut.lean ====
/- Hand-written, untrusted: THE ROWS THAT A POINT OF THE MIXER SLICE STORES: the second branch's input in its four parts, the
   merge of the two branches, and the output projection added to the row. -/
module

public import proofs.«01_k».proof.Proof.MixList

@[expose] public section

noncomputable section

namespace Cert.MixValue

open Cert.MixIdeal Cert.MixIdeal.Gen Cert.Spec Idealize.ShloMosaic

variable {g : Fin 1024 → EReal} {w : Fin 1024 → Fin 5632 → EReal} {X : Fin 8192 → Fin 1024 → EReal} {P : Fin 8192 → EReal} {n : ℕ}
  {Y : Fin 8192 → Fin 512 → EReal} {ga gb : Fin 512 → Fin 1024 → EReal} {wr wo : Fin 1024 → Fin 1024 → EReal} {gp : Fin 1024 → EReal}

/-! ## The second branch's input -/

variable (Y) in
/-- Part `q` of the input of token `r` counted from chunk `n`. -/
def yN (n q r l : ℕ) : EReal := Y (row n r) ⟨(128 * q + l) % 512, Nat.mod_lt _ (by decide)⟩

theorem part_apply (a : Vec Ideal S1x512x128 .f32) (r : Fin 512) (l : Fin 128) : k0_pay140 a (ix3 0 r l) = a (ix3 0 r l) := by
  pointwise [k0_pay140]

section
variable {a0 a1 a2 a3 : Vec Ideal S1x512x128 .f32} (h0 : ∀ r l, a0 (ix3 0 r l) = yN Y n 0 (0 + r.val) (0 + l.val)) (h1 : ∀ r l, a1 (ix3 0 r l) = yN Y n 1 (0 + r.val) (0 + l.val))
  (h2 : ∀ r l, a2 (ix3 0 r l) = yN Y n 2 (0 + r.val) (0 + l.val)) (h3 : ∀ r l, a3 (ix3 0 r l) = yN Y n 3 (0 + r.val) (0 + l.val))
include h0 h1 h2 h3

theorem canon_y {L : List (View.Piece (Elt Ideal) S4x512x128 .f32)} :
    View.canon (⟨Rect.unit (s := S4x512x128) ![3, 0, 0] S1x512x128.size inb_S4x512x128_S1x512x128_3_0_0, k0_pay140 a3⟩
      :: ⟨Rect.unit (s := S4x512x128) ![2, 0, 0] S1x512x128.size inb_S4x512x128_S1x512x128_2_0_0, k0_pay140 a2⟩
      :: ⟨Rect.unit (s := S4x512x128) ![1, 0, 0] S1x512x128.size inb_S4x512x128_S1x512x128_1_0_0, k0_pay140 a1⟩
      :: ⟨Rect.unit (s := S4x512x128) ![0, 0, 0] S1x512x128.size inb_S4x512x128_S1x512x128_0_0_0, k0_pay140 a0⟩ :: L) = ar3 .f32 (yN Y n) := by
  funext y
  exact View.canon_append_of_piecesOf _ L [_, _, _, _] ⟨
    pc3 inb_S4x512x128_S1x512x128_3_0_0 (fun r l => (part_apply a3 r l).trans (h3 r l)), pc3 inb_S4x512x128_S1x512x128_2_0_0 (fun r l => (part_apply a2 r l).trans (h2 r l)),
    pc3 inb_S4x512x128_S1x512x128_1_0_0 (fun r l => (part_apply a1 r l).trans (h1 r l)), pc3 inb_S4x512x128_S1x512x128_0_0_0 (fun r l => (part_apply a0 r l).trans (h0 r l)),
    trivial⟩ y (View.cover_of_tiledL (s := S4x512x128) _ S1x512x128.size (by sl_kernel_rfl) y)
end

section
variable {κ : Kind} {sg : RefSig} {sp : Space} {v : View sg κ sp S4x512x128 .f32} {L : List (View.Piece (Elt Ideal) S4x512x128 .f32)}

/-- The four parts together, through the gate. -/
theorem gelu_of (h : View.canon L = ar3 .f32 (yN Y n)) (r j : Fin 512) :
    geOp (v.readCov L (Rect.unit (s := S4x512x128) ![0, 0, 0] S1x512x128.size inb_S4x512x128_S1x512x128_0_0_0).toLoadRect)
      (v.readCov L (Rect.unit (s := S4x512x128) ![1, 0, 0] S1x512x128.size inb_S4x512x128_S1x512x128_1_0_0).toLoadRect)
      (v.readCov L (Rect.unit (s := S4x512x128) ![2, 0, 0] S1x512x128.size inb_S4x512x128_S1x512x128_2_0_0).toLoadRect)
      (v.readCov L (Rect.unit (s := S4x512x128) ![3, 0, 0] S1x512x128.size inb_S4x512x128_S1x512x128_3_0_0).toLoadRect) (ix2 r j)
      = gelu (Y (row n r.val) j) := by
  have key (q : ℕ) (hq : q < 4) (l : Fin 128) :
      yN Y n (q + (0 : Fin 1).val) (0 + r.val) (0 + l.val) = Y (row n r.val) ⟨128 * q + l.val, by omega⟩ := by
    rw [yN, Nat.zero_add]
    congr 1; refine Fin.ext ?_; simp only [Fin.val_zero]; omega
  refine geOp_apply _ _ _ _ r (Y (row n r.val)) (fun l => (rd3 h 0 r l).trans ((key 0 (by decide) l).trans (congrArg _ (Fin.ext (Nat.zero_add _)))))
    (fun l => (rd3 h 0 r l).trans (key 1 (by decide) l)) (fun l => (rd3 h 0 r l).trans (key 2 (by decide) l)) (fun l => (rd3 h 0 r l).trans (key 3 (by decide) l)) j
end

/-! ## The merge and the result rows -/

variable (g w X P Y ga gb wr wo gp) in
/-- The result row of token `r` counted from chunk `n`. -/
def outN (n r c : ℕ) : EReal :=
  mixRow g w ga gb wr wo gp (X (row n r)) (Y (row n r)) (retN g w X P n r) ⟨c % 1024, Nat.mod_lt _ (by decide)⟩

theorem retN_four (r : ℕ) : retN g w X P n (512 + r) = retN g w X P (n + 4) r := by
  have e1 : n + (512 + r) / 128 = n + 4 + r / 128 := by omega
  have e2 : (⟨(512 + r) % 128, Nat.mod_lt _ (by decide)⟩ : Fin 128) = ⟨r % 128, Nat.mod_lt _ (by decide)⟩ := Fin.ext (by dsimp only; omega)
  funext h e
  rw [retN, retN, e1, e2]
theorem outN_four (r c : ℕ) : outN g w X P Y ga gb wr wo gp n (512 + r) c = outN g w X P Y ga gb wr wo gp (n + 4) r c := by
  rw [outN, outN, row_four, retN_four]

section
variable {m1 m2 : FVec Ideal S512x1024 .f32} {y : FVec Ideal S512x512 .bf16} {wg : Vec Ideal S512x2048 .bf16} {o : Vec Ideal S512x1024 .bf16}
  {wrr woo : Vec Ideal S1024x1024 .bf16} {gpp : Vec Ideal S1x1024 .f32}
  (h1 : ∀ (r : Fin 512) (c : Fin 1024), m1 (ix2 r c) = logi (prN g w X n r.val (3584 + c.val)))
  (h2 : ∀ (r : Fin 512) (c : Fin 1024), m2 (ix2 r c) = logi (prN g w X n r.val (4608 + c.val)))
  (hy : ∀ r j : Fin 512, y (ix2 r j) = gelu (Y (row n r.val) j))
  (ha : ∀ (j : Fin 512) (c : Fin 1024), wg (ix2 j ⟨c.val, Nat.lt_of_lt_of_le c.isLt (Nat.le_add_right 1024 1024)⟩) = ga j c) (hb : ∀ (j : Fin 512) (c : Fin 1024), wg (ix2 j ⟨1024 + c.val, Nat.add_lt_add_left c.isLt 1024⟩) = gb j c)
  (ho : ∀ (r : Fin 512) (j : Fin 1024), o (ix2 r j) = gN g w X P n (0 + r.val) (0 + j.val)) (hr : ∀ j c : Fin 1024, wrr (ix2 j c) = wr j c)
  (hw : ∀ j c : Fin 1024, woo (ix2 j c) = wo j c) (hp : ∀ k : Fin 1024, gpp (ix2 0 k) = gp k)

include h1 h2 hy ha hb ho hr in
theorem merged_of (r : Fin 512) (c : Fin 1024) : k0_pay149 m1 m2 y wg o wrr (ix2 r c)
    = merged g w ga gb wr (X (row n r.val)) (Y (row n r.val)) (retN g w X P n r.val) c := by
  have e1 : (⟨(3584 + c.val) % 5632, Nat.mod_lt _ (by decide)⟩ : Fin 5632) = ⟨3584 + c.val, by omega⟩ := Fin.ext (by dsimp only; omega)
  have e2 : (⟨(4608 + c.val) % 5632, Nat.mod_lt _ (by decide)⟩ : Fin 5632) = ⟨4608 + c.val, by omega⟩ := Fin.ext (by dsimp only; omega)
  have e3 (j : Fin 1024) : (⟨j.val % 1024, Nat.mod_lt _ (by decide)⟩ : Fin 1024) = j := Fin.ext (by dsimp only; omega)
  rw [merge_apply, merged]
  simp only [h1, h2, hy, ha, hb, ho, hr, prN, gN, e1, e2, e3, Nat.zero_add]

include h1 h2 hy ha hb ho hr hw hp
theorem lo_of {x : Vec Ideal S1x256x1024 .f32} (hx : ∀ (r : Fin 256) k, x (ix3 0 r k) = X (row n (0 + r.val)) k) (r : Fin 256) (c : Fin 1024) :
    k0_pay152 (k0_pay150 x) (k0_pay151 m1 m2 y wg o wrr woo gpp) (ix3 0 r c) = outN g w X P Y ga gb wr wo gp n (0 + r.val) (0 + c.val) := by
  have e3 : (⟨(0 + c.val) % 1024, Nat.mod_lt _ (by decide)⟩ : Fin 1024) = c := Fin.ext (by dsimp only; omega)
  rw [outLo_apply, outN, mixRow, e3]
  simp only [merged_of h1 h2 hy ha hb ho hr, hw, hp, hx, Nat.zero_add]
theorem hi_of {x : Vec Ideal S1x256x1024 .f32} (hx : ∀ (r : Fin 256) k, x (ix3 0 r k) = X (row n (256 + r.val)) k) (r : Fin 256) (c : Fin 1024) :
    k0_pay153 (k0_pay149 m1 m2 y wg o wrr) woo x gpp (ix3 0 r c) = outN g w X P Y ga gb wr wo gp n (256 + r.val) (0 + c.val) := by
  have e3 : (⟨(0 + c.val) % 1024, Nat.mod_lt _ (by decide)⟩ : Fin 1024) = c := Fin.ext (by dsimp only; omega)
  rw [outHi_apply, outN, mixRow, e3]
  simp only [merged_of h1 h2 hy ha hb ho hr, hw, hp, hx]
end

section
variable {p0 p1 p2 p3 : Vec Ideal S1x256x1024 .f32} {f : ℕ → ℕ → ℕ → EReal}
  (h0 : ∀ (r : Fin 256) (c : Fin 1024), p0 (ix3 0 r c) = f 0 (0 + r.val) (0 + c.val)) (h1 : ∀ (r : Fin 256) (c : Fin 1024), p1 (ix3 0 r c) = f 0 (256 + r.val) (0 + c.val))
  (h2 : ∀ (r : Fin 256) (c : Fin 1024), p2 (ix3 0 r c) = f 0 (512 + r.val) (0 + c.val)) (h3 : ∀ (r : Fin 256) (c : Fin 1024), p3 (ix3 0 r c) = f 0 (768 + r.val) (0 + c.val))
include h0 h1 h2 h3

theorem canon_out : View.canon [⟨Rect.unit (s := S1x1024x1024) ![0, 768, 0] S1x256x1024.size inb_S1x1024x1024_S1x256x1024_0_768_0, p3⟩,
      ⟨Rect.unit (s := S1x1024x1024) ![0, 512, 0] S1x256x1024.size inb_S1x1024x1024_S1x256x1024_0_512_0, p2⟩,
      ⟨Rect.unit (s := S1x1024x1024) ![0, 256, 0] S1x256x1024.size inb_S1x1024x1024_S1x256x1024_0_256_0, p1⟩,
      ⟨Rect.unit (s := S1x1024x1024) ![0, 0, 0] S1x256x1024.size inb_S1x1024x1024_S1x256x1024_0_0_0, p0⟩] = ar3 .f32 f := by
  funext y
  exact View.canon_append_of_piecesOf _ [] [_, _, _, _] ⟨pc3 inb_S1x1024x1024_S1x256x1024_0_768_0 h3, pc3 inb_S1x1024x1024_S1x256x1024_0_512_0 h2,
    pc3 inb_S1x1024x1024_S1x256x1024_0_256_0 h1, pc3 inb_S1x1024x1024_S1x256x1024_0_0_0 h0, trivial⟩ y
    (View.cover_of_tiledL (s := S1x1024x1024) _ S1x256x1024.size (by sl_kernel_rfl) y)
end

end Cert.MixValue

end
-- ==== Proof.MixWords.lean ====
/- Hand-written, untrusted: THE BUFFERS OF A POINT OF THE MIXER SLICE, ONE BY ONE (the point at a sequence's start). The windows'
   contents are given as functions of the arguments; each buffer that the body stores is then an array of the specification. -/
module

public import proofs.«01_k».proof.Proof.MixOut
public import proofs.«01_k».proof.Proof.MixFrameIdeal

@[expose] public section

noncomputable section

namespace Cert.MixValue

open Cert.MixIdeal Cert.MixIdeal.Gen Cert.Spec Idealize.ShloMosaic

variable {g : Fin 1024 → EReal} {w : Fin 1024 → Fin 5632 → EReal} {X : Fin 8192 → Fin 1024 → EReal} {P : Fin 8192 → EReal} {n : ℕ}
  {Y : Fin 8192 → Fin 512 → EReal} {ga gb : Fin 512 → Fin 1024 → EReal} {wr wo : Fin 1024 → Fin 1024 → EReal} {gp : Fin 1024 → EReal}

/-! ## Reading the windows -/

theorem ld2 {κ : Kind} {sg : RefSig} {sp : Space} {e : EltTy} {m n a b o0 o1 : ℕ} {v : Memref sg κ sp (⟨2, ![m, n]⟩ : Shape) e} {h : v.IsWhole}
    {x : (⟨2, ![m, n]⟩ : Shape).Idx → Elt Ideal e} {inb : ∀ x, (![o0, o1] : Fin 2 → ℕ) x + (![a, b] : Fin 2 → ℕ) x ≤ (![m, n] : Fin 2 → ℕ) x} (i : Fin a) (j : Fin b) :
    View.readAt (Elt Ideal) v.view (Rect.unit (s := ⟨2, ![m, n]⟩) ![o0, o1] ![a, b] inb).toLoadRect (h.unread x) (ix2 i j)
      = x (ix2 ⟨o0 + i.val, Nat.lt_of_lt_of_le (Nat.add_lt_add_left i.isLt o0) (inb 0)⟩ ⟨o1 + j.val, Nat.lt_of_lt_of_le (Nat.add_lt_add_left j.isLt o1) (inb 1)⟩) := by
  rw [ldw]
  congr 1; funext a; refine Fin.ext ?_
  rw [Rect.idx_unit_val]
  match a with | ⟨0, _⟩ => rfl | ⟨1, _⟩ => rfl
theorem ld3 {κ : Kind} {sg : RefSig} {sp : Space} {e : EltTy} {m n k a b d o0 o1 o2 : ℕ} {v : Memref sg κ sp (⟨3, ![m, n, k]⟩ : Shape) e} {h : v.IsWhole}
    {x : (⟨3, ![m, n, k]⟩ : Shape).Idx → Elt Ideal e} {inb : ∀ x, (![o0, o1, o2] : Fin 3 → ℕ) x + (![a, b, d] : Fin 3 → ℕ) x ≤ (![m, n, k] : Fin 3 → ℕ) x}
    (i : Fin a) (j : Fin b) (l : Fin d) :
    View.readAt (Elt Ideal) v.view (Rect.unit (s := ⟨3, ![m, n, k]⟩) ![o0, o1, o2] ![a, b, d] inb).toLoadRect (h.unread x) (ix3 i j l)
      = x (ix3 ⟨o0 + i.val, Nat.lt_of_lt_of_le (Nat.add_lt_add_left i.isLt o0) (inb 0)⟩ ⟨o1 + j.val, Nat.lt_of_lt_of_le (Nat.add_lt_add_left j.isLt o1) (inb 1)⟩
          ⟨o2 + l.val, Nat.lt_of_lt_of_le (Nat.add_lt_add_left l.isLt o2) (inb 2)⟩) := by
  rw [ldw]
  congr 1; funext a; refine Fin.ext ?_
  rw [Rect.idx_unit_val]
  match a with | ⟨0, _⟩ => rfl | ⟨1, _⟩ => rfl | ⟨2, _⟩ => rfl

variable {c : Dev nD} {i : grid0.Coords}
  {arg2 : Memref sig .tc .vmem S1x1024x1024 .f32} {harg2 : arg2.IsWhole}
  {arg3 : Memref sig .tc .vmem S1x8x8x128 .f32} {harg3 : arg3.IsWhole}
  {arg4 : Memref sig .tc .vmem S1x1024x512 .f32} {harg4 : arg4.IsWhole}
  {arg5 : Memref sig .tc .vmem S128x1 .f32} {harg5 : arg5.IsWhole}
  {arg6 : Memref sig .tc .vmem S1x1024 .f32} {harg6 : arg6.IsWhole}
  {arg7 : Memref sig .tc .vmem S1024x5632 .bf16} {harg7 : arg7.IsWhole}
  {arg8 : Memref sig .tc .vmem S4x128x128 .f32} {harg8 : arg8.IsWhole}
  {arg9 : Memref sig .tc .vmem S4x128x256 .f32} {harg9 : arg9.IsWhole}
  {arg10 : Memref sig .tc .vmem S4x128x128 .f32} {harg10 : arg10.IsWhole}
  {arg11 : Memref sig .tc .vmem S4x1x256 .f32} {harg11 : arg11.IsWhole}
  {arg12 : Memref sig .tc .vmem S1024x1024 .bf16} {harg12 : arg12.IsWhole}
  {arg18 : Memref sig .tc .vmem S512x2048 .bf16} {harg18 : arg18.IsWhole}
  {arg19 : Memref sig .tc .vmem S1024x1024 .bf16} {harg19 : arg19.IsWhole}
  {arg20 : Memref sig .tc .vmem S1x1024 .f32} {harg20 : arg20.IsWhole}
  {arg22 : Memref sig .tc .vmem S4x128x256 .f32} {harg22 : arg22.IsWhole}
  {arg25 : Memref sig .tc .vmem S512x1024 .bf16}
  {arg26 : Memref sig .tc .vmem S512x512 .bf16}
  {arg27 : Memref sig .tc .vmem S512x512 .f32}
  {arg28 : Memref sig .tc .vmem S512x1024 .bf16}
  {arg29 : Memref sig .tc .vmem S512x1024 .bf16}
  {arg30 : Memref sig .tc .vmem S512x1024 .bf16}
  {arg37 : Memref sig .tc .vmem S4x512x128 .f32}
  {x0 : Vec Ideal S1x1024x1024 .f32}
  {x1 : Vec Ideal S1x8x8x128 .f32}
  {x2 : Vec Ideal S1x1024x512 .f32}
  {x3 : Vec Ideal S128x1 .f32}
  {x4 : Vec Ideal S1x1024 .f32}
  {x5 : Vec Ideal S1024x5632 .bf16}
  {x6 : Vec Ideal S4x128x128 .f32}
  {x7 : Vec Ideal S4x128x256 .f32}
  {x8 : Vec Ideal S4x128x128 .f32}
  {x9 : Vec Ideal S4x1x256 .f32}
  {x10 : Vec Ideal S1024x1024 .bf16}
  {x16 : Vec Ideal S512x2048 .bf16}
  {x17 : Vec Ideal S1024x1024 .bf16}
  {x18 : Vec Ideal S1x1024 .f32}
  (hx0 : ∀ r k : Fin 1024, x0 (ix3 0 r k) = X (row n r.val) k)
  (hx1 : ∀ (a : Fin 8) (l : Fin 128), x1 (ix4 0 (i 1) a l) = P (row n (128 * a.val + l.val)))
  (hx2 : ∀ (r : Fin 1024) (j : Fin 512), x2 (ix3 0 r j) = Y (row n r.val) j)
  (hx3 : ∀ d : Fin 128, x3 (ix2 d 0) = freq (d.val % 64)) (hx4 : ∀ k : Fin 1024, x4 (ix2 0 k) = g k)
  (hx5 : ∀ (k : Fin 1024) (j : Fin 5632), x5 (ix2 k j) = w k j)
  (hx6 : ∀ (h : Fin 4) (i j : Fin 128), x6 (ix3 h i j) = dec h.val i.val j.val)
  (hx7 : ∀ (h : Fin 4) (i : Fin 128) (e : Fin 256), x7 (ix3 h i e) = xi h.val i.val)
  (hx8 : ∀ (h : Fin 4) (i d : Fin 128), x8 (ix3 h i d) = zeta h.val i.val)
  (hx9 : ∀ (h : Fin 4) (e : Fin 256), x9 (ix3 h 0 e) = cdec h.val)
  (hx10 : ∀ j c : Fin 1024, x10 (ix2 j c) = wr j c)
  (hxa : ∀ (j : Fin 512) (c : Fin 1024), x16 (ix2 j ⟨c.val, Nat.lt_of_lt_of_le c.isLt (Nat.le_add_right 1024 1024)⟩) = ga j c)
  (hxb : ∀ (j : Fin 512) (c : Fin 1024), x16 (ix2 j ⟨1024 + c.val, Nat.add_lt_add_left c.isLt 1024⟩) = gb j c)
  (hx17 : ∀ j c : Fin 1024, x17 (ix2 j c) = wo j c) (hx18 : ∀ k : Fin 1024, x18 (ix2 0 k) = gp k)

/-! ## The positions -/

include hx1 in
theorem pos_lo (a : Fin 4) (l : Fin 128) :
    View.readAt (Elt Ideal) arg3.view (Rect.unit (s := S1x8x8x128) (k0_off1 i) S1x1x4x128.size (k0_off1_inb i)).toLoadRect (harg3.unread x1) (ix4 0 0 a l)
      = P (row n (⟨a.val * 128 + l.val, by omega⟩ : Fin 512).val) := by
  have hi : (i 1).val < 8 := (i 1).isLt
  rw [ldw, show (⟨a.val * 128 + l.val, by omega⟩ : Fin 512).val = 128 * a.val + l.val from congrArg (· + l.val) (mul_comm _ _), ← hx1 ⟨a.val, by omega⟩ l]
  congr 1; funext b; refine Fin.ext ?_
  rw [Rect.idx_unit_val]
  match b with
  | ⟨0, _⟩ => rfl
  | ⟨1, _⟩ => show (BitVec.ofNat 32 (i 1).val).toNat + 0 = (i 1).val; rw [BitVec.toNat_ofNat]; omega
  | ⟨2, _⟩ => exact Nat.zero_add _
  | ⟨3, _⟩ => exact Nat.zero_add _
include hx1 in
theorem pos_hi (a : Fin 4) (l : Fin 128) :
    View.readAt (Elt Ideal) arg3.view (Rect.unit (s := S1x8x8x128) (k0_off2 i) S1x1x4x128.size (k0_off2_inb i)).toLoadRect (harg3.unread x1) (ix4 0 0 a l)
      = P (row (n + 4) (⟨a.val * 128 + l.val, by omega⟩ : Fin 512).val) := by
  have hi : (i 1).val < 8 := (i 1).isLt
  rw [ldw, ← row_four, show 512 + (a.val * 128 + l.val) = 128 * (4 + a.val) + l.val by omega, ← hx1 ⟨4 + a.val, by omega⟩ l]
  congr 1; funext b; refine Fin.ext ?_
  rw [Rect.idx_unit_val]
  match b with
  | ⟨0, _⟩ => rfl
  | ⟨1, _⟩ => show (BitVec.ofNat 32 (i 1).val).toNat + 0 = (i 1).val; rw [BitVec.toNat_ofNat]; omega
  | ⟨2, _⟩ => rfl
  | ⟨3, _⟩ => exact Nat.zero_add _

/-! ## The first sub-tile -/

include hx0 hx4 in
theorem a0_u : View.canon (kernelRun0_A.sl.HS3_2 (F := Ideal) c arg2 harg2 arg6 harg6 x0 x4) = ar .bf16 (uN g X n) :=
  canon_u (n := n) (xl := View.readAt (Elt Ideal) arg2.view (Rect.unit (s := S1x1024x1024) ![0, 0, 0] S1x256x1024.size inb_S1x1024x1024_S1x256x1024_0_0_0).toLoadRect (harg2.unread x0)) (xh := View.readAt (Elt Ideal) arg2.view (Rect.unit (s := S1x1024x1024) ![0, 256, 0] S1x256x1024.size inb_S1x1024x1024_S1x256x1024_0_256_0).toLoadRect (harg2.unread x0)) (gg := View.readAt (Elt Ideal) arg6.view (Rect.unit (s := S1x1024) ![0, 0] S1x1024.size inb_S1x1024_S1x1024_0_0).toLoadRect (harg6.unread x4)) (fun r k => (ld3 0 r k).trans ((hx0 _ _).trans (congrArg₂ X rfl (Fin.ext (Nat.zero_add _))))) (fun r k => (ld3 0 r k).trans ((hx0 _ _).trans (congrArg₂ X rfl (Fin.ext (Nat.zero_add _))))) (fun k => (ld2 0 k).trans ((congrArg x4 (by congr 1; exact Fin.ext (Nat.zero_add _))).trans (hx4 _)))
include hx0 hx1 hx3 hx4 hx5 in
theorem a0_q : View.canon (kernelRun0_A.sl.HS4_4 (F := Ideal) c i arg2 harg2 arg3 harg3 arg5 harg5 arg6 harg6 arg7 harg7 arg25 x0 x1 x3 x4 x5) = ar .bf16 (qN g w X P n) :=
  canon_q (n := n) (A := (kernelRun0_A.sl.r_2 (F := Ideal) c arg2 harg2 arg6 harg6 arg7 harg7 arg25 x0 x4 x5)) (c := (kernelRun0_A.sl.r_6 (F := Ideal) c i arg3 harg3 arg5 harg5 x1 x3)) (s := (kernelRun0_A.sl.r_7 (F := Ideal) c i arg3 harg3 arg5 harg5 x1 x3)) (fun r d => cos_apply _ _ (fun r => P (row n r.val)) (fun d => (ld2 d 0).trans ((congrArg x3 (congrArg₂ ix2 (Fin.ext (Nat.zero_add _)) rfl)).trans (hx3 d))) (pos_lo hx1) r d) (fun r d => sin_apply _ _ (fun r => P (row n r.val)) (fun d => (ld2 d 0).trans ((congrArg x3 (congrArg₂ ix2 (Fin.ext (Nat.zero_add _)) rfl)).trans (hx3 d))) (pos_lo hx1) r d) (fun r j => (proj_apply _ _ r j).trans (prN_of (by decide) (rd2 (a0_u hx0 hx4)) (fun k j => (ld2 k j).trans ((hx5 _ _).trans (congrArg₂ w (Fin.ext (Nat.zero_add _)) rfl))) r j))
include hx0 hx1 hx3 hx4 hx5 in
theorem a0_k : View.canon (kernelRun0_A.sl.HS5_4 (F := Ideal) c i arg2 harg2 arg3 harg3 arg5 harg5 arg6 harg6 arg7 harg7 arg25 x0 x1 x3 x4 x5) = ar .f32 (kN g w X P n) :=
  canon_k (n := n) (A := (kernelRun0_A.sl.r_3 (F := Ideal) c arg2 harg2 arg6 harg6 arg7 harg7 arg25 x0 x4 x5)) (c := (kernelRun0_A.sl.r_6 (F := Ideal) c i arg3 harg3 arg5 harg5 x1 x3)) (s := (kernelRun0_A.sl.r_7 (F := Ideal) c i arg3 harg3 arg5 harg5 x1 x3)) (fun r d => cos_apply _ _ (fun r => P (row n r.val)) (fun d => (ld2 d 0).trans ((congrArg x3 (congrArg₂ ix2 (Fin.ext (Nat.zero_add _)) rfl)).trans (hx3 d))) (pos_lo hx1) r d) (fun r d => sin_apply _ _ (fun r => P (row n r.val)) (fun d => (ld2 d 0).trans ((congrArg x3 (congrArg₂ ix2 (Fin.ext (Nat.zero_add _)) rfl)).trans (hx3 d))) (pos_lo hx1) r d) (fun r j => (proj_apply _ _ r j).trans (prN_of (by decide) (rd2 (a0_u hx0 hx4)) (fun k j => (ld2 k j).trans ((hx5 _ _).trans (congrArg₂ w (Fin.ext (Nat.zero_add _)) rfl))) r j))
include hx0 hx4 hx5 in
theorem a0_v : View.canon (kernelRun0_A.sl.HS6_1 (F := Ideal) c arg2 harg2 arg6 harg6 arg7 harg7 arg25 x0 x4 x5) = ar .bf16 (vN g w X n) :=
  canon_v (n := n) (rd2 (a0_u hx0 hx4)) (fun k j => (ld2 k j).trans ((hx5 _ _).trans (congrArg₂ w (Fin.ext (Nat.zero_add _)) rfl)))
include hx0 hx4 hx5 in
theorem a0_s : View.canon (kernelRun0_A.sl.HS7_1 (F := Ideal) c arg2 harg2 arg6 harg6 arg7 harg7 arg25 x0 x4 x5) = ar .bf16 (sN g w X n) :=
  canon_s (n := n) (rd2 (a0_u hx0 hx4)) (fun k j => (ld2 k j).trans ((hx5 _ _).trans (congrArg₂ w (Fin.ext (Nat.zero_add _)) rfl)))
include hx2 in
theorem a0_y : View.canon (kernelRun0_A.sl.HS15_4 (F := Ideal) c arg4 harg4 x2) = ar3 .f32 (yN Y n) :=
  canon_y (n := n) (a0 := View.readAt (Elt Ideal) arg4.view (Rect.unit (s := S1x1024x512) ![0, 0, 0] S1x512x128.size inb_S1x1024x512_S1x512x128_0_0_0).toLoadRect (harg4.unread x2)) (a1 := View.readAt (Elt Ideal) arg4.view (Rect.unit (s := S1x1024x512) ![0, 0, 128] S1x512x128.size inb_S1x1024x512_S1x512x128_0_0_128).toLoadRect (harg4.unread x2)) (a2 := View.readAt (Elt Ideal) arg4.view (Rect.unit (s := S1x1024x512) ![0, 0, 256] S1x512x128.size inb_S1x1024x512_S1x512x128_0_0_256).toLoadRect (harg4.unread x2)) (a3 := View.readAt (Elt Ideal) arg4.view (Rect.unit (s := S1x1024x512) ![0, 0, 384] S1x512x128.size inb_S1x1024x512_S1x512x128_0_0_384).toLoadRect (harg4.unread x2)) (fun r l => (ld3 0 r l).trans ((hx2 _ _).trans (congrArg₂ Y rfl (Fin.ext (by have := l.isLt; show 0 + l.val = (128 * 0 + (0 + l.val)) % 512; omega))))) (fun r l => (ld3 0 r l).trans ((hx2 _ _).trans (congrArg₂ Y rfl (Fin.ext (by have := l.isLt; show 128 + l.val = (128 * 1 + (0 + l.val)) % 512; omega))))) (fun r l => (ld3 0 r l).trans ((hx2 _ _).trans (congrArg₂ Y rfl (Fin.ext (by have := l.isLt; show 256 + l.val = (128 * 2 + (0 + l.val)) % 512; omega))))) (fun r l => (ld3 0 r l).trans ((hx2 _ _).trans (congrArg₂ Y rfl (Fin.ext (by have := l.isLt; show 384 + l.val = (128 * 3 + (0 + l.val)) % 512; omega)))))
include hx0 hx4 hx5 in
theorem a0_m1 (r : Fin 512) (z : Fin 1024) : ((kernelRun0_A.sl.r_13 (F := Ideal) c arg2 harg2 arg6 harg6 arg7 harg7 arg25 x0 x4 x5) : FVec Ideal S512x1024 .f32) (ix2 r z) = logi (prN g w X n r.val (3584 + z.val)) :=
  (logi_apply (kernelRun0_A.sl.v43 (F := Ideal) c arg2 harg2 arg6 harg6 arg25 x0 x4) (View.readAt (Elt Ideal) arg7.view (Rect.unit (s := S1024x5632) ![0, 3584] S1024x1024.size inb_S1024x5632_S1024x1024_0_3584).toLoadRect (harg7.unread x5)) r z).trans (congrArg logi (prN_of (by decide) (rd2 (a0_u hx0 hx4)) (fun k j => (ld2 k j).trans ((hx5 _ _).trans (congrArg₂ w (Fin.ext (Nat.zero_add _)) rfl))) r z))
include hx0 hx4 hx5 in
theorem a0_m2 (r : Fin 512) (z : Fin 1024) : ((kernelRun0_A.sl.r_14 (F := Ideal) c arg2 harg2 arg6 harg6 arg7 harg7 arg25 x0 x4 x5) : FVec Ideal S512x1024 .f32) (ix2 r z) = logi (prN g w X n r.val (4608 + z.val)) :=
  (logi_apply (kernelRun0_A.sl.v43 (F := Ideal) c arg2 harg2 arg6 harg6 arg25 x0 x4) (View.readAt (Elt Ideal) arg7.view (Rect.unit (s := S1024x5632) ![0, 4608] S1024x1024.size inb_S1024x5632_S1024x1024_0_4608).toLoadRect (harg7.unread x5)) r z).trans (congrArg logi (prN_of (by decide) (rd2 (a0_u hx0 hx4)) (fun k j => (ld2 k j).trans ((hx5 _ _).trans (congrArg₂ w (Fin.ext (Nat.zero_add _)) rfl))) r z))

/-! ## The second sub-tile -/

include hx0 hx4 in
theorem a1_u : View.canon (kernelRun0_A.sl.HS3_4 (F := Ideal) c arg2 harg2 arg6 harg6 x0 x4) = ar .bf16 (uN g X (n + 4)) :=
  canon_u (n := (n + 4)) (xl := View.readAt (Elt Ideal) arg2.view (Rect.unit (s := S1x1024x1024) ![0, 512, 0] S1x256x1024.size inb_S1x1024x1024_S1x256x1024_0_512_0).toLoadRect (harg2.unread x0)) (xh := View.readAt (Elt Ideal) arg2.view (Rect.unit (s := S1x1024x1024) ![0, 768, 0] S1x256x1024.size inb_S1x1024x1024_S1x256x1024_0_768_0).toLoadRect (harg2.unread x0)) (gg := View.readAt (Elt Ideal) arg6.view (Rect.unit (s := S1x1024) ![0, 0] S1x1024.size inb_S1x1024_S1x1024_0_0).toLoadRect (harg6.unread x4)) (fun r k => (ld3 0 r k).trans ((hx0 _ _).trans (congrArg₂ X ((congrArg (row n) (Nat.add_assoc 512 0 r.val)).trans (row_four _ _)) (Fin.ext (Nat.zero_add _))))) (fun r k => (ld3 0 r k).trans ((hx0 _ _).trans (congrArg₂ X ((congrArg (row n) (Nat.add_assoc 512 256 r.val)).trans (row_four _ _)) (Fin.ext (Nat.zero_add _))))) (fun k => (ld2 0 k).trans ((congrArg x4 (by congr 1; exact Fin.ext (Nat.zero_add _))).trans (hx4 _)))
include hx0 hx1 hx3 hx4 hx5 in
theorem a1_q : View.canon (kernelRun0_A.sl.HS4_8 (F := Ideal) c i arg2 harg2 arg3 harg3 arg5 harg5 arg6 harg6 arg7 harg7 arg25 x0 x1 x3 x4 x5) = ar .bf16 (qN g w X P (n + 4)) :=
  canon_q (n := (n + 4)) (A := (kernelRun0_A.sl.r_102 (F := Ideal) c arg2 harg2 arg6 harg6 arg7 harg7 arg25 x0 x4 x5)) (c := (kernelRun0_A.sl.r_104 (F := Ideal) c i arg3 harg3 arg5 harg5 x1 x3)) (s := (kernelRun0_A.sl.r_105 (F := Ideal) c i arg3 harg3 arg5 harg5 x1 x3)) (fun r d => cos_apply _ _ (fun r => P (row (n + 4) r.val)) (fun d => (ld2 d 0).trans ((congrArg x3 (congrArg₂ ix2 (Fin.ext (Nat.zero_add _)) rfl)).trans (hx3 d))) (pos_hi hx1) r d) (fun r d => sin_apply _ _ (fun r => P (row (n + 4) r.val)) (fun d => (ld2 d 0).trans ((congrArg x3 (congrArg₂ ix2 (Fin.ext (Nat.zero_add _)) rfl)).trans (hx3 d))) (pos_hi hx1) r d) (fun r j => (proj_apply _ _ r j).trans (prN_of (by decide) (rd2 (a1_u hx0 hx4)) (fun k j => (ld2 k j).trans ((hx5 _ _).trans (congrArg₂ w (Fin.ext (Nat.zero_add _)) rfl))) r j))
include hx0 hx1 hx3 hx4 hx5 in
theorem a1_k : View.canon (kernelRun0_A.sl.HS5_8 (F := Ideal) c i arg2 harg2 arg3 harg3 arg5 harg5 arg6 harg6 arg7 harg7 arg25 x0 x1 x3 x4 x5) = ar .f32 (kN g w X P (n + 4)) :=
  canon_k (n := (n + 4)) (A := (kernelRun0_A.sl.r_103 (F := Ideal) c arg2 harg2 arg6 harg6 arg7 harg7 arg25 x0 x4 x5)) (c := (kernelRun0_A.sl.r_104 (F := Ideal) c i arg3 harg3 arg5 harg5 x1 x3)) (s := (kernelRun0_A.sl.r_105 (F := Ideal) c i arg3 harg3 arg5 harg5 x1 x3)) (fun r d => cos_apply _ _ (fun r => P (row (n + 4) r.val)) (fun d => (ld2 d 0).trans ((congrArg x3 (congrArg₂ ix2 (Fin.ext (Nat.zero_add _)) rfl)).trans (hx3 d))) (pos_hi hx1) r d) (fun r d => sin_apply _ _ (fun r => P (row (n + 4) r.val)) (fun d => (ld2 d 0).trans ((congrArg x3 (congrArg₂ ix2 (Fin.ext (Nat.zero_add _)) rfl)).trans (hx3 d))) (pos_hi hx1) r d) (fun r j => (proj_apply _ _ r j).trans (prN_of (by decide) (rd2 (a1_u hx0 hx4)) (fun k j => (ld2 k j).trans ((hx5 _ _).trans (congrArg₂ w (Fin.ext (Nat.zero_add _)) rfl))) r j))
include hx0 hx4 hx5 in
theorem a1_v : View.canon (kernelRun0_A.sl.HS6_2 (F := Ideal) c arg2 harg2 arg6 harg6 arg7 harg7 arg25 x0 x4 x5) = ar .bf16 (vN g w X (n + 4)) :=
  canon_v (n := (n + 4)) (rd2 (a1_u hx0 hx4)) (fun k j => (ld2 k j).trans ((hx5 _ _).trans (congrArg₂ w (Fin.ext (Nat.zero_add _)) rfl)))
include hx0 hx4 hx5 in
theorem a1_s : View.canon (kernelRun0_A.sl.HS7_2 (F := Ideal) c arg2 harg2 arg6 harg6 arg7 harg7 arg25 x0 x4 x5) = ar .bf16 (sN g w X (n + 4)) :=
  canon_s (n := (n + 4)) (rd2 (a1_u hx0 hx4)) (fun k j => (ld2 k j).trans ((hx5 _ _).trans (congrArg₂ w (Fin.ext (Nat.zero_add _)) rfl)))
include hx2 in
theorem a1_y : View.canon (kernelRun0_A.sl.HS15_8 (F := Ideal) c arg4 harg4 x2) = ar3 .f32 (yN Y (n + 4)) :=
  canon_y (n := (n + 4)) (a0 := View.readAt (Elt Ideal) arg4.view (Rect.unit (s := S1x1024x512) ![0, 512, 0] S1x512x128.size inb_S1x1024x512_S1x512x128_0_512_0).toLoadRect (harg4.unread x2)) (a1 := View.readAt (Elt Ideal) arg4.view (Rect.unit (s := S1x1024x512) ![0, 512, 128] S1x512x128.size inb_S1x1024x512_S1x512x128_0_512_128).toLoadRect (harg4.unread x2)) (a2 := View.readAt (Elt Ideal) arg4.view (Rect.unit (s := S1x1024x512) ![0, 512, 256] S1x512x128.size inb_S1x1024x512_S1x512x128_0_512_256).toLoadRect (harg4.unread x2)) (a3 := View.readAt (Elt Ideal) arg4.view (Rect.unit (s := S1x1024x512) ![0, 512, 384] S1x512x128.size inb_S1x1024x512_S1x512x128_0_512_384).toLoadRect (harg4.unread x2)) (fun r l => (ld3 0 r l).trans ((hx2 _ _).trans (congrArg₂ Y ((row_four _ _).trans (congrArg _ (Nat.zero_add _).symm)) (Fin.ext (by have := l.isLt; show 0 + l.val = (128 * 0 + (0 + l.val)) % 512; omega))))) (fun r l => (ld3 0 r l).trans ((hx2 _ _).trans (congrArg₂ Y ((row_four _ _).trans (congrArg _ (Nat.zero_add _).symm)) (Fin.ext (by have := l.isLt; show 128 + l.val = (128 * 1 + (0 + l.val)) % 512; omega))))) (fun r l => (ld3 0 r l).trans ((hx2 _ _).trans (congrArg₂ Y ((row_four _ _).trans (congrArg _ (Nat.zero_add _).symm)) (Fin.ext (by have := l.isLt; show 256 + l.val = (128 * 2 + (0 + l.val)) % 512; omega))))) (fun r l => (ld3 0 r l).trans ((hx2 _ _).trans (congrArg₂ Y ((row_four _ _).trans (congrArg _ (Nat.zero_add _).symm)) (Fin.ext (by have := l.isLt; show 384 + l.val = (128 * 3 + (0 + l.val)) % 512; omega)))))
include hx0 hx4 hx5 in
theorem a1_m1 (r : Fin 512) (z : Fin 1024) : ((kernelRun0_A.sl.r_112 (F := Ideal) c arg2 harg2 arg6 harg6 arg7 harg7 arg25 x0 x4 x5) : FVec Ideal S512x1024 .f32) (ix2 r z) = logi (prN g w X (n + 4) r.val (3584 + z.val)) :=
  (logi_apply (kernelRun0_A.sl.v1287 (F := Ideal) c arg2 harg2 arg6 harg6 arg25 x0 x4) (View.readAt (Elt Ideal) arg7.view (Rect.unit (s := S1024x5632) ![0, 3584] S1024x1024.size inb_S1024x5632_S1024x1024_0_3584).toLoadRect (harg7.unread x5)) r z).trans (congrArg logi (prN_of (by decide) (rd2 (a1_u hx0 hx4)) (fun k j => (ld2 k j).trans ((hx5 _ _).trans (congrArg₂ w (Fin.ext (Nat.zero_add _)) rfl))) r z))
include hx0 hx4 hx5 in
theorem a1_m2 (r : Fin 512) (z : Fin 1024) : ((kernelRun0_A.sl.r_114 (F := Ideal) c arg2 harg2 arg6 harg6 arg7 harg7 arg25 x0 x4 x5) : FVec Ideal S512x1024 .f32) (ix2 r z) = logi (prN g w X (n + 4) r.val (4608 + z.val)) :=
  (logi_apply (kernelRun0_A.sl.v1287 (F := Ideal) c arg2 harg2 arg6 harg6 arg25 x0 x4) (View.readAt (Elt Ideal) arg7.view (Rect.unit (s := S1024x5632) ![0, 4608] S1024x1024.size inb_S1024x5632_S1024x1024_0_4608).toLoadRect (harg7.unread x5)) r z).trans (congrArg logi (prN_of (by decide) (rd2 (a1_u hx0 hx4)) (fun k j => (ld2 k j).trans ((hx5 _ _).trans (congrArg₂ w (Fin.ext (Nat.zero_add _)) rfl))) r z))

end Cert.MixValue

end
-- ==== Proof.MixWordsA.lean ====
/- Hand-written, untrusted: THE BUFFERS OF A POINT OF THE MIXER SLICE, FROM THE STATE ON, at the start of a sequence. The windows'
   contents are given as functions of the arguments; each buffer that the body stores is then an array of the specification. -/
module

public import proofs.«01_k».proof.Proof.MixWords

@[expose] public section

noncomputable section

namespace Cert.MixValue

open Cert.MixIdeal Cert.MixIdeal.Gen Cert.Spec Idealize.ShloMosaic

variable {g : Fin 1024 → EReal} {w : Fin 1024 → Fin 5632 → EReal} {X : Fin 8192 → Fin 1024 → EReal} {P : Fin 8192 → EReal} {n : ℕ}
  {Y : Fin 8192 → Fin 512 → EReal} {ga gb : Fin 512 → Fin 1024 → EReal} {wr wo : Fin 1024 → Fin 1024 → EReal} {gp : Fin 1024 → EReal}

variable {c : Dev nD} {i : grid0.Coords}
  {arg2 : Memref sig .tc .vmem S1x1024x1024 .f32} {harg2 : arg2.IsWhole}
  {arg3 : Memref sig .tc .vmem S1x8x8x128 .f32} {harg3 : arg3.IsWhole}
  {arg4 : Memref sig .tc .vmem S1x1024x512 .f32} {harg4 : arg4.IsWhole}
  {arg5 : Memref sig .tc .vmem S128x1 .f32} {harg5 : arg5.IsWhole}
  {arg6 : Memref sig .tc .vmem S1x1024 .f32} {harg6 : arg6.IsWhole}
  {arg7 : Memref sig .tc .vmem S1024x5632 .bf16} {harg7 : arg7.IsWhole}
  {arg8 : Memref sig .tc .vmem S4x128x128 .f32} {harg8 : arg8.IsWhole}
  {arg9 : Memref sig .tc .vmem S4x128x256 .f32} {harg9 : arg9.IsWhole}
  {arg10 : Memref sig .tc .vmem S4x128x128 .f32} {harg10 : arg10.IsWhole}
  {arg11 : Memref sig .tc .vmem S4x1x256 .f32} {harg11 : arg11.IsWhole}
  {arg12 : Memref sig .tc .vmem S1024x1024 .bf16} {harg12 : arg12.IsWhole}
  {arg18 : Memref sig .tc .vmem S512x2048 .bf16} {harg18 : arg18.IsWhole}
  {arg19 : Memref sig .tc .vmem S1024x1024 .bf16} {harg19 : arg19.IsWhole}
  {arg20 : Memref sig .tc .vmem S1x1024 .f32} {harg20 : arg20.IsWhole}
  {arg22 : Memref sig .tc .vmem S4x128x256 .f32} {harg22 : arg22.IsWhole}
  {arg25 : Memref sig .tc .vmem S512x1024 .bf16}
  {arg26 : Memref sig .tc .vmem S512x512 .bf16}
  {arg27 : Memref sig .tc .vmem S512x512 .f32}
  {arg28 : Memref sig .tc .vmem S512x1024 .bf16}
  {arg29 : Memref sig .tc .vmem S512x1024 .bf16}
  {arg30 : Memref sig .tc .vmem S512x1024 .bf16}
  {arg37 : Memref sig .tc .vmem S4x512x128 .f32}
  {x0 : Vec Ideal S1x1024x1024 .f32}
  {x1 : Vec Ideal S1x8x8x128 .f32}
  {x2 : Vec Ideal S1x1024x512 .f32}
  {x3 : Vec Ideal S128x1 .f32}
  {x4 : Vec Ideal S1x1024 .f32}
  {x5 : Vec Ideal S1024x5632 .bf16}
  {x6 : Vec Ideal S4x128x128 .f32}
  {x7 : Vec Ideal S4x128x256 .f32}
  {x8 : Vec Ideal S4x128x128 .f32}
  {x9 : Vec Ideal S4x1x256 .f32}
  {x10 : Vec Ideal S1024x1024 .bf16}
  {x16 : Vec Ideal S512x2048 .bf16}
  {x17 : Vec Ideal S1024x1024 .bf16}
  {x18 : Vec Ideal S1x1024 .f32}
  (hx0 : ∀ r k : Fin 1024, x0 (ix3 0 r k) = X (row n r.val) k)
  (hx1 : ∀ (a : Fin 8) (l : Fin 128), x1 (ix4 0 (i 1) a l) = P (row n (128 * a.val + l.val)))
  (hx2 : ∀ (r : Fin 1024) (j : Fin 512), x2 (ix3 0 r j) = Y (row n r.val) j)
  (hx3 : ∀ d : Fin 128, x3 (ix2 d 0) = freq (d.val % 64)) (hx4 : ∀ k : Fin 1024, x4 (ix2 0 k) = g k)
  (hx5 : ∀ (k : Fin 1024) (j : Fin 5632), x5 (ix2 k j) = w k j)
  (hx6 : ∀ (h : Fin 4) (i j : Fin 128), x6 (ix3 h i j) = dec h.val i.val j.val)
  (hx7 : ∀ (h : Fin 4) (i : Fin 128) (e : Fin 256), x7 (ix3 h i e) = xi h.val i.val)
  (hx8 : ∀ (h : Fin 4) (i d : Fin 128), x8 (ix3 h i d) = zeta h.val i.val)
  (hx9 : ∀ (h : Fin 4) (e : Fin 256), x9 (ix3 h 0 e) = cdec h.val)
  (hx10 : ∀ j c : Fin 1024, x10 (ix2 j c) = wr j c)
  (hxa : ∀ (j : Fin 512) (c : Fin 1024), x16 (ix2 j ⟨c.val, Nat.lt_of_lt_of_le c.isLt (Nat.le_add_right 1024 1024)⟩) = ga j c)
  (hxb : ∀ (j : Fin 512) (c : Fin 1024), x16 (ix2 j ⟨1024 + c.val, Nat.add_lt_add_left c.isLt 1024⟩) = gb j c)
  (hx17 : ∀ j c : Fin 1024, x17 (ix2 j c) = wo j c) (hx18 : ∀ k : Fin 1024, x18 (ix2 0 k) = gp k)
  (hn : n = 0)

/-! ## The state after each chunk -/

theorem a_st0 (hn : n = 0) : View.canon (kernelRun0_A.sl.HS0_1 (F := Ideal)) = ar3 .f32 (stN g w X P n) := by
  rw [kernelRun0_A.sl.HS0_1, View.canon_cons_unit_lit _ _ _ (by decide)]
  funext y
  subst hn
  exact Ideal.ofBits_zero .f32
include hx0 hx1 hx3 hx4 hx5 hx8 hx9 hn in
theorem a_st1 : View.canon (kernelRun0_A.sl.HS0_5 (F := Ideal) c i arg2 harg2 arg3 harg3 arg5 harg5 arg6 harg6 arg7 harg7 arg10 harg10 arg11 harg11 arg22 arg25 arg27 arg28 x0 x1 x3 x4 x5 x8 x9) = ar3 .f32 (stN g w X P (n + 1)) :=
  canon_st (n := n) (c := 0) (mk := arg27.view) (LK := (kernelRun0_A.sl.HS5_4 (F := Ideal) c i arg2 harg2 arg3 harg3 arg5 harg5 arg6 harg6 arg7 harg7 arg25 x0 x1 x3 x4 x5)) (mv := arg28.view) (LV := (kernelRun0_A.sl.HS6_1 (F := Ideal) c arg2 harg2 arg6 harg6 arg7 harg7 arg25 x0 x4 x5)) (mz := arg10) (iz := harg10) (mc := arg11) (ic := harg11) (s0 := arg22.view.readCov (kernelRun0_A.sl.HS0_1 (F := Ideal) ) (Rect.unit (s := S4x128x256) ![0, 0, 0] S1x128x256.size inb_S4x128x256_S1x128x256_0_0_0).toLoadRect) (s1 := arg22.view.readCov (kernelRun0_A.sl.HS0_1 (F := Ideal) ) (Rect.unit (s := S4x128x256) ![1, 0, 0] S1x128x256.size inb_S4x128x256_S1x128x256_1_0_0).toLoadRect) (s2 := arg22.view.readCov (kernelRun0_A.sl.HS0_1 (F := Ideal) ) (Rect.unit (s := S4x128x256) ![2, 0, 0] S1x128x256.size inb_S4x128x256_S1x128x256_2_0_0).toLoadRect) (s3 := arg22.view.readCov (kernelRun0_A.sl.HS0_1 (F := Ideal) ) (Rect.unit (s := S4x128x256) ![3, 0, 0] S1x128x256.size inb_S4x128x256_S1x128x256_3_0_0).toLoadRect)
    (a0_k hx0 hx1 hx3 hx4 hx5) (a0_v hx0 hx4 hx5) hx8 hx9 (rd3 (a_st0 hn)) (rd3 (a_st0 hn)) (rd3 (a_st0 hn)) (rd3 (a_st0 hn)) (by decide)
include hx0 hx1 hx3 hx4 hx5 hx8 hx9 hn in
theorem a_st2 : View.canon (kernelRun0_A.sl.HS0_9 (F := Ideal) c i arg2 harg2 arg3 harg3 arg5 harg5 arg6 harg6 arg7 harg7 arg10 harg10 arg11 harg11 arg22 arg25 arg27 arg28 x0 x1 x3 x4 x5 x8 x9) = ar3 .f32 (stN g w X P (n + 2)) :=
  canon_st (n := n) (c := 1) (mk := arg27.view) (LK := (kernelRun0_A.sl.HS5_4 (F := Ideal) c i arg2 harg2 arg3 harg3 arg5 harg5 arg6 harg6 arg7 harg7 arg25 x0 x1 x3 x4 x5)) (mv := arg28.view) (LV := (kernelRun0_A.sl.HS6_1 (F := Ideal) c arg2 harg2 arg6 harg6 arg7 harg7 arg25 x0 x4 x5)) (mz := arg10) (iz := harg10) (mc := arg11) (ic := harg11) (s0 := arg22.view.readCov (kernelRun0_A.sl.HS0_5 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect) (s1 := arg22.view.readCov (kernelRun0_A.sl.HS0_5 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect) (s2 := arg22.view.readCov (kernelRun0_A.sl.HS0_5 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect) (s3 := arg22.view.readCov (kernelRun0_A.sl.HS0_5 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (a0_k hx0 hx1 hx3 hx4 hx5) (a0_v hx0 hx4 hx5) hx8 hx9 (rd3 (a_st1 hx0 hx1 hx3 hx4 hx5 hx8 hx9 hn)) (rd3 (a_st1 hx0 hx1 hx3 hx4 hx5 hx8 hx9 hn)) (rd3 (a_st1 hx0 hx1 hx3 hx4 hx5 hx8 hx9 hn)) (rd3 (a_st1 hx0 hx1 hx3 hx4 hx5 hx8 hx9 hn)) (by decide)
include hx0 hx1 hx3 hx4 hx5 hx8 hx9 hn in
theorem a_st3 : View.canon (kernelRun0_A.sl.HS0_13 (F := Ideal) c i arg2 harg2 arg3 harg3 arg5 harg5 arg6 harg6 arg7 harg7 arg10 harg10 arg11 harg11 arg22 arg25 arg27 arg28 x0 x1 x3 x4 x5 x8 x9) = ar3 .f32 (stN g w X P (n + 3)) :=
  canon_st (n := n) (c := 2) (mk := arg27.view) (LK := (kernelRun0_A.sl.HS5_4 (F := Ideal) c i arg2 harg2 arg3 harg3 arg5 harg5 arg6 harg6 arg7 harg7 arg25 x0 x1 x3 x4 x5)) (mv := arg28.view) (LV := (kernelRun0_A.sl.HS6_1 (F := Ideal) c arg2 harg2 arg6 harg6 arg7 harg7 arg25 x0 x4 x5)) (mz := arg10) (iz := harg10) (mc := arg11) (ic := harg11) (s0 := arg22.view.readCov (kernelRun0_A.sl.HS0_9 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect) (s1 := arg22.view.readCov (kernelRun0_A.sl.HS0_9 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect) (s2 := arg22.view.readCov (kernelRun0_A.sl.HS0_9 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect) (s3 := arg22.view.readCov (kernelRun0_A.sl.HS0_9 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (a0_k hx0 hx1 hx3 hx4 hx5) (a0_v hx0 hx4 hx5) hx8 hx9 (rd3 (a_st2 hx0 hx1 hx3 hx4 hx5 hx8 hx9 hn)) (rd3 (a_st2 hx0 hx1 hx3 hx4 hx5 hx8 hx9 hn)) (rd3 (a_st2 hx0 hx1 hx3 hx4 hx5 hx8 hx9 hn)) (rd3 (a_st2 hx0 hx1 hx3 hx4 hx5 hx8 hx9 hn)) (by decide)
include hx0 hx1 hx3 hx4 hx5 hx8 hx9 hn in
theorem a_st4 : View.canon (kernelRun0_A.sl.HS0_17 (F := Ideal) c i arg2 harg2 arg3 harg3 arg5 harg5 arg6 harg6 arg7 harg7 arg10 harg10 arg11 harg11 arg22 arg25 arg27 arg28 x0 x1 x3 x4 x5 x8 x9) = ar3 .f32 (stN g w X P (n + 4)) :=
  canon_st (n := n) (c := 3) (mk := arg27.view) (LK := (kernelRun0_A.sl.HS5_4 (F := Ideal) c i arg2 harg2 arg3 harg3 arg5 harg5 arg6 harg6 arg7 harg7 arg25 x0 x1 x3 x4 x5)) (mv := arg28.view) (LV := (kernelRun0_A.sl.HS6_1 (F := Ideal) c arg2 harg2 arg6 harg6 arg7 harg7 arg25 x0 x4 x5)) (mz := arg10) (iz := harg10) (mc := arg11) (ic := harg11) (s0 := arg22.view.readCov (kernelRun0_A.sl.HS0_13 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect) (s1 := arg22.view.readCov (kernelRun0_A.sl.HS0_13 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect) (s2 := arg22.view.readCov (kernelRun0_A.sl.HS0_13 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect) (s3 := arg22.view.readCov (kernelRun0_A.sl.HS0_13 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (a0_k hx0 hx1 hx3 hx4 hx5) (a0_v hx0 hx4 hx5) hx8 hx9 (rd3 (a_st3 hx0 hx1 hx3 hx4 hx5 hx8 hx9 hn)) (rd3 (a_st3 hx0 hx1 hx3 hx4 hx5 hx8 hx9 hn)) (rd3 (a_st3 hx0 hx1 hx3 hx4 hx5 hx8 hx9 hn)) (rd3 (a_st3 hx0 hx1 hx3 hx4 hx5 hx8 hx9 hn)) (by decide)
include hx0 hx1 hx3 hx4 hx5 hx8 hx9 hn in
theorem a_st5 : View.canon (kernelRun0_A.sl.HS0_21 (F := Ideal) c i arg2 harg2 arg3 harg3 arg5 harg5 arg6 harg6 arg7 harg7 arg10 harg10 arg11 harg11 arg22 arg25 arg27 arg28 x0 x1 x3 x4 x5 x8 x9) = ar3 .f32 (stN g w X P (n + 5)) :=
  canon_st (n := (n + 4)) (c := 0) (mk := arg27.view) (LK := (kernelRun0_A.sl.HS5_8 (F := Ideal) c i arg2 harg2 arg3 harg3 arg5 harg5 arg6 harg6 arg7 harg7 arg25 x0 x1 x3 x4 x5)) (mv := arg28.view) (LV := (kernelRun0_A.sl.HS6_2 (F := Ideal) c arg2 harg2 arg6 harg6 arg7 harg7 arg25 x0 x4 x5)) (mz := arg10) (iz := harg10) (mc := arg11) (ic := harg11) (s0 := arg22.view.readCov (kernelRun0_A.sl.HS0_17 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect) (s1 := arg22.view.readCov (kernelRun0_A.sl.HS0_17 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect) (s2 := arg22.view.readCov (kernelRun0_A.sl.HS0_17 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect) (s3 := arg22.view.readCov (kernelRun0_A.sl.HS0_17 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (a1_k hx0 hx1 hx3 hx4 hx5) (a1_v hx0 hx4 hx5) hx8 hx9 (rd3 (a_st4 hx0 hx1 hx3 hx4 hx5 hx8 hx9 hn)) (rd3 (a_st4 hx0 hx1 hx3 hx4 hx5 hx8 hx9 hn)) (rd3 (a_st4 hx0 hx1 hx3 hx4 hx5 hx8 hx9 hn)) (rd3 (a_st4 hx0 hx1 hx3 hx4 hx5 hx8 hx9 hn)) (by decide)
include hx0 hx1 hx3 hx4 hx5 hx8 hx9 hn in
theorem a_st6 : View.canon (kernelRun0_A.sl.HS0_25 (F := Ideal) c i arg2 harg2 arg3 harg3 arg5 harg5 arg6 harg6 arg7 harg7 arg10 harg10 arg11 harg11 arg22 arg25 arg27 arg28 x0 x1 x3 x4 x5 x8 x9) = ar3 .f32 (stN g w X P (n + 6)) :=
  canon_st (n := (n + 4)) (c := 1) (mk := arg27.view) (LK := (kernelRun0_A.sl.HS5_8 (F := Ideal) c i arg2 harg2 arg3 harg3 arg5 harg5 arg6 harg6 arg7 harg7 arg25 x0 x1 x3 x4 x5)) (mv := arg28.view) (LV := (kernelRun0_A.sl.HS6_2 (F := Ideal) c arg2 harg2 arg6 harg6 arg7 harg7 arg25 x0 x4 x5)) (mz := arg10) (iz := harg10) (mc := arg11) (ic := harg11) (s0 := arg22.view.readCov (kernelRun0_A.sl.HS0_21 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect) (s1 := arg22.view.readCov (kernelRun0_A.sl.HS0_21 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect) (s2 := arg22.view.readCov (kernelRun0_A.sl.HS0_21 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect) (s3 := arg22.view.readCov (kernelRun0_A.sl.HS0_21 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (a1_k hx0 hx1 hx3 hx4 hx5) (a1_v hx0 hx4 hx5) hx8 hx9 (rd3 (a_st5 hx0 hx1 hx3 hx4 hx5 hx8 hx9 hn)) (rd3 (a_st5 hx0 hx1 hx3 hx4 hx5 hx8 hx9 hn)) (rd3 (a_st5 hx0 hx1 hx3 hx4 hx5 hx8 hx9 hn)) (rd3 (a_st5 hx0 hx1 hx3 hx4 hx5 hx8 hx9 hn)) (by decide)
include hx0 hx1 hx3 hx4 hx5 hx8 hx9 hn in
theorem a_st7 : View.canon (kernelRun0_A.sl.HS0_29 (F := Ideal) c i arg2 harg2 arg3 harg3 arg5 harg5 arg6 harg6 arg7 harg7 arg10 harg10 arg11 harg11 arg22 arg25 arg27 arg28 x0 x1 x3 x4 x5 x8 x9) = ar3 .f32 (stN g w X P (n + 7)) :=
  canon_st (n := (n + 4)) (c := 2) (mk := arg27.view) (LK := (kernelRun0_A.sl.HS5_8 (F := Ideal) c i arg2 harg2 arg3 harg3 arg5 harg5 arg6 harg6 arg7 harg7 arg25 x0 x1 x3 x4 x5)) (mv := arg28.view) (LV := (kernelRun0_A.sl.HS6_2 (F := Ideal) c arg2 harg2 arg6 harg6 arg7 harg7 arg25 x0 x4 x5)) (mz := arg10) (iz := harg10) (mc := arg11) (ic := harg11) (s0 := arg22.view.readCov (kernelRun0_A.sl.HS0_25 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect) (s1 := arg22.view.readCov (kernelRun0_A.sl.HS0_25 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect) (s2 := arg22.view.readCov (kernelRun0_A.sl.HS0_25 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect) (s3 := arg22.view.readCov (kernelRun0_A.sl.HS0_25 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (a1_k hx0 hx1 hx3 hx4 hx5) (a1_v hx0 hx4 hx5) hx8 hx9 (rd3 (a_st6 hx0 hx1 hx3 hx4 hx5 hx8 hx9 hn)) (rd3 (a_st6 hx0 hx1 hx3 hx4 hx5 hx8 hx9 hn)) (rd3 (a_st6 hx0 hx1 hx3 hx4 hx5 hx8 hx9 hn)) (rd3 (a_st6 hx0 hx1 hx3 hx4 hx5 hx8 hx9 hn)) (by decide)

/-! ## The gated retention -/

include hx0 hx1 hx3 hx4 hx5 hx6 hx7 hx8 hx9 hn in
theorem a0_g : View.canon (kernelRun0_A.sl.HS8_16 (F := Ideal) c i arg2 harg2 arg3 harg3 arg5 harg5 arg6 harg6 arg7 harg7 arg8 harg8 arg9 harg9 arg10 harg10 arg11 harg11 arg22 arg25 arg26 arg27 arg28 arg29 x0 x1 x3 x4 x5 x6 x7 x8 x9) = ar .bf16 (gN g w X P n) :=
  canon_g (n := n) (mq := arg26.view) (LQ := (kernelRun0_A.sl.HS4_4 (F := Ideal) c i arg2 harg2 arg3 harg3 arg5 harg5 arg6 harg6 arg7 harg7 arg25 x0 x1 x3 x4 x5)) (mk := arg27.view) (LK := (kernelRun0_A.sl.HS5_4 (F := Ideal) c i arg2 harg2 arg3 harg3 arg5 harg5 arg6 harg6 arg7 harg7 arg25 x0 x1 x3 x4 x5)) (mv := arg28.view) (LV := (kernelRun0_A.sl.HS6_1 (F := Ideal) c arg2 harg2 arg6 harg6 arg7 harg7 arg25 x0 x4 x5)) (ms := arg29.view) (LS := (kernelRun0_A.sl.HS7_1 (F := Ideal) c arg2 harg2 arg6 harg6 arg7 harg7 arg25 x0 x4 x5)) (md := arg8) (id := harg8) (mx := arg9) (ix := harg9)
    (s00 := arg22.view.readCov (kernelRun0_A.sl.HS0_1 (F := Ideal) ) (Rect.unit (s := S4x128x256) ![0, 0, 0] S1x128x256.size inb_S4x128x256_S1x128x256_0_0_0).toLoadRect)
    (s01 := arg22.view.readCov (kernelRun0_A.sl.HS0_1 (F := Ideal) ) (Rect.unit (s := S4x128x256) ![1, 0, 0] S1x128x256.size inb_S4x128x256_S1x128x256_1_0_0).toLoadRect)
    (s02 := arg22.view.readCov (kernelRun0_A.sl.HS0_1 (F := Ideal) ) (Rect.unit (s := S4x128x256) ![2, 0, 0] S1x128x256.size inb_S4x128x256_S1x128x256_2_0_0).toLoadRect)
    (s03 := arg22.view.readCov (kernelRun0_A.sl.HS0_1 (F := Ideal) ) (Rect.unit (s := S4x128x256) ![3, 0, 0] S1x128x256.size inb_S4x128x256_S1x128x256_3_0_0).toLoadRect)
    (s10 := arg22.view.readCov (kernelRun0_A.sl.HS0_5 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect)
    (s11 := arg22.view.readCov (kernelRun0_A.sl.HS0_5 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect)
    (s12 := arg22.view.readCov (kernelRun0_A.sl.HS0_5 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect)
    (s13 := arg22.view.readCov (kernelRun0_A.sl.HS0_5 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (s20 := arg22.view.readCov (kernelRun0_A.sl.HS0_9 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect)
    (s21 := arg22.view.readCov (kernelRun0_A.sl.HS0_9 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect)
    (s22 := arg22.view.readCov (kernelRun0_A.sl.HS0_9 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect)
    (s23 := arg22.view.readCov (kernelRun0_A.sl.HS0_9 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (s30 := arg22.view.readCov (kernelRun0_A.sl.HS0_13 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect)
    (s31 := arg22.view.readCov (kernelRun0_A.sl.HS0_13 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect)
    (s32 := arg22.view.readCov (kernelRun0_A.sl.HS0_13 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect)
    (s33 := arg22.view.readCov (kernelRun0_A.sl.HS0_13 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (a0_q hx0 hx1 hx3 hx4 hx5) (a0_k hx0 hx1 hx3 hx4 hx5) (a0_v hx0 hx4 hx5) (a0_s hx0 hx4 hx5) hx6 hx7
    (rd3 (a_st0 hn)) (rd3 (a_st0 hn)) (rd3 (a_st0 hn)) (rd3 (a_st0 hn)) (rd3 (a_st1 hx0 hx1 hx3 hx4 hx5 hx8 hx9 hn)) (rd3 (a_st1 hx0 hx1 hx3 hx4 hx5 hx8 hx9 hn)) (rd3 (a_st1 hx0 hx1 hx3 hx4 hx5 hx8 hx9 hn)) (rd3 (a_st1 hx0 hx1 hx3 hx4 hx5 hx8 hx9 hn)) (rd3 (a_st2 hx0 hx1 hx3 hx4 hx5 hx8 hx9 hn)) (rd3 (a_st2 hx0 hx1 hx3 hx4 hx5 hx8 hx9 hn)) (rd3 (a_st2 hx0 hx1 hx3 hx4 hx5 hx8 hx9 hn)) (rd3 (a_st2 hx0 hx1 hx3 hx4 hx5 hx8 hx9 hn)) (rd3 (a_st3 hx0 hx1 hx3 hx4 hx5 hx8 hx9 hn)) (rd3 (a_st3 hx0 hx1 hx3 hx4 hx5 hx8 hx9 hn)) (rd3 (a_st3 hx0 hx1 hx3 hx4 hx5 hx8 hx9 hn)) (rd3 (a_st3 hx0 hx1 hx3 hx4 hx5 hx8 hx9 hn))
include hx0 hx1 hx3 hx4 hx5 hx6 hx7 hx8 hx9 hn in
theorem a1_g : View.canon (kernelRun0_A.sl.HS8_32 (F := Ideal) c i arg2 harg2 arg3 harg3 arg5 harg5 arg6 harg6 arg7 harg7 arg8 harg8 arg9 harg9 arg10 harg10 arg11 harg11 arg22 arg25 arg26 arg27 arg28 arg29 x0 x1 x3 x4 x5 x6 x7 x8 x9) = ar .bf16 (gN g w X P (n + 4)) :=
  canon_g (n := (n + 4)) (mq := arg26.view) (LQ := (kernelRun0_A.sl.HS4_8 (F := Ideal) c i arg2 harg2 arg3 harg3 arg5 harg5 arg6 harg6 arg7 harg7 arg25 x0 x1 x3 x4 x5)) (mk := arg27.view) (LK := (kernelRun0_A.sl.HS5_8 (F := Ideal) c i arg2 harg2 arg3 harg3 arg5 harg5 arg6 harg6 arg7 harg7 arg25 x0 x1 x3 x4 x5)) (mv := arg28.view) (LV := (kernelRun0_A.sl.HS6_2 (F := Ideal) c arg2 harg2 arg6 harg6 arg7 harg7 arg25 x0 x4 x5)) (ms := arg29.view) (LS := (kernelRun0_A.sl.HS7_2 (F := Ideal) c arg2 harg2 arg6 harg6 arg7 harg7 arg25 x0 x4 x5)) (md := arg8) (id := harg8) (mx := arg9) (ix := harg9)
    (s00 := arg22.view.readCov (kernelRun0_A.sl.HS0_17 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect)
    (s01 := arg22.view.readCov (kernelRun0_A.sl.HS0_17 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect)
    (s02 := arg22.view.readCov (kernelRun0_A.sl.HS0_17 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect)
    (s03 := arg22.view.readCov (kernelRun0_A.sl.HS0_17 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (s10 := arg22.view.readCov (kernelRun0_A.sl.HS0_21 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect)
    (s11 := arg22.view.readCov (kernelRun0_A.sl.HS0_21 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect)
    (s12 := arg22.view.readCov (kernelRun0_A.sl.HS0_21 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect)
    (s13 := arg22.view.readCov (kernelRun0_A.sl.HS0_21 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (s20 := arg22.view.readCov (kernelRun0_A.sl.HS0_25 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect)
    (s21 := arg22.view.readCov (kernelRun0_A.sl.HS0_25 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect)
    (s22 := arg22.view.readCov (kernelRun0_A.sl.HS0_25 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect)
    (s23 := arg22.view.readCov (kernelRun0_A.sl.HS0_25 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (s30 := arg22.view.readCov (kernelRun0_A.sl.HS0_29 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect)
    (s31 := arg22.view.readCov (kernelRun0_A.sl.HS0_29 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect)
    (s32 := arg22.view.readCov (kernelRun0_A.sl.HS0_29 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect)
    (s33 := arg22.view.readCov (kernelRun0_A.sl.HS0_29 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (a1_q hx0 hx1 hx3 hx4 hx5) (a1_k hx0 hx1 hx3 hx4 hx5) (a1_v hx0 hx4 hx5) (a1_s hx0 hx4 hx5) hx6 hx7
    (rd3 (a_st4 hx0 hx1 hx3 hx4 hx5 hx8 hx9 hn)) (rd3 (a_st4 hx0 hx1 hx3 hx4 hx5 hx8 hx9 hn)) (rd3 (a_st4 hx0 hx1 hx3 hx4 hx5 hx8 hx9 hn)) (rd3 (a_st4 hx0 hx1 hx3 hx4 hx5 hx8 hx9 hn)) (rd3 (a_st5 hx0 hx1 hx3 hx4 hx5 hx8 hx9 hn)) (rd3 (a_st5 hx0 hx1 hx3 hx4 hx5 hx8 hx9 hn)) (rd3 (a_st5 hx0 hx1 hx3 hx4 hx5 hx8 hx9 hn)) (rd3 (a_st5 hx0 hx1 hx3 hx4 hx5 hx8 hx9 hn)) (rd3 (a_st6 hx0 hx1 hx3 hx4 hx5 hx8 hx9 hn)) (rd3 (a_st6 hx0 hx1 hx3 hx4 hx5 hx8 hx9 hn)) (rd3 (a_st6 hx0 hx1 hx3 hx4 hx5 hx8 hx9 hn)) (rd3 (a_st6 hx0 hx1 hx3 hx4 hx5 hx8 hx9 hn)) (rd3 (a_st7 hx0 hx1 hx3 hx4 hx5 hx8 hx9 hn)) (rd3 (a_st7 hx0 hx1 hx3 hx4 hx5 hx8 hx9 hn)) (rd3 (a_st7 hx0 hx1 hx3 hx4 hx5 hx8 hx9 hn)) (rd3 (a_st7 hx0 hx1 hx3 hx4 hx5 hx8 hx9 hn))

/-! ## What the point leaves -/

variable
  {arg13 : Memref sig .tc .vmem S32x128x128 .bf16} {harg13 : arg13.IsWhole}
  {arg14 : Memref sig .tc .vmem S32x128x128 .bf16} {harg14 : arg14.IsWhole}
  {arg15 : Memref sig .tc .vmem S32x128x128 .bf16} {harg15 : arg15.IsWhole}
  {arg16 : Memref sig .tc .vmem S32x128 .f32} {harg16 : arg16.IsWhole}
  {arg17 : Memref sig .tc .vmem S32x128 .f32} {harg17 : arg17.IsWhole}
  {arg21 : Memref sig .tc .vmem S1x1024x1024 .f32} {harg21 : arg21.IsWhole}
  {arg23 : Memref sig .tc .vmem S32x128 .f32} {harg23 : arg23.IsWhole}
  {arg24 : Memref sig .tc .vmem S32x128 .f32} {harg24 : arg24.IsWhole}
  {arg31 : Memref sig .tc .vmem S4x512x128 .f32} {harg31 : arg31.IsWhole}
  {arg32 : Memref sig .tc .vmem S32x64x128 .bf16} {harg32 : arg32.IsWhole}
  {arg33 : Memref sig .tc .vmem S2176x128 .f32} {harg33 : arg33.IsWhole}
  {arg34 : Memref sig .tc .vmem S2176x128 .f32} {harg34 : arg34.IsWhole}
  {arg35 : Memref sig .tc .vmem S2176x128 .f32} {harg35 : arg35.IsWhole}
  {arg36 : Memref sig .tc .vmem S32x64x128 .f32} {harg36 : arg36.IsWhole}
  {harg25 : arg25.IsWhole}
  {harg26 : arg26.IsWhole}
  {harg27 : arg27.IsWhole}
  {harg28 : arg28.IsWhole}
  {harg29 : arg29.IsWhole}
  {harg30 : arg30.IsWhole}
  {harg37 : arg37.IsWhole}
  {x11 : Vec Ideal S32x128x128 .bf16}
  {x12 : Vec Ideal S32x128x128 .bf16}
  {x13 : Vec Ideal S32x128x128 .bf16}
  {x14 : Vec Ideal S32x128 .f32}
  {x15 : Vec Ideal S32x128 .f32}
  {hc0 : cond0_0 i}

include hx0 hx1 hx3 hx4 hx5 hx8 hx9 hn in
theorem a_st8 : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18).2.1 = ar3 .f32 (stN g w X P (n + 8)) :=
  canon_st (n := (n + 4)) (c := 3) (mk := arg27.view) (LK := (kernelRun0_A.sl.HS5_8 (F := Ideal) c i arg2 harg2 arg3 harg3 arg5 harg5 arg6 harg6 arg7 harg7 arg25 x0 x1 x3 x4 x5)) (mv := arg28.view) (LV := (kernelRun0_A.sl.HS6_2 (F := Ideal) c arg2 harg2 arg6 harg6 arg7 harg7 arg25 x0 x4 x5)) (mz := arg10) (iz := harg10) (mc := arg11) (ic := harg11) (s0 := arg22.view.readCov (kernelRun0_A.sl.HS0_29 (F := Ideal) c i arg2 harg2 arg3 harg3 arg5 harg5 arg6 harg6 arg7 harg7 arg10 harg10 arg11 harg11 arg22 arg25 arg27 arg28 x0 x1 x3 x4 x5 x8 x9) (Rect.unit (s := S4x128x256) ![0, 0, 0] S1x128x256.size inb_S4x128x256_S1x128x256_0_0_0).toLoadRect) (s1 := arg22.view.readCov (kernelRun0_A.sl.HS0_29 (F := Ideal) c i arg2 harg2 arg3 harg3 arg5 harg5 arg6 harg6 arg7 harg7 arg10 harg10 arg11 harg11 arg22 arg25 arg27 arg28 x0 x1 x3 x4 x5 x8 x9) (Rect.unit (s := S4x128x256) ![1, 0, 0] S1x128x256.size inb_S4x128x256_S1x128x256_1_0_0).toLoadRect) (s2 := arg22.view.readCov (kernelRun0_A.sl.HS0_29 (F := Ideal) c i arg2 harg2 arg3 harg3 arg5 harg5 arg6 harg6 arg7 harg7 arg10 harg10 arg11 harg11 arg22 arg25 arg27 arg28 x0 x1 x3 x4 x5 x8 x9) (Rect.unit (s := S4x128x256) ![2, 0, 0] S1x128x256.size inb_S4x128x256_S1x128x256_2_0_0).toLoadRect) (s3 := arg22.view.readCov (kernelRun0_A.sl.HS0_29 (F := Ideal) c i arg2 harg2 arg3 harg3 arg5 harg5 arg6 harg6 arg7 harg7 arg10 harg10 arg11 harg11 arg22 arg25 arg27 arg28 x0 x1 x3 x4 x5 x8 x9) (Rect.unit (s := S4x128x256) ![3, 0, 0] S1x128x256.size inb_S4x128x256_S1x128x256_3_0_0).toLoadRect)
    (a1_k hx0 hx1 hx3 hx4 hx5) (a1_v hx0 hx4 hx5) hx8 hx9 (rd3 (a_st7 hx0 hx1 hx3 hx4 hx5 hx8 hx9 hn)) (rd3 (a_st7 hx0 hx1 hx3 hx4 hx5 hx8 hx9 hn)) (rd3 (a_st7 hx0 hx1 hx3 hx4 hx5 hx8 hx9 hn)) (rd3 (a_st7 hx0 hx1 hx3 hx4 hx5 hx8 hx9 hn)) (by decide)
include hx0 hx1 hx2 hx3 hx4 hx5 hx6 hx7 hx8 hx9 hx10 hxa hxb hx17 hx18 hn in
theorem a_out : View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18).1 = ar3 .f32 (fun _ => outN g w X P Y ga gb wr wo gp n) :=
  canon_out (f := fun _ => outN g w X P Y ga gb wr wo gp n)
    (fun r z => lo_of (n := n) (m1 := (kernelRun0_A.sl.r_13 (F := Ideal) c arg2 harg2 arg6 harg6 arg7 harg7 arg25 x0 x4 x5)) (m2 := (kernelRun0_A.sl.r_14 (F := Ideal) c arg2 harg2 arg6 harg6 arg7 harg7 arg25 x0 x4 x5)) (y := (geOp (arg37.view.readCov (kernelRun0_A.sl.HS15_4 (F := Ideal) c arg4 harg4 x2) (Rect.unit (s := S4x512x128) ![0, 0, 0] S1x512x128.size inb_S4x512x128_S1x512x128_0_0_0).toLoadRect) (arg37.view.readCov (kernelRun0_A.sl.HS15_4 (F := Ideal) c arg4 harg4 x2) (Rect.unit (s := S4x512x128) ![1, 0, 0] S1x512x128.size inb_S4x512x128_S1x512x128_1_0_0).toLoadRect) (arg37.view.readCov (kernelRun0_A.sl.HS15_4 (F := Ideal) c arg4 harg4 x2) (Rect.unit (s := S4x512x128) ![2, 0, 0] S1x512x128.size inb_S4x512x128_S1x512x128_2_0_0).toLoadRect) (arg37.view.readCov (kernelRun0_A.sl.HS15_4 (F := Ideal) c arg4 harg4 x2) (Rect.unit (s := S4x512x128) ![3, 0, 0] S1x512x128.size inb_S4x512x128_S1x512x128_3_0_0).toLoadRect))) (wg := (View.readAt (Elt Ideal) arg18.view (Rect.unit (s := S512x2048) ![0, 0] S512x2048.size inb_S512x2048_S512x2048_0_0).toLoadRect (harg18.unread x16))) (o := (arg30.view.readCov (kernelRun0_A.sl.HS8_16 (F := Ideal) c i arg2 harg2 arg3 harg3 arg5 harg5 arg6 harg6 arg7 harg7 arg8 harg8 arg9 harg9 arg10 harg10 arg11 harg11 arg22 arg25 arg26 arg27 arg28 arg29 x0 x1 x3 x4 x5 x6 x7 x8 x9) (Rect.unit (s := S512x1024) ![0, 0] S512x1024.size inb_S512x1024_S512x1024_0_0).toLoadRect)) (wrr := (View.readAt (Elt Ideal) arg12.view (Rect.unit (s := S1024x1024) ![0, 0] S1024x1024.size inb_S1024x1024_S1024x1024_0_0).toLoadRect (harg12.unread x10))) (woo := (View.readAt (Elt Ideal) arg19.view (Rect.unit (s := S1024x1024) ![0, 0] S1024x1024.size inb_S1024x1024_S1024x1024_0_0).toLoadRect (harg19.unread x17))) (gpp := (View.readAt (Elt Ideal) arg20.view (Rect.unit (s := S1x1024) ![0, 0] S1x1024.size inb_S1x1024_S1x1024_0_0).toLoadRect (harg20.unread x18))) (x := View.readAt (Elt Ideal) arg2.view (Rect.unit (s := S1x1024x1024) ![0, 0, 0] S1x256x1024.size inb_S1x1024x1024_S1x256x1024_0_0_0).toLoadRect (harg2.unread x0))
    (a0_m1 hx0 hx4 hx5) (a0_m2 hx0 hx4 hx5) (fun r j => gelu_of (a0_y hx2) r j) (fun j z => (ld2 j _).trans ((congrArg x16 (congrArg₂ ix2 (Fin.ext (Nat.zero_add _)) (Fin.ext (Nat.zero_add _)))).trans (hxa j z))) (fun j z => (ld2 j _).trans ((congrArg x16 (congrArg₂ ix2 (Fin.ext (Nat.zero_add _)) (Fin.ext (Nat.zero_add _)))).trans (hxb j z))) (rd2 (a0_g hx0 hx1 hx3 hx4 hx5 hx6 hx7 hx8 hx9 hn)) (fun j z => (ld2 j _).trans ((congrArg x10 (congrArg₂ ix2 (Fin.ext (Nat.zero_add _)) (Fin.ext (Nat.zero_add _)))).trans (hx10 j z))) (fun j z => (ld2 j _).trans ((congrArg x17 (congrArg₂ ix2 (Fin.ext (Nat.zero_add _)) (Fin.ext (Nat.zero_add _)))).trans (hx17 j z))) (fun k => (ld2 0 k).trans ((congrArg x18 (congrArg₂ ix2 (Fin.ext (Nat.zero_add _)) (Fin.ext (Nat.zero_add _)))).trans (hx18 k)))
    (fun r k => (ld3 0 r k).trans ((hx0 _ _).trans (congrArg₂ X rfl (Fin.ext (Nat.zero_add _))))) r z)
    (fun r z => hi_of (n := n) (m1 := (kernelRun0_A.sl.r_13 (F := Ideal) c arg2 harg2 arg6 harg6 arg7 harg7 arg25 x0 x4 x5)) (m2 := (kernelRun0_A.sl.r_14 (F := Ideal) c arg2 harg2 arg6 harg6 arg7 harg7 arg25 x0 x4 x5)) (y := (geOp (arg37.view.readCov (kernelRun0_A.sl.HS15_4 (F := Ideal) c arg4 harg4 x2) (Rect.unit (s := S4x512x128) ![0, 0, 0] S1x512x128.size inb_S4x512x128_S1x512x128_0_0_0).toLoadRect) (arg37.view.readCov (kernelRun0_A.sl.HS15_4 (F := Ideal) c arg4 harg4 x2) (Rect.unit (s := S4x512x128) ![1, 0, 0] S1x512x128.size inb_S4x512x128_S1x512x128_1_0_0).toLoadRect) (arg37.view.readCov (kernelRun0_A.sl.HS15_4 (F := Ideal) c arg4 harg4 x2) (Rect.unit (s := S4x512x128) ![2, 0, 0] S1x512x128.size inb_S4x512x128_S1x512x128_2_0_0).toLoadRect) (arg37.view.readCov (kernelRun0_A.sl.HS15_4 (F := Ideal) c arg4 harg4 x2) (Rect.unit (s := S4x512x128) ![3, 0, 0] S1x512x128.size inb_S4x512x128_S1x512x128_3_0_0).toLoadRect))) (wg := (View.readAt (Elt Ideal) arg18.view (Rect.unit (s := S512x2048) ![0, 0] S512x2048.size inb_S512x2048_S512x2048_0_0).toLoadRect (harg18.unread x16))) (o := (arg30.view.readCov (kernelRun0_A.sl.HS8_16 (F := Ideal) c i arg2 harg2 arg3 harg3 arg5 harg5 arg6 harg6 arg7 harg7 arg8 harg8 arg9 harg9 arg10 harg10 arg11 harg11 arg22 arg25 arg26 arg27 arg28 arg29 x0 x1 x3 x4 x5 x6 x7 x8 x9) (Rect.unit (s := S512x1024) ![0, 0] S512x1024.size inb_S512x1024_S512x1024_0_0).toLoadRect)) (wrr := (View.readAt (Elt Ideal) arg12.view (Rect.unit (s := S1024x1024) ![0, 0] S1024x1024.size inb_S1024x1024_S1024x1024_0_0).toLoadRect (harg12.unread x10))) (woo := (View.readAt (Elt Ideal) arg19.view (Rect.unit (s := S1024x1024) ![0, 0] S1024x1024.size inb_S1024x1024_S1024x1024_0_0).toLoadRect (harg19.unread x17))) (gpp := (View.readAt (Elt Ideal) arg20.view (Rect.unit (s := S1x1024) ![0, 0] S1x1024.size inb_S1x1024_S1x1024_0_0).toLoadRect (harg20.unread x18))) (x := View.readAt (Elt Ideal) arg2.view (Rect.unit (s := S1x1024x1024) ![0, 256, 0] S1x256x1024.size inb_S1x1024x1024_S1x256x1024_0_256_0).toLoadRect (harg2.unread x0))
    (a0_m1 hx0 hx4 hx5) (a0_m2 hx0 hx4 hx5) (fun r j => gelu_of (a0_y hx2) r j) (fun j z => (ld2 j _).trans ((congrArg x16 (congrArg₂ ix2 (Fin.ext (Nat.zero_add _)) (Fin.ext (Nat.zero_add _)))).trans (hxa j z))) (fun j z => (ld2 j _).trans ((congrArg x16 (congrArg₂ ix2 (Fin.ext (Nat.zero_add _)) (Fin.ext (Nat.zero_add _)))).trans (hxb j z))) (rd2 (a0_g hx0 hx1 hx3 hx4 hx5 hx6 hx7 hx8 hx9 hn)) (fun j z => (ld2 j _).trans ((congrArg x10 (congrArg₂ ix2 (Fin.ext (Nat.zero_add _)) (Fin.ext (Nat.zero_add _)))).trans (hx10 j z))) (fun j z => (ld2 j _).trans ((congrArg x17 (congrArg₂ ix2 (Fin.ext (Nat.zero_add _)) (Fin.ext (Nat.zero_add _)))).trans (hx17 j z))) (fun k => (ld2 0 k).trans ((congrArg x18 (congrArg₂ ix2 (Fin.ext (Nat.zero_add _)) (Fin.ext (Nat.zero_add _)))).trans (hx18 k)))
    (fun r k => (ld3 0 r k).trans ((hx0 _ _).trans (congrArg₂ X rfl (Fin.ext (Nat.zero_add _))))) r z)
    (fun r z => (lo_of (n := (n + 4)) (m1 := (kernelRun0_A.sl.r_112 (F := Ideal) c arg2 harg2 arg6 harg6 arg7 harg7 arg25 x0 x4 x5)) (m2 := (kernelRun0_A.sl.r_114 (F := Ideal) c arg2 harg2 arg6 harg6 arg7 harg7 arg25 x0 x4 x5)) (y := (geOp (arg37.view.readCov (kernelRun0_A.sl.HS15_8 (F := Ideal) c arg4 harg4 x2) (Rect.unit (s := S4x512x128) ![0, 0, 0] S1x512x128.size inb_S4x512x128_S1x512x128_0_0_0).toLoadRect) (arg37.view.readCov (kernelRun0_A.sl.HS15_8 (F := Ideal) c arg4 harg4 x2) (Rect.unit (s := S4x512x128) ![1, 0, 0] S1x512x128.size inb_S4x512x128_S1x512x128_1_0_0).toLoadRect) (arg37.view.readCov (kernelRun0_A.sl.HS15_8 (F := Ideal) c arg4 harg4 x2) (Rect.unit (s := S4x512x128) ![2, 0, 0] S1x512x128.size inb_S4x512x128_S1x512x128_2_0_0).toLoadRect) (arg37.view.readCov (kernelRun0_A.sl.HS15_8 (F := Ideal) c arg4 harg4 x2) (Rect.unit (s := S4x512x128) ![3, 0, 0] S1x512x128.size inb_S4x512x128_S1x512x128_3_0_0).toLoadRect))) (wg := (View.readAt (Elt Ideal) arg18.view (Rect.unit (s := S512x2048) ![0, 0] S512x2048.size inb_S512x2048_S512x2048_0_0).toLoadRect (harg18.unread x16))) (o := (arg30.view.readCov (kernelRun0_A.sl.HS8_32 (F := Ideal) c i arg2 harg2 arg3 harg3 arg5 harg5 arg6 harg6 arg7 harg7 arg8 harg8 arg9 harg9 arg10 harg10 arg11 harg11 arg22 arg25 arg26 arg27 arg28 arg29 x0 x1 x3 x4 x5 x6 x7 x8 x9) (Rect.unit (s := S512x1024) ![0, 0] S512x1024.size inb_S512x1024_S512x1024_0_0).toLoadRect)) (wrr := (View.readAt (Elt Ideal) arg12.view (Rect.unit (s := S1024x1024) ![0, 0] S1024x1024.size inb_S1024x1024_S1024x1024_0_0).toLoadRect (harg12.unread x10))) (woo := (View.readAt (Elt Ideal) arg19.view (Rect.unit (s := S1024x1024) ![0, 0] S1024x1024.size inb_S1024x1024_S1024x1024_0_0).toLoadRect (harg19.unread x17))) (gpp := (View.readAt (Elt Ideal) arg20.view (Rect.unit (s := S1x1024) ![0, 0] S1x1024.size inb_S1x1024_S1x1024_0_0).toLoadRect (harg20.unread x18))) (x := View.readAt (Elt Ideal) arg2.view (Rect.unit (s := S1x1024x1024) ![0, 512, 0] S1x256x1024.size inb_S1x1024x1024_S1x256x1024_0_512_0).toLoadRect (harg2.unread x0))
    (a1_m1 hx0 hx4 hx5) (a1_m2 hx0 hx4 hx5) (fun r j => gelu_of (a1_y hx2) r j) (fun j z => (ld2 j _).trans ((congrArg x16 (congrArg₂ ix2 (Fin.ext (Nat.zero_add _)) (Fin.ext (Nat.zero_add _)))).trans (hxa j z))) (fun j z => (ld2 j _).trans ((congrArg x16 (congrArg₂ ix2 (Fin.ext (Nat.zero_add _)) (Fin.ext (Nat.zero_add _)))).trans (hxb j z))) (rd2 (a1_g hx0 hx1 hx3 hx4 hx5 hx6 hx7 hx8 hx9 hn)) (fun j z => (ld2 j _).trans ((congrArg x10 (congrArg₂ ix2 (Fin.ext (Nat.zero_add _)) (Fin.ext (Nat.zero_add _)))).trans (hx10 j z))) (fun j z => (ld2 j _).trans ((congrArg x17 (congrArg₂ ix2 (Fin.ext (Nat.zero_add _)) (Fin.ext (Nat.zero_add _)))).trans (hx17 j z))) (fun k => (ld2 0 k).trans ((congrArg x18 (congrArg₂ ix2 (Fin.ext (Nat.zero_add _)) (Fin.ext (Nat.zero_add _)))).trans (hx18 k)))
    (fun r k => (ld3 0 r k).trans ((hx0 _ _).trans (congrArg₂ X ((congrArg (row n) (Nat.add_assoc 512 0 r.val)).trans (row_four _ _)) (Fin.ext (Nat.zero_add _))))) r z).trans ((outN_four _ _).symm.trans (congrArg (fun r => outN g w X P Y ga gb wr wo gp n r _) (Nat.add_assoc 512 0 r.val).symm)))
    (fun r z => (hi_of (n := (n + 4)) (m1 := (kernelRun0_A.sl.r_112 (F := Ideal) c arg2 harg2 arg6 harg6 arg7 harg7 arg25 x0 x4 x5)) (m2 := (kernelRun0_A.sl.r_114 (F := Ideal) c arg2 harg2 arg6 harg6 arg7 harg7 arg25 x0 x4 x5)) (y := (geOp (arg37.view.readCov (kernelRun0_A.sl.HS15_8 (F := Ideal) c arg4 harg4 x2) (Rect.unit (s := S4x512x128) ![0, 0, 0] S1x512x128.size inb_S4x512x128_S1x512x128_0_0_0).toLoadRect) (arg37.view.readCov (kernelRun0_A.sl.HS15_8 (F := Ideal) c arg4 harg4 x2) (Rect.unit (s := S4x512x128) ![1, 0, 0] S1x512x128.size inb_S4x512x128_S1x512x128_1_0_0).toLoadRect) (arg37.view.readCov (kernelRun0_A.sl.HS15_8 (F := Ideal) c arg4 harg4 x2) (Rect.unit (s := S4x512x128) ![2, 0, 0] S1x512x128.size inb_S4x512x128_S1x512x128_2_0_0).toLoadRect) (arg37.view.readCov (kernelRun0_A.sl.HS15_8 (F := Ideal) c arg4 harg4 x2) (Rect.unit (s := S4x512x128) ![3, 0, 0] S1x512x128.size inb_S4x512x128_S1x512x128_3_0_0).toLoadRect))) (wg := (View.readAt (Elt Ideal) arg18.view (Rect.unit (s := S512x2048) ![0, 0] S512x2048.size inb_S512x2048_S512x2048_0_0).toLoadRect (harg18.unread x16))) (o := (arg30.view.readCov (kernelRun0_A.sl.HS8_32 (F := Ideal) c i arg2 harg2 arg3 harg3 arg5 harg5 arg6 harg6 arg7 harg7 arg8 harg8 arg9 harg9 arg10 harg10 arg11 harg11 arg22 arg25 arg26 arg27 arg28 arg29 x0 x1 x3 x4 x5 x6 x7 x8 x9) (Rect.unit (s := S512x1024) ![0, 0] S512x1024.size inb_S512x1024_S512x1024_0_0).toLoadRect)) (wrr := (View.readAt (Elt Ideal) arg12.view (Rect.unit (s := S1024x1024) ![0, 0] S1024x1024.size inb_S1024x1024_S1024x1024_0_0).toLoadRect (harg12.unread x10))) (woo := (View.readAt (Elt Ideal) arg19.view (Rect.unit (s := S1024x1024) ![0, 0] S1024x1024.size inb_S1024x1024_S1024x1024_0_0).toLoadRect (harg19.unread x17))) (gpp := (View.readAt (Elt Ideal) arg20.view (Rect.unit (s := S1x1024) ![0, 0] S1x1024.size inb_S1x1024_S1x1024_0_0).toLoadRect (harg20.unread x18))) (x := View.readAt (Elt Ideal) arg2.view (Rect.unit (s := S1x1024x1024) ![0, 768, 0] S1x256x1024.size inb_S1x1024x1024_S1x256x1024_0_768_0).toLoadRect (harg2.unread x0))
    (a1_m1 hx0 hx4 hx5) (a1_m2 hx0 hx4 hx5) (fun r j => gelu_of (a1_y hx2) r j) (fun j z => (ld2 j _).trans ((congrArg x16 (congrArg₂ ix2 (Fin.ext (Nat.zero_add _)) (Fin.ext (Nat.zero_add _)))).trans (hxa j z))) (fun j z => (ld2 j _).trans ((congrArg x16 (congrArg₂ ix2 (Fin.ext (Nat.zero_add _)) (Fin.ext (Nat.zero_add _)))).trans (hxb j z))) (rd2 (a1_g hx0 hx1 hx3 hx4 hx5 hx6 hx7 hx8 hx9 hn)) (fun j z => (ld2 j _).trans ((congrArg x10 (congrArg₂ ix2 (Fin.ext (Nat.zero_add _)) (Fin.ext (Nat.zero_add _)))).trans (hx10 j z))) (fun j z => (ld2 j _).trans ((congrArg x17 (congrArg₂ ix2 (Fin.ext (Nat.zero_add _)) (Fin.ext (Nat.zero_add _)))).trans (hx17 j z))) (fun k => (ld2 0 k).trans ((congrArg x18 (congrArg₂ ix2 (Fin.ext (Nat.zero_add _)) (Fin.ext (Nat.zero_add _)))).trans (hx18 k)))
    (fun r k => (ld3 0 r k).trans ((hx0 _ _).trans (congrArg₂ X ((congrArg (row n) (Nat.add_assoc 512 256 r.val)).trans (row_four _ _)) (Fin.ext (Nat.zero_add _))))) r z).trans ((outN_four _ _).symm.trans (congrArg (fun r => outN g w X P Y ga gb wr wo gp n r _) (Nat.add_assoc 512 256 r.val).symm)))
include hx0 hx1 hx3 hx4 hx5 hx8 hx9 hn in
theorem a_stV : Cert.MixFrameIdeal.sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 = ar3 .f32 (stN g w X P (n + 8)) :=
  (View.read_writes_junk_eq_canon VS0_0 _).trans (a_st8 hx0 hx1 hx3 hx4 hx5 hx8 hx9 hn)
include hx0 hx1 hx2 hx3 hx4 hx5 hx6 hx7 hx8 hx9 hx10 hxa hxb hx17 hx18 hn in
theorem a_outV : Cert.MixFrameIdeal.out0_A_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 = ar3 .f32 (fun _ => outN g w X P Y ga gb wr wo gp n) :=
  (View.read_writes_junk_eq_canon VO0_19 _).trans (a_out hx0 hx1 hx2 hx3 hx4 hx5 hx6 hx7 hx8 hx9 hx10 hxa hxb hx17 hx18 hn)

end Cert.MixValue

end
-- ==== Proof.MixWordsB.lean ====
/- Hand-written, untrusted: THE BUFFERS OF A POINT OF THE MIXER SLICE, FROM THE STATE ON, after the start of a sequence. The windows'
   contents are given as functions of the arguments; each buffer that the body stores is then an array of the specification. -/
module

public import proofs.«01_k».proof.Proof.MixWords

@[expose] public section

noncomputable section

namespace Cert.MixValue

open Cert.MixIdeal Cert.MixIdeal.Gen Cert.Spec Idealize.ShloMosaic

variable {g : Fin 1024 → EReal} {w : Fin 1024 → Fin 5632 → EReal} {X : Fin 8192 → Fin 1024 → EReal} {P : Fin 8192 → EReal} {n : ℕ}
  {Y : Fin 8192 → Fin 512 → EReal} {ga gb : Fin 512 → Fin 1024 → EReal} {wr wo : Fin 1024 → Fin 1024 → EReal} {gp : Fin 1024 → EReal}

variable {c : Dev nD} {i : grid0.Coords}
  {arg2 : Memref sig .tc .vmem S1x1024x1024 .f32} {harg2 : arg2.IsWhole}
  {arg3 : Memref sig .tc .vmem S1x8x8x128 .f32} {harg3 : arg3.IsWhole}
  {arg4 : Memref sig .tc .vmem S1x1024x512 .f32} {harg4 : arg4.IsWhole}
  {arg5 : Memref sig .tc .vmem S128x1 .f32} {harg5 : arg5.IsWhole}
  {arg6 : Memref sig .tc .vmem S1x1024 .f32} {harg6 : arg6.IsWhole}
  {arg7 : Memref sig .tc .vmem S1024x5632 .bf16} {harg7 : arg7.IsWhole}
  {arg8 : Memref sig .tc .vmem S4x128x128 .f32} {harg8 : arg8.IsWhole}
  {arg9 : Memref sig .tc .vmem S4x128x256 .f32} {harg9 : arg9.IsWhole}
  {arg10 : Memref sig .tc .vmem S4x128x128 .f32} {harg10 : arg10.IsWhole}
  {arg11 : Memref sig .tc .vmem S4x1x256 .f32} {harg11 : arg11.IsWhole}
  {arg12 : Memref sig .tc .vmem S1024x1024 .bf16} {harg12 : arg12.IsWhole}
  {arg18 : Memref sig .tc .vmem S512x2048 .bf16} {harg18 : arg18.IsWhole}
  {arg19 : Memref sig .tc .vmem S1024x1024 .bf16} {harg19 : arg19.IsWhole}
  {arg20 : Memref sig .tc .vmem S1x1024 .f32} {harg20 : arg20.IsWhole}
  {arg22 : Memref sig .tc .vmem S4x128x256 .f32} {harg22 : arg22.IsWhole}
  {arg25 : Memref sig .tc .vmem S512x1024 .bf16}
  {arg26 : Memref sig .tc .vmem S512x512 .bf16}
  {arg27 : Memref sig .tc .vmem S512x512 .f32}
  {arg28 : Memref sig .tc .vmem S512x1024 .bf16}
  {arg29 : Memref sig .tc .vmem S512x1024 .bf16}
  {arg30 : Memref sig .tc .vmem S512x1024 .bf16}
  {arg37 : Memref sig .tc .vmem S4x512x128 .f32}
  {x0 : Vec Ideal S1x1024x1024 .f32}
  {x1 : Vec Ideal S1x8x8x128 .f32}
  {x2 : Vec Ideal S1x1024x512 .f32}
  {x3 : Vec Ideal S128x1 .f32}
  {x4 : Vec Ideal S1x1024 .f32}
  {x5 : Vec Ideal S1024x5632 .bf16}
  {x6 : Vec Ideal S4x128x128 .f32}
  {x7 : Vec Ideal S4x128x256 .f32}
  {x8 : Vec Ideal S4x128x128 .f32}
  {x9 : Vec Ideal S4x1x256 .f32}
  {x10 : Vec Ideal S1024x1024 .bf16}
  {x16 : Vec Ideal S512x2048 .bf16}
  {x17 : Vec Ideal S1024x1024 .bf16}
  {x18 : Vec Ideal S1x1024 .f32}
  (hx0 : ∀ r k : Fin 1024, x0 (ix3 0 r k) = X (row n r.val) k)
  (hx1 : ∀ (a : Fin 8) (l : Fin 128), x1 (ix4 0 (i 1) a l) = P (row n (128 * a.val + l.val)))
  (hx2 : ∀ (r : Fin 1024) (j : Fin 512), x2 (ix3 0 r j) = Y (row n r.val) j)
  (hx3 : ∀ d : Fin 128, x3 (ix2 d 0) = freq (d.val % 64)) (hx4 : ∀ k : Fin 1024, x4 (ix2 0 k) = g k)
  (hx5 : ∀ (k : Fin 1024) (j : Fin 5632), x5 (ix2 k j) = w k j)
  (hx6 : ∀ (h : Fin 4) (i j : Fin 128), x6 (ix3 h i j) = dec h.val i.val j.val)
  (hx7 : ∀ (h : Fin 4) (i : Fin 128) (e : Fin 256), x7 (ix3 h i e) = xi h.val i.val)
  (hx8 : ∀ (h : Fin 4) (i d : Fin 128), x8 (ix3 h i d) = zeta h.val i.val)
  (hx9 : ∀ (h : Fin 4) (e : Fin 256), x9 (ix3 h 0 e) = cdec h.val)
  (hx10 : ∀ j c : Fin 1024, x10 (ix2 j c) = wr j c)
  (hxa : ∀ (j : Fin 512) (c : Fin 1024), x16 (ix2 j ⟨c.val, Nat.lt_of_lt_of_le c.isLt (Nat.le_add_right 1024 1024)⟩) = ga j c)
  (hxb : ∀ (j : Fin 512) (c : Fin 1024), x16 (ix2 j ⟨1024 + c.val, Nat.add_lt_add_left c.isLt 1024⟩) = gb j c)
  (hx17 : ∀ j c : Fin 1024, x17 (ix2 j c) = wo j c) (hx18 : ∀ k : Fin 1024, x18 (ix2 0 k) = gp k)
  {xs0 : Vec Ideal S4x128x256 .f32} (hs : ∀ (h : Fin 4) (d : Fin 128) (e : Fin 256), xs0 (ix3 h d e) = stN g w X P n h.val d.val e.val)

/-! ## The buffers that the state does not meet, as at the start -/

include hx0 hx1 hx3 hx4 hx5 in
theorem b0_q : View.canon (kernelRun0_B.sl.HS4_4 (F := Ideal) c i arg2 harg2 arg3 harg3 arg5 harg5 arg6 harg6 arg7 harg7 arg25 x0 x1 x3 x4 x5) = ar .bf16 (qN g w X P n) :=
  a0_q hx0 hx1 hx3 hx4 hx5
include hx0 hx1 hx3 hx4 hx5 in
theorem b0_k : View.canon (kernelRun0_B.sl.HS5_4 (F := Ideal) c i arg2 harg2 arg3 harg3 arg5 harg5 arg6 harg6 arg7 harg7 arg25 x0 x1 x3 x4 x5) = ar .f32 (kN g w X P n) :=
  a0_k hx0 hx1 hx3 hx4 hx5
include hx0 hx4 hx5 in
theorem b0_v : View.canon (kernelRun0_B.sl.HS6_1 (F := Ideal) c arg2 harg2 arg6 harg6 arg7 harg7 arg25 x0 x4 x5) = ar .bf16 (vN g w X n) :=
  a0_v hx0 hx4 hx5
include hx0 hx4 hx5 in
theorem b0_s : View.canon (kernelRun0_B.sl.HS7_1 (F := Ideal) c arg2 harg2 arg6 harg6 arg7 harg7 arg25 x0 x4 x5) = ar .bf16 (sN g w X n) :=
  a0_s hx0 hx4 hx5
include hx0 hx1 hx3 hx4 hx5 in
theorem b1_q : View.canon (kernelRun0_B.sl.HS4_8 (F := Ideal) c i arg2 harg2 arg3 harg3 arg5 harg5 arg6 harg6 arg7 harg7 arg25 x0 x1 x3 x4 x5) = ar .bf16 (qN g w X P (n + 4)) :=
  a1_q hx0 hx1 hx3 hx4 hx5
include hx0 hx1 hx3 hx4 hx5 in
theorem b1_k : View.canon (kernelRun0_B.sl.HS5_8 (F := Ideal) c i arg2 harg2 arg3 harg3 arg5 harg5 arg6 harg6 arg7 harg7 arg25 x0 x1 x3 x4 x5) = ar .f32 (kN g w X P (n + 4)) :=
  a1_k hx0 hx1 hx3 hx4 hx5
include hx0 hx4 hx5 in
theorem b1_v : View.canon (kernelRun0_B.sl.HS6_2 (F := Ideal) c arg2 harg2 arg6 harg6 arg7 harg7 arg25 x0 x4 x5) = ar .bf16 (vN g w X (n + 4)) :=
  a1_v hx0 hx4 hx5
include hx0 hx4 hx5 in
theorem b1_s : View.canon (kernelRun0_B.sl.HS7_2 (F := Ideal) c arg2 harg2 arg6 harg6 arg7 harg7 arg25 x0 x4 x5) = ar .bf16 (sN g w X (n + 4)) :=
  a1_s hx0 hx4 hx5

/-! ## The state after each chunk -/

include hx0 hx1 hx3 hx4 hx5 hx8 hx9 hs in
theorem b_st1 : View.canon (kernelRun0_B.sl.HS0_4 (F := Ideal) c i arg2 harg2 arg3 harg3 arg5 harg5 arg6 harg6 arg7 harg7 arg10 harg10 arg11 harg11 arg22 harg22 arg25 arg27 arg28 x0 x1 x3 x4 x5 x8 x9 xs0) = ar3 .f32 (stN g w X P (n + 1)) :=
  canon_st (n := n) (c := 0) (mk := arg27.view) (LK := (kernelRun0_B.sl.HS5_4 (F := Ideal) c i arg2 harg2 arg3 harg3 arg5 harg5 arg6 harg6 arg7 harg7 arg25 x0 x1 x3 x4 x5)) (mv := arg28.view) (LV := (kernelRun0_B.sl.HS6_1 (F := Ideal) c arg2 harg2 arg6 harg6 arg7 harg7 arg25 x0 x4 x5)) (mz := arg10) (iz := harg10) (mc := arg11) (ic := harg11) (s0 := View.readAt (Elt Ideal) arg22.view (Rect.unit (s := S4x128x256) ![0, 0, 0] S1x128x256.size inb_S4x128x256_S1x128x256_0_0_0).toLoadRect (harg22.unread xs0)) (s1 := View.readAt (Elt Ideal) arg22.view (Rect.unit (s := S4x128x256) ![1, 0, 0] S1x128x256.size inb_S4x128x256_S1x128x256_1_0_0).toLoadRect (harg22.unread xs0)) (s2 := View.readAt (Elt Ideal) arg22.view (Rect.unit (s := S4x128x256) ![2, 0, 0] S1x128x256.size inb_S4x128x256_S1x128x256_2_0_0).toLoadRect (harg22.unread xs0)) (s3 := View.readAt (Elt Ideal) arg22.view (Rect.unit (s := S4x128x256) ![3, 0, 0] S1x128x256.size inb_S4x128x256_S1x128x256_3_0_0).toLoadRect (harg22.unread xs0))
    (b0_k hx0 hx1 hx3 hx4 hx5) (b0_v hx0 hx4 hx5) hx8 hx9 (fun i d e => (ld3 i d e).trans (hs _ _ _)) (fun i d e => (ld3 i d e).trans (hs _ _ _)) (fun i d e => (ld3 i d e).trans (hs _ _ _)) (fun i d e => (ld3 i d e).trans (hs _ _ _)) (by decide)
include hx0 hx1 hx3 hx4 hx5 hx8 hx9 hs in
theorem b_st2 : View.canon (kernelRun0_B.sl.HS0_8 (F := Ideal) c i arg2 harg2 arg3 harg3 arg5 harg5 arg6 harg6 arg7 harg7 arg10 harg10 arg11 harg11 arg22 harg22 arg25 arg27 arg28 x0 x1 x3 x4 x5 x8 x9 xs0) = ar3 .f32 (stN g w X P (n + 2)) :=
  canon_st (n := n) (c := 1) (mk := arg27.view) (LK := (kernelRun0_B.sl.HS5_4 (F := Ideal) c i arg2 harg2 arg3 harg3 arg5 harg5 arg6 harg6 arg7 harg7 arg25 x0 x1 x3 x4 x5)) (mv := arg28.view) (LV := (kernelRun0_B.sl.HS6_1 (F := Ideal) c arg2 harg2 arg6 harg6 arg7 harg7 arg25 x0 x4 x5)) (mz := arg10) (iz := harg10) (mc := arg11) (ic := harg11) (s0 := arg22.view.readCov (kernelRun0_B.sl.HS0_4 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect) (s1 := arg22.view.readCov (kernelRun0_B.sl.HS0_4 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect) (s2 := arg22.view.readCov (kernelRun0_B.sl.HS0_4 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect) (s3 := arg22.view.readCov (kernelRun0_B.sl.HS0_4 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (b0_k hx0 hx1 hx3 hx4 hx5) (b0_v hx0 hx4 hx5) hx8 hx9 (rd3 (b_st1 hx0 hx1 hx3 hx4 hx5 hx8 hx9 hs)) (rd3 (b_st1 hx0 hx1 hx3 hx4 hx5 hx8 hx9 hs)) (rd3 (b_st1 hx0 hx1 hx3 hx4 hx5 hx8 hx9 hs)) (rd3 (b_st1 hx0 hx1 hx3 hx4 hx5 hx8 hx9 hs)) (by decide)
include hx0 hx1 hx3 hx4 hx5 hx8 hx9 hs in
theorem b_st3 : View.canon (kernelRun0_B.sl.HS0_12 (F := Ideal) c i arg2 harg2 arg3 harg3 arg5 harg5 arg6 harg6 arg7 harg7 arg10 harg10 arg11 harg11 arg22 harg22 arg25 arg27 arg28 x0 x1 x3 x4 x5 x8 x9 xs0) = ar3 .f32 (stN g w X P (n + 3)) :=
  canon_st (n := n) (c := 2) (mk := arg27.view) (LK := (kernelRun0_B.sl.HS5_4 (F := Ideal) c i arg2 harg2 arg3 harg3 arg5 harg5 arg6 harg6 arg7 harg7 arg25 x0 x1 x3 x4 x5)) (mv := arg28.view) (LV := (kernelRun0_B.sl.HS6_1 (F := Ideal) c arg2 harg2 arg6 harg6 arg7 harg7 arg25 x0 x4 x5)) (mz := arg10) (iz := harg10) (mc := arg11) (ic := harg11) (s0 := arg22.view.readCov (kernelRun0_B.sl.HS0_8 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect) (s1 := arg22.view.readCov (kernelRun0_B.sl.HS0_8 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect) (s2 := arg22.view.readCov (kernelRun0_B.sl.HS0_8 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect) (s3 := arg22.view.readCov (kernelRun0_B.sl.HS0_8 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (b0_k hx0 hx1 hx3 hx4 hx5) (b0_v hx0 hx4 hx5) hx8 hx9 (rd3 (b_st2 hx0 hx1 hx3 hx4 hx5 hx8 hx9 hs)) (rd3 (b_st2 hx0 hx1 hx3 hx4 hx5 hx8 hx9 hs)) (rd3 (b_st2 hx0 hx1 hx3 hx4 hx5 hx8 hx9 hs)) (rd3 (b_st2 hx0 hx1 hx3 hx4 hx5 hx8 hx9 hs)) (by decide)
include hx0 hx1 hx3 hx4 hx5 hx8 hx9 hs in
theorem b_st4 : View.canon (kernelRun0_B.sl.HS0_16 (F := Ideal) c i arg2 harg2 arg3 harg3 arg5 harg5 arg6 harg6 arg7 harg7 arg10 harg10 arg11 harg11 arg22 harg22 arg25 arg27 arg28 x0 x1 x3 x4 x5 x8 x9 xs0) = ar3 .f32 (stN g w X P (n + 4)) :=
  canon_st (n := n) (c := 3) (mk := arg27.view) (LK := (kernelRun0_B.sl.HS5_4 (F := Ideal) c i arg2 harg2 arg3 harg3 arg5 harg5 arg6 harg6 arg7 harg7 arg25 x0 x1 x3 x4 x5)) (mv := arg28.view) (LV := (kernelRun0_B.sl.HS6_1 (F := Ideal) c arg2 harg2 arg6 harg6 arg7 harg7 arg25 x0 x4 x5)) (mz := arg10) (iz := harg10) (mc := arg11) (ic := harg11) (s0 := arg22.view.readCov (kernelRun0_B.sl.HS0_12 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect) (s1 := arg22.view.readCov (kernelRun0_B.sl.HS0_12 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect) (s2 := arg22.view.readCov (kernelRun0_B.sl.HS0_12 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect) (s3 := arg22.view.readCov (kernelRun0_B.sl.HS0_12 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (b0_k hx0 hx1 hx3 hx4 hx5) (b0_v hx0 hx4 hx5) hx8 hx9 (rd3 (b_st3 hx0 hx1 hx3 hx4 hx5 hx8 hx9 hs)) (rd3 (b_st3 hx0 hx1 hx3 hx4 hx5 hx8 hx9 hs)) (rd3 (b_st3 hx0 hx1 hx3 hx4 hx5 hx8 hx9 hs)) (rd3 (b_st3 hx0 hx1 hx3 hx4 hx5 hx8 hx9 hs)) (by decide)
include hx0 hx1 hx3 hx4 hx5 hx8 hx9 hs in
theorem b_st5 : View.canon (kernelRun0_B.sl.HS0_20 (F := Ideal) c i arg2 harg2 arg3 harg3 arg5 harg5 arg6 harg6 arg7 harg7 arg10 harg10 arg11 harg11 arg22 harg22 arg25 arg27 arg28 x0 x1 x3 x4 x5 x8 x9 xs0) = ar3 .f32 (stN g w X P (n + 5)) :=
  canon_st (n := (n + 4)) (c := 0) (mk := arg27.view) (LK := (kernelRun0_B.sl.HS5_8 (F := Ideal) c i arg2 harg2 arg3 harg3 arg5 harg5 arg6 harg6 arg7 harg7 arg25 x0 x1 x3 x4 x5)) (mv := arg28.view) (LV := (kernelRun0_B.sl.HS6_2 (F := Ideal) c arg2 harg2 arg6 harg6 arg7 harg7 arg25 x0 x4 x5)) (mz := arg10) (iz := harg10) (mc := arg11) (ic := harg11) (s0 := arg22.view.readCov (kernelRun0_B.sl.HS0_16 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect) (s1 := arg22.view.readCov (kernelRun0_B.sl.HS0_16 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect) (s2 := arg22.view.readCov (kernelRun0_B.sl.HS0_16 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect) (s3 := arg22.view.readCov (kernelRun0_B.sl.HS0_16 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (b1_k hx0 hx1 hx3 hx4 hx5) (b1_v hx0 hx4 hx5) hx8 hx9 (rd3 (b_st4 hx0 hx1 hx3 hx4 hx5 hx8 hx9 hs)) (rd3 (b_st4 hx0 hx1 hx3 hx4 hx5 hx8 hx9 hs)) (rd3 (b_st4 hx0 hx1 hx3 hx4 hx5 hx8 hx9 hs)) (rd3 (b_st4 hx0 hx1 hx3 hx4 hx5 hx8 hx9 hs)) (by decide)
include hx0 hx1 hx3 hx4 hx5 hx8 hx9 hs in
theorem b_st6 : View.canon (kernelRun0_B.sl.HS0_24 (F := Ideal) c i arg2 harg2 arg3 harg3 arg5 harg5 arg6 harg6 arg7 harg7 arg10 harg10 arg11 harg11 arg22 harg22 arg25 arg27 arg28 x0 x1 x3 x4 x5 x8 x9 xs0) = ar3 .f32 (stN g w X P (n + 6)) :=
  canon_st (n := (n + 4)) (c := 1) (mk := arg27.view) (LK := (kernelRun0_B.sl.HS5_8 (F := Ideal) c i arg2 harg2 arg3 harg3 arg5 harg5 arg6 harg6 arg7 harg7 arg25 x0 x1 x3 x4 x5)) (mv := arg28.view) (LV := (kernelRun0_B.sl.HS6_2 (F := Ideal) c arg2 harg2 arg6 harg6 arg7 harg7 arg25 x0 x4 x5)) (mz := arg10) (iz := harg10) (mc := arg11) (ic := harg11) (s0 := arg22.view.readCov (kernelRun0_B.sl.HS0_20 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect) (s1 := arg22.view.readCov (kernelRun0_B.sl.HS0_20 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect) (s2 := arg22.view.readCov (kernelRun0_B.sl.HS0_20 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect) (s3 := arg22.view.readCov (kernelRun0_B.sl.HS0_20 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (b1_k hx0 hx1 hx3 hx4 hx5) (b1_v hx0 hx4 hx5) hx8 hx9 (rd3 (b_st5 hx0 hx1 hx3 hx4 hx5 hx8 hx9 hs)) (rd3 (b_st5 hx0 hx1 hx3 hx4 hx5 hx8 hx9 hs)) (rd3 (b_st5 hx0 hx1 hx3 hx4 hx5 hx8 hx9 hs)) (rd3 (b_st5 hx0 hx1 hx3 hx4 hx5 hx8 hx9 hs)) (by decide)
include hx0 hx1 hx3 hx4 hx5 hx8 hx9 hs in
theorem b_st7 : View.canon (kernelRun0_B.sl.HS0_28 (F := Ideal) c i arg2 harg2 arg3 harg3 arg5 harg5 arg6 harg6 arg7 harg7 arg10 harg10 arg11 harg11 arg22 harg22 arg25 arg27 arg28 x0 x1 x3 x4 x5 x8 x9 xs0) = ar3 .f32 (stN g w X P (n + 7)) :=
  canon_st (n := (n + 4)) (c := 2) (mk := arg27.view) (LK := (kernelRun0_B.sl.HS5_8 (F := Ideal) c i arg2 harg2 arg3 harg3 arg5 harg5 arg6 harg6 arg7 harg7 arg25 x0 x1 x3 x4 x5)) (mv := arg28.view) (LV := (kernelRun0_B.sl.HS6_2 (F := Ideal) c arg2 harg2 arg6 harg6 arg7 harg7 arg25 x0 x4 x5)) (mz := arg10) (iz := harg10) (mc := arg11) (ic := harg11) (s0 := arg22.view.readCov (kernelRun0_B.sl.HS0_24 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect) (s1 := arg22.view.readCov (kernelRun0_B.sl.HS0_24 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect) (s2 := arg22.view.readCov (kernelRun0_B.sl.HS0_24 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect) (s3 := arg22.view.readCov (kernelRun0_B.sl.HS0_24 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (b1_k hx0 hx1 hx3 hx4 hx5) (b1_v hx0 hx4 hx5) hx8 hx9 (rd3 (b_st6 hx0 hx1 hx3 hx4 hx5 hx8 hx9 hs)) (rd3 (b_st6 hx0 hx1 hx3 hx4 hx5 hx8 hx9 hs)) (rd3 (b_st6 hx0 hx1 hx3 hx4 hx5 hx8 hx9 hs)) (rd3 (b_st6 hx0 hx1 hx3 hx4 hx5 hx8 hx9 hs)) (by decide)

/-! ## The gated retention -/

include hx0 hx1 hx3 hx4 hx5 hx6 hx7 hx8 hx9 hs in
theorem b0_g : View.canon (kernelRun0_B.sl.HS8_16 (F := Ideal) c i arg2 harg2 arg3 harg3 arg5 harg5 arg6 harg6 arg7 harg7 arg8 harg8 arg9 harg9 arg10 harg10 arg11 harg11 arg22 harg22 arg25 arg26 arg27 arg28 arg29 x0 x1 x3 x4 x5 x6 x7 x8 x9 xs0) = ar .bf16 (gN g w X P n) :=
  canon_g (n := n) (mq := arg26.view) (LQ := (kernelRun0_B.sl.HS4_4 (F := Ideal) c i arg2 harg2 arg3 harg3 arg5 harg5 arg6 harg6 arg7 harg7 arg25 x0 x1 x3 x4 x5)) (mk := arg27.view) (LK := (kernelRun0_B.sl.HS5_4 (F := Ideal) c i arg2 harg2 arg3 harg3 arg5 harg5 arg6 harg6 arg7 harg7 arg25 x0 x1 x3 x4 x5)) (mv := arg28.view) (LV := (kernelRun0_B.sl.HS6_1 (F := Ideal) c arg2 harg2 arg6 harg6 arg7 harg7 arg25 x0 x4 x5)) (ms := arg29.view) (LS := (kernelRun0_B.sl.HS7_1 (F := Ideal) c arg2 harg2 arg6 harg6 arg7 harg7 arg25 x0 x4 x5)) (md := arg8) (id := harg8) (mx := arg9) (ix := harg9)
    (s00 := View.readAt (Elt Ideal) arg22.view (Rect.unit (s := S4x128x256) ![0, 0, 0] S1x128x256.size inb_S4x128x256_S1x128x256_0_0_0).toLoadRect (harg22.unread xs0))
    (s01 := View.readAt (Elt Ideal) arg22.view (Rect.unit (s := S4x128x256) ![1, 0, 0] S1x128x256.size inb_S4x128x256_S1x128x256_1_0_0).toLoadRect (harg22.unread xs0))
    (s02 := View.readAt (Elt Ideal) arg22.view (Rect.unit (s := S4x128x256) ![2, 0, 0] S1x128x256.size inb_S4x128x256_S1x128x256_2_0_0).toLoadRect (harg22.unread xs0))
    (s03 := View.readAt (Elt Ideal) arg22.view (Rect.unit (s := S4x128x256) ![3, 0, 0] S1x128x256.size inb_S4x128x256_S1x128x256_3_0_0).toLoadRect (harg22.unread xs0))
    (s10 := arg22.view.readCov (kernelRun0_B.sl.HS0_4 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect)
    (s11 := arg22.view.readCov (kernelRun0_B.sl.HS0_4 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect)
    (s12 := arg22.view.readCov (kernelRun0_B.sl.HS0_4 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect)
    (s13 := arg22.view.readCov (kernelRun0_B.sl.HS0_4 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (s20 := arg22.view.readCov (kernelRun0_B.sl.HS0_8 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect)
    (s21 := arg22.view.readCov (kernelRun0_B.sl.HS0_8 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect)
    (s22 := arg22.view.readCov (kernelRun0_B.sl.HS0_8 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect)
    (s23 := arg22.view.readCov (kernelRun0_B.sl.HS0_8 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (s30 := arg22.view.readCov (kernelRun0_B.sl.HS0_12 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect)
    (s31 := arg22.view.readCov (kernelRun0_B.sl.HS0_12 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect)
    (s32 := arg22.view.readCov (kernelRun0_B.sl.HS0_12 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect)
    (s33 := arg22.view.readCov (kernelRun0_B.sl.HS0_12 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (b0_q hx0 hx1 hx3 hx4 hx5) (b0_k hx0 hx1 hx3 hx4 hx5) (b0_v hx0 hx4 hx5) (b0_s hx0 hx4 hx5) hx6 hx7
    (fun i d e => (ld3 i d e).trans (hs _ _ _)) (fun i d e => (ld3 i d e).trans (hs _ _ _)) (fun i d e => (ld3 i d e).trans (hs _ _ _)) (fun i d e => (ld3 i d e).trans (hs _ _ _)) (rd3 (b_st1 hx0 hx1 hx3 hx4 hx5 hx8 hx9 hs)) (rd3 (b_st1 hx0 hx1 hx3 hx4 hx5 hx8 hx9 hs)) (rd3 (b_st1 hx0 hx1 hx3 hx4 hx5 hx8 hx9 hs)) (rd3 (b_st1 hx0 hx1 hx3 hx4 hx5 hx8 hx9 hs)) (rd3 (b_st2 hx0 hx1 hx3 hx4 hx5 hx8 hx9 hs)) (rd3 (b_st2 hx0 hx1 hx3 hx4 hx5 hx8 hx9 hs)) (rd3 (b_st2 hx0 hx1 hx3 hx4 hx5 hx8 hx9 hs)) (rd3 (b_st2 hx0 hx1 hx3 hx4 hx5 hx8 hx9 hs)) (rd3 (b_st3 hx0 hx1 hx3 hx4 hx5 hx8 hx9 hs)) (rd3 (b_st3 hx0 hx1 hx3 hx4 hx5 hx8 hx9 hs)) (rd3 (b_st3 hx0 hx1 hx3 hx4 hx5 hx8 hx9 hs)) (rd3 (b_st3 hx0 hx1 hx3 hx4 hx5 hx8 hx9 hs))
include hx0 hx1 hx3 hx4 hx5 hx6 hx7 hx8 hx9 hs in
theorem b1_g : View.canon (kernelRun0_B.sl.HS8_32 (F := Ideal) c i arg2 harg2 arg3 harg3 arg5 harg5 arg6 harg6 arg7 harg7 arg8 harg8 arg9 harg9 arg10 harg10 arg11 harg11 arg22 harg22 arg25 arg26 arg27 arg28 arg29 x0 x1 x3 x4 x5 x6 x7 x8 x9 xs0) = ar .bf16 (gN g w X P (n + 4)) :=
  canon_g (n := (n + 4)) (mq := arg26.view) (LQ := (kernelRun0_B.sl.HS4_8 (F := Ideal) c i arg2 harg2 arg3 harg3 arg5 harg5 arg6 harg6 arg7 harg7 arg25 x0 x1 x3 x4 x5)) (mk := arg27.view) (LK := (kernelRun0_B.sl.HS5_8 (F := Ideal) c i arg2 harg2 arg3 harg3 arg5 harg5 arg6 harg6 arg7 harg7 arg25 x0 x1 x3 x4 x5)) (mv := arg28.view) (LV := (kernelRun0_B.sl.HS6_2 (F := Ideal) c arg2 harg2 arg6 harg6 arg7 harg7 arg25 x0 x4 x5)) (ms := arg29.view) (LS := (kernelRun0_B.sl.HS7_2 (F := Ideal) c arg2 harg2 arg6 harg6 arg7 harg7 arg25 x0 x4 x5)) (md := arg8) (id := harg8) (mx := arg9) (ix := harg9)
    (s00 := arg22.view.readCov (kernelRun0_B.sl.HS0_16 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect)
    (s01 := arg22.view.readCov (kernelRun0_B.sl.HS0_16 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect)
    (s02 := arg22.view.readCov (kernelRun0_B.sl.HS0_16 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect)
    (s03 := arg22.view.readCov (kernelRun0_B.sl.HS0_16 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (s10 := arg22.view.readCov (kernelRun0_B.sl.HS0_20 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect)
    (s11 := arg22.view.readCov (kernelRun0_B.sl.HS0_20 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect)
    (s12 := arg22.view.readCov (kernelRun0_B.sl.HS0_20 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect)
    (s13 := arg22.view.readCov (kernelRun0_B.sl.HS0_20 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (s20 := arg22.view.readCov (kernelRun0_B.sl.HS0_24 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect)
    (s21 := arg22.view.readCov (kernelRun0_B.sl.HS0_24 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect)
    (s22 := arg22.view.readCov (kernelRun0_B.sl.HS0_24 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect)
    (s23 := arg22.view.readCov (kernelRun0_B.sl.HS0_24 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (s30 := arg22.view.readCov (kernelRun0_B.sl.HS0_28 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect)
    (s31 := arg22.view.readCov (kernelRun0_B.sl.HS0_28 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect)
    (s32 := arg22.view.readCov (kernelRun0_B.sl.HS0_28 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect)
    (s33 := arg22.view.readCov (kernelRun0_B.sl.HS0_28 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (b1_q hx0 hx1 hx3 hx4 hx5) (b1_k hx0 hx1 hx3 hx4 hx5) (b1_v hx0 hx4 hx5) (b1_s hx0 hx4 hx5) hx6 hx7
    (rd3 (b_st4 hx0 hx1 hx3 hx4 hx5 hx8 hx9 hs)) (rd3 (b_st4 hx0 hx1 hx3 hx4 hx5 hx8 hx9 hs)) (rd3 (b_st4 hx0 hx1 hx3 hx4 hx5 hx8 hx9 hs)) (rd3 (b_st4 hx0 hx1 hx3 hx4 hx5 hx8 hx9 hs)) (rd3 (b_st5 hx0 hx1 hx3 hx4 hx5 hx8 hx9 hs)) (rd3 (b_st5 hx0 hx1 hx3 hx4 hx5 hx8 hx9 hs)) (rd3 (b_st5 hx0 hx1 hx3 hx4 hx5 hx8 hx9 hs)) (rd3 (b_st5 hx0 hx1 hx3 hx4 hx5 hx8 hx9 hs)) (rd3 (b_st6 hx0 hx1 hx3 hx4 hx5 hx8 hx9 hs)) (rd3 (b_st6 hx0 hx1 hx3 hx4 hx5 hx8 hx9 hs)) (rd3 (b_st6 hx0 hx1 hx3 hx4 hx5 hx8 hx9 hs)) (rd3 (b_st6 hx0 hx1 hx3 hx4 hx5 hx8 hx9 hs)) (rd3 (b_st7 hx0 hx1 hx3 hx4 hx5 hx8 hx9 hs)) (rd3 (b_st7 hx0 hx1 hx3 hx4 hx5 hx8 hx9 hs)) (rd3 (b_st7 hx0 hx1 hx3 hx4 hx5 hx8 hx9 hs)) (rd3 (b_st7 hx0 hx1 hx3 hx4 hx5 hx8 hx9 hs))

/-! ## What the point leaves -/

variable
  {arg13 : Memref sig .tc .vmem S32x128x128 .bf16} {harg13 : arg13.IsWhole}
  {arg14 : Memref sig .tc .vmem S32x128x128 .bf16} {harg14 : arg14.IsWhole}
  {arg15 : Memref sig .tc .vmem S32x128x128 .bf16} {harg15 : arg15.IsWhole}
  {arg16 : Memref sig .tc .vmem S32x128 .f32} {harg16 : arg16.IsWhole}
  {arg17 : Memref sig .tc .vmem S32x128 .f32} {harg17 : arg17.IsWhole}
  {arg21 : Memref sig .tc .vmem S1x1024x1024 .f32} {harg21 : arg21.IsWhole}
  {arg23 : Memref sig .tc .vmem S32x128 .f32} {harg23 : arg23.IsWhole}
  {arg24 : Memref sig .tc .vmem S32x128 .f32} {harg24 : arg24.IsWhole}
  {arg31 : Memref sig .tc .vmem S4x512x128 .f32} {harg31 : arg31.IsWhole}
  {arg32 : Memref sig .tc .vmem S32x64x128 .bf16} {harg32 : arg32.IsWhole}
  {arg33 : Memref sig .tc .vmem S2176x128 .f32} {harg33 : arg33.IsWhole}
  {arg34 : Memref sig .tc .vmem S2176x128 .f32} {harg34 : arg34.IsWhole}
  {arg35 : Memref sig .tc .vmem S2176x128 .f32} {harg35 : arg35.IsWhole}
  {arg36 : Memref sig .tc .vmem S32x64x128 .f32} {harg36 : arg36.IsWhole}
  {harg25 : arg25.IsWhole}
  {harg26 : arg26.IsWhole}
  {harg27 : arg27.IsWhole}
  {harg28 : arg28.IsWhole}
  {harg29 : arg29.IsWhole}
  {harg30 : arg30.IsWhole}
  {harg37 : arg37.IsWhole}
  {x11 : Vec Ideal S32x128x128 .bf16}
  {x12 : Vec Ideal S32x128x128 .bf16}
  {x13 : Vec Ideal S32x128x128 .bf16}
  {x14 : Vec Ideal S32x128 .f32}
  {x15 : Vec Ideal S32x128 .f32}
  {hc0 : ¬cond0_0 i}

include hx0 hx1 hx3 hx4 hx5 hx8 hx9 hs in
theorem b_st8 : View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 xs0).2.1 = ar3 .f32 (stN g w X P (n + 8)) :=
  canon_st (n := (n + 4)) (c := 3) (mk := arg27.view) (LK := (kernelRun0_B.sl.HS5_8 (F := Ideal) c i arg2 harg2 arg3 harg3 arg5 harg5 arg6 harg6 arg7 harg7 arg25 x0 x1 x3 x4 x5)) (mv := arg28.view) (LV := (kernelRun0_B.sl.HS6_2 (F := Ideal) c arg2 harg2 arg6 harg6 arg7 harg7 arg25 x0 x4 x5)) (mz := arg10) (iz := harg10) (mc := arg11) (ic := harg11) (s0 := arg22.view.readCov (kernelRun0_B.sl.HS0_28 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![0, 0, 0] S1x128x256.size inb_S4x128x256_S1x128x256_0_0_0).toLoadRect) (s1 := arg22.view.readCov (kernelRun0_B.sl.HS0_28 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![1, 0, 0] S1x128x256.size inb_S4x128x256_S1x128x256_1_0_0).toLoadRect) (s2 := arg22.view.readCov (kernelRun0_B.sl.HS0_28 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![2, 0, 0] S1x128x256.size inb_S4x128x256_S1x128x256_2_0_0).toLoadRect) (s3 := arg22.view.readCov (kernelRun0_B.sl.HS0_28 (F := Ideal) c i arg2 harg2 arg3 harg3 arg5 harg5 arg6 harg6 arg7 harg7 arg10 harg10 arg11 harg11 arg22 harg22 arg25 arg27 arg28 x0 x1 x3 x4 x5 x8 x9 xs0) (Rect.unit (s := S4x128x256) ![3, 0, 0] S1x128x256.size inb_S4x128x256_S1x128x256_3_0_0).toLoadRect)
    (b1_k hx0 hx1 hx3 hx4 hx5) (b1_v hx0 hx4 hx5) hx8 hx9 (rd3 (b_st7 hx0 hx1 hx3 hx4 hx5 hx8 hx9 hs)) (rd3 (b_st7 hx0 hx1 hx3 hx4 hx5 hx8 hx9 hs)) (rd3 (b_st7 hx0 hx1 hx3 hx4 hx5 hx8 hx9 hs)) (rd3 (b_st7 hx0 hx1 hx3 hx4 hx5 hx8 hx9 hs)) (by decide)
include hx0 hx1 hx2 hx3 hx4 hx5 hx6 hx7 hx8 hx9 hx10 hxa hxb hx17 hx18 hs in
theorem b_out : View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 xs0).1 = ar3 .f32 (fun _ => outN g w X P Y ga gb wr wo gp n) :=
  canon_out (f := fun _ => outN g w X P Y ga gb wr wo gp n)
    (fun r z => lo_of (n := n) (m1 := (kernelRun0_A.sl.r_13 (F := Ideal) c arg2 harg2 arg6 harg6 arg7 harg7 arg25 x0 x4 x5)) (m2 := (kernelRun0_A.sl.r_14 (F := Ideal) c arg2 harg2 arg6 harg6 arg7 harg7 arg25 x0 x4 x5)) (y := (geOp (arg37.view.readCov (kernelRun0_A.sl.HS15_4 (F := Ideal) c arg4 harg4 x2) (Rect.unit (s := S4x512x128) ![0, 0, 0] S1x512x128.size inb_S4x512x128_S1x512x128_0_0_0).toLoadRect) (arg37.view.readCov (kernelRun0_A.sl.HS15_4 (F := Ideal) c arg4 harg4 x2) (Rect.unit (s := S4x512x128) ![1, 0, 0] S1x512x128.size inb_S4x512x128_S1x512x128_1_0_0).toLoadRect) (arg37.view.readCov (kernelRun0_A.sl.HS15_4 (F := Ideal) c arg4 harg4 x2) (Rect.unit (s := S4x512x128) ![2, 0, 0] S1x512x128.size inb_S4x512x128_S1x512x128_2_0_0).toLoadRect) (arg37.view.readCov (kernelRun0_A.sl.HS15_4 (F := Ideal) c arg4 harg4 x2) (Rect.unit (s := S4x512x128) ![3, 0, 0] S1x512x128.size inb_S4x512x128_S1x512x128_3_0_0).toLoadRect))) (wg := (View.readAt (Elt Ideal) arg18.view (Rect.unit (s := S512x2048) ![0, 0] S512x2048.size inb_S512x2048_S512x2048_0_0).toLoadRect (harg18.unread x16))) (o := (arg30.view.readCov (kernelRun0_B.sl.HS8_16 (F := Ideal) c i arg2 harg2 arg3 harg3 arg5 harg5 arg6 harg6 arg7 harg7 arg8 harg8 arg9 harg9 arg10 harg10 arg11 harg11 arg22 harg22 arg25 arg26 arg27 arg28 arg29 x0 x1 x3 x4 x5 x6 x7 x8 x9 xs0) (Rect.unit (s := S512x1024) ![0, 0] S512x1024.size inb_S512x1024_S512x1024_0_0).toLoadRect)) (wrr := (View.readAt (Elt Ideal) arg12.view (Rect.unit (s := S1024x1024) ![0, 0] S1024x1024.size inb_S1024x1024_S1024x1024_0_0).toLoadRect (harg12.unread x10))) (woo := (View.readAt (Elt Ideal) arg19.view (Rect.unit (s := S1024x1024) ![0, 0] S1024x1024.size inb_S1024x1024_S1024x1024_0_0).toLoadRect (harg19.unread x17))) (gpp := (View.readAt (Elt Ideal) arg20.view (Rect.unit (s := S1x1024) ![0, 0] S1x1024.size inb_S1x1024_S1x1024_0_0).toLoadRect (harg20.unread x18))) (x := View.readAt (Elt Ideal) arg2.view (Rect.unit (s := S1x1024x1024) ![0, 0, 0] S1x256x1024.size inb_S1x1024x1024_S1x256x1024_0_0_0).toLoadRect (harg2.unread x0))
    (a0_m1 hx0 hx4 hx5) (a0_m2 hx0 hx4 hx5) (fun r j => gelu_of (a0_y hx2) r j) (fun j z => (ld2 j _).trans ((congrArg x16 (congrArg₂ ix2 (Fin.ext (Nat.zero_add _)) (Fin.ext (Nat.zero_add _)))).trans (hxa j z))) (fun j z => (ld2 j _).trans ((congrArg x16 (congrArg₂ ix2 (Fin.ext (Nat.zero_add _)) (Fin.ext (Nat.zero_add _)))).trans (hxb j z))) (rd2 (b0_g hx0 hx1 hx3 hx4 hx5 hx6 hx7 hx8 hx9 hs)) (fun j z => (ld2 j _).trans ((congrArg x10 (congrArg₂ ix2 (Fin.ext (Nat.zero_add _)) (Fin.ext (Nat.zero_add _)))).trans (hx10 j z))) (fun j z => (ld2 j _).trans ((congrArg x17 (congrArg₂ ix2 (Fin.ext (Nat.zero_add _)) (Fin.ext (Nat.zero_add _)))).trans (hx17 j z))) (fun k => (ld2 0 k).trans ((congrArg x18 (congrArg₂ ix2 (Fin.ext (Nat.zero_add _)) (Fin.ext (Nat.zero_add _)))).trans (hx18 k)))
    (fun r k => (ld3 0 r k).trans ((hx0 _ _).trans (congrArg₂ X rfl (Fin.ext (Nat.zero_add _))))) r z)
    (fun r z => hi_of (n := n) (m1 := (kernelRun0_A.sl.r_13 (F := Ideal) c arg2 harg2 arg6 harg6 arg7 harg7 arg25 x0 x4 x5)) (m2 := (kernelRun0_A.sl.r_14 (F := Ideal) c arg2 harg2 arg6 harg6 arg7 harg7 arg25 x0 x4 x5)) (y := (geOp (arg37.view.readCov (kernelRun0_A.sl.HS15_4 (F := Ideal) c arg4 harg4 x2) (Rect.unit (s := S4x512x128) ![0, 0, 0] S1x512x128.size inb_S4x512x128_S1x512x128_0_0_0).toLoadRect) (arg37.view.readCov (kernelRun0_A.sl.HS15_4 (F := Ideal) c arg4 harg4 x2) (Rect.unit (s := S4x512x128) ![1, 0, 0] S1x512x128.size inb_S4x512x128_S1x512x128_1_0_0).toLoadRect) (arg37.view.readCov (kernelRun0_A.sl.HS15_4 (F := Ideal) c arg4 harg4 x2) (Rect.unit (s := S4x512x128) ![2, 0, 0] S1x512x128.size inb_S4x512x128_S1x512x128_2_0_0).toLoadRect) (arg37.view.readCov (kernelRun0_A.sl.HS15_4 (F := Ideal) c arg4 harg4 x2) (Rect.unit (s := S4x512x128) ![3, 0, 0] S1x512x128.size inb_S4x512x128_S1x512x128_3_0_0).toLoadRect))) (wg := (View.readAt (Elt Ideal) arg18.view (Rect.unit (s := S512x2048) ![0, 0] S512x2048.size inb_S512x2048_S512x2048_0_0).toLoadRect (harg18.unread x16))) (o := (arg30.view.readCov (kernelRun0_B.sl.HS8_16 (F := Ideal) c i arg2 harg2 arg3 harg3 arg5 harg5 arg6 harg6 arg7 harg7 arg8 harg8 arg9 harg9 arg10 harg10 arg11 harg11 arg22 harg22 arg25 arg26 arg27 arg28 arg29 x0 x1 x3 x4 x5 x6 x7 x8 x9 xs0) (Rect.unit (s := S512x1024) ![0, 0] S512x1024.size inb_S512x1024_S512x1024_0_0).toLoadRect)) (wrr := (View.readAt (Elt Ideal) arg12.view (Rect.unit (s := S1024x1024) ![0, 0] S1024x1024.size inb_S1024x1024_S1024x1024_0_0).toLoadRect (harg12.unread x10))) (woo := (View.readAt (Elt Ideal) arg19.view (Rect.unit (s := S1024x1024) ![0, 0] S1024x1024.size inb_S1024x1024_S1024x1024_0_0).toLoadRect (harg19.unread x17))) (gpp := (View.readAt (Elt Ideal) arg20.view (Rect.unit (s := S1x1024) ![0, 0] S1x1024.size inb_S1x1024_S1x1024_0_0).toLoadRect (harg20.unread x18))) (x := View.readAt (Elt Ideal) arg2.view (Rect.unit (s := S1x1024x1024) ![0, 256, 0] S1x256x1024.size inb_S1x1024x1024_S1x256x1024_0_256_0).toLoadRect (harg2.unread x0))
    (a0_m1 hx0 hx4 hx5) (a0_m2 hx0 hx4 hx5) (fun r j => gelu_of (a0_y hx2) r j) (fun j z => (ld2 j _).trans ((congrArg x16 (congrArg₂ ix2 (Fin.ext (Nat.zero_add _)) (Fin.ext (Nat.zero_add _)))).trans (hxa j z))) (fun j z => (ld2 j _).trans ((congrArg x16 (congrArg₂ ix2 (Fin.ext (Nat.zero_add _)) (Fin.ext (Nat.zero_add _)))).trans (hxb j z))) (rd2 (b0_g hx0 hx1 hx3 hx4 hx5 hx6 hx7 hx8 hx9 hs)) (fun j z => (ld2 j _).trans ((congrArg x10 (congrArg₂ ix2 (Fin.ext (Nat.zero_add _)) (Fin.ext (Nat.zero_add _)))).trans (hx10 j z))) (fun j z => (ld2 j _).trans ((congrArg x17 (congrArg₂ ix2 (Fin.ext (Nat.zero_add _)) (Fin.ext (Nat.zero_add _)))).trans (hx17 j z))) (fun k => (ld2 0 k).trans ((congrArg x18 (congrArg₂ ix2 (Fin.ext (Nat.zero_add _)) (Fin.ext (Nat.zero_add _)))).trans (hx18 k)))
    (fun r k => (ld3 0 r k).trans ((hx0 _ _).trans (congrArg₂ X rfl (Fin.ext (Nat.zero_add _))))) r z)
    (fun r z => (lo_of (n := (n + 4)) (m1 := (kernelRun0_A.sl.r_112 (F := Ideal) c arg2 harg2 arg6 harg6 arg7 harg7 arg25 x0 x4 x5)) (m2 := (kernelRun0_A.sl.r_114 (F := Ideal) c arg2 harg2 arg6 harg6 arg7 harg7 arg25 x0 x4 x5)) (y := (geOp (arg37.view.readCov (kernelRun0_A.sl.HS15_8 (F := Ideal) c arg4 harg4 x2) (Rect.unit (s := S4x512x128) ![0, 0, 0] S1x512x128.size inb_S4x512x128_S1x512x128_0_0_0).toLoadRect) (arg37.view.readCov (kernelRun0_A.sl.HS15_8 (F := Ideal) c arg4 harg4 x2) (Rect.unit (s := S4x512x128) ![1, 0, 0] S1x512x128.size inb_S4x512x128_S1x512x128_1_0_0).toLoadRect) (arg37.view.readCov (kernelRun0_A.sl.HS15_8 (F := Ideal) c arg4 harg4 x2) (Rect.unit (s := S4x512x128) ![2, 0, 0] S1x512x128.size inb_S4x512x128_S1x512x128_2_0_0).toLoadRect) (arg37.view.readCov (kernelRun0_A.sl.HS15_8 (F := Ideal) c arg4 harg4 x2) (Rect.unit (s := S4x512x128) ![3, 0, 0] S1x512x128.size inb_S4x512x128_S1x512x128_3_0_0).toLoadRect))) (wg := (View.readAt (Elt Ideal) arg18.view (Rect.unit (s := S512x2048) ![0, 0] S512x2048.size inb_S512x2048_S512x2048_0_0).toLoadRect (harg18.unread x16))) (o := (arg30.view.readCov (kernelRun0_B.sl.HS8_32 (F := Ideal) c i arg2 harg2 arg3 harg3 arg5 harg5 arg6 harg6 arg7 harg7 arg8 harg8 arg9 harg9 arg10 harg10 arg11 harg11 arg22 harg22 arg25 arg26 arg27 arg28 arg29 x0 x1 x3 x4 x5 x6 x7 x8 x9 xs0) (Rect.unit (s := S512x1024) ![0, 0] S512x1024.size inb_S512x1024_S512x1024_0_0).toLoadRect)) (wrr := (View.readAt (Elt Ideal) arg12.view (Rect.unit (s := S1024x1024) ![0, 0] S1024x1024.size inb_S1024x1024_S1024x1024_0_0).toLoadRect (harg12.unread x10))) (woo := (View.readAt (Elt Ideal) arg19.view (Rect.unit (s := S1024x1024) ![0, 0] S1024x1024.size inb_S1024x1024_S1024x1024_0_0).toLoadRect (harg19.unread x17))) (gpp := (View.readAt (Elt Ideal) arg20.view (Rect.unit (s := S1x1024) ![0, 0] S1x1024.size inb_S1x1024_S1x1024_0_0).toLoadRect (harg20.unread x18))) (x := View.readAt (Elt Ideal) arg2.view (Rect.unit (s := S1x1024x1024) ![0, 512, 0] S1x256x1024.size inb_S1x1024x1024_S1x256x1024_0_512_0).toLoadRect (harg2.unread x0))
    (a1_m1 hx0 hx4 hx5) (a1_m2 hx0 hx4 hx5) (fun r j => gelu_of (a1_y hx2) r j) (fun j z => (ld2 j _).trans ((congrArg x16 (congrArg₂ ix2 (Fin.ext (Nat.zero_add _)) (Fin.ext (Nat.zero_add _)))).trans (hxa j z))) (fun j z => (ld2 j _).trans ((congrArg x16 (congrArg₂ ix2 (Fin.ext (Nat.zero_add _)) (Fin.ext (Nat.zero_add _)))).trans (hxb j z))) (rd2 (b1_g hx0 hx1 hx3 hx4 hx5 hx6 hx7 hx8 hx9 hs)) (fun j z => (ld2 j _).trans ((congrArg x10 (congrArg₂ ix2 (Fin.ext (Nat.zero_add _)) (Fin.ext (Nat.zero_add _)))).trans (hx10 j z))) (fun j z => (ld2 j _).trans ((congrArg x17 (congrArg₂ ix2 (Fin.ext (Nat.zero_add _)) (Fin.ext (Nat.zero_add _)))).trans (hx17 j z))) (fun k => (ld2 0 k).trans ((congrArg x18 (congrArg₂ ix2 (Fin.ext (Nat.zero_add _)) (Fin.ext (Nat.zero_add _)))).trans (hx18 k)))
    (fun r k => (ld3 0 r k).trans ((hx0 _ _).trans (congrArg₂ X ((congrArg (row n) (Nat.add_assoc 512 0 r.val)).trans (row_four _ _)) (Fin.ext (Nat.zero_add _))))) r z).trans ((outN_four _ _).symm.trans (congrArg (fun r => outN g w X P Y ga gb wr wo gp n r _) (Nat.add_assoc 512 0 r.val).symm)))
    (fun r z => (hi_of (n := (n + 4)) (m1 := (kernelRun0_A.sl.r_112 (F := Ideal) c arg2 harg2 arg6 harg6 arg7 harg7 arg25 x0 x4 x5)) (m2 := (kernelRun0_A.sl.r_114 (F := Ideal) c arg2 harg2 arg6 harg6 arg7 harg7 arg25 x0 x4 x5)) (y := (geOp (arg37.view.readCov (kernelRun0_A.sl.HS15_8 (F := Ideal) c arg4 harg4 x2) (Rect.unit (s := S4x512x128) ![0, 0, 0] S1x512x128.size inb_S4x512x128_S1x512x128_0_0_0).toLoadRect) (arg37.view.readCov (kernelRun0_A.sl.HS15_8 (F := Ideal) c arg4 harg4 x2) (Rect.unit (s := S4x512x128) ![1, 0, 0] S1x512x128.size inb_S4x512x128_S1x512x128_1_0_0).toLoadRect) (arg37.view.readCov (kernelRun0_A.sl.HS15_8 (F := Ideal) c arg4 harg4 x2) (Rect.unit (s := S4x512x128) ![2, 0, 0] S1x512x128.size inb_S4x512x128_S1x512x128_2_0_0).toLoadRect) (arg37.view.readCov (kernelRun0_A.sl.HS15_8 (F := Ideal) c arg4 harg4 x2) (Rect.unit (s := S4x512x128) ![3, 0, 0] S1x512x128.size inb_S4x512x128_S1x512x128_3_0_0).toLoadRect))) (wg := (View.readAt (Elt Ideal) arg18.view (Rect.unit (s := S512x2048) ![0, 0] S512x2048.size inb_S512x2048_S512x2048_0_0).toLoadRect (harg18.unread x16))) (o := (arg30.view.readCov (kernelRun0_B.sl.HS8_32 (F := Ideal) c i arg2 harg2 arg3 harg3 arg5 harg5 arg6 harg6 arg7 harg7 arg8 harg8 arg9 harg9 arg10 harg10 arg11 harg11 arg22 harg22 arg25 arg26 arg27 arg28 arg29 x0 x1 x3 x4 x5 x6 x7 x8 x9 xs0) (Rect.unit (s := S512x1024) ![0, 0] S512x1024.size inb_S512x1024_S512x1024_0_0).toLoadRect)) (wrr := (View.readAt (Elt Ideal) arg12.view (Rect.unit (s := S1024x1024) ![0, 0] S1024x1024.size inb_S1024x1024_S1024x1024_0_0).toLoadRect (harg12.unread x10))) (woo := (View.readAt (Elt Ideal) arg19.view (Rect.unit (s := S1024x1024) ![0, 0] S1024x1024.size inb_S1024x1024_S1024x1024_0_0).toLoadRect (harg19.unread x17))) (gpp := (View.readAt (Elt Ideal) arg20.view (Rect.unit (s := S1x1024) ![0, 0] S1x1024.size inb_S1x1024_S1x1024_0_0).toLoadRect (harg20.unread x18))) (x := View.readAt (Elt Ideal) arg2.view (Rect.unit (s := S1x1024x1024) ![0, 768, 0] S1x256x1024.size inb_S1x1024x1024_S1x256x1024_0_768_0).toLoadRect (harg2.unread x0))
    (a1_m1 hx0 hx4 hx5) (a1_m2 hx0 hx4 hx5) (fun r j => gelu_of (a1_y hx2) r j) (fun j z => (ld2 j _).trans ((congrArg x16 (congrArg₂ ix2 (Fin.ext (Nat.zero_add _)) (Fin.ext (Nat.zero_add _)))).trans (hxa j z))) (fun j z => (ld2 j _).trans ((congrArg x16 (congrArg₂ ix2 (Fin.ext (Nat.zero_add _)) (Fin.ext (Nat.zero_add _)))).trans (hxb j z))) (rd2 (b1_g hx0 hx1 hx3 hx4 hx5 hx6 hx7 hx8 hx9 hs)) (fun j z => (ld2 j _).trans ((congrArg x10 (congrArg₂ ix2 (Fin.ext (Nat.zero_add _)) (Fin.ext (Nat.zero_add _)))).trans (hx10 j z))) (fun j z => (ld2 j _).trans ((congrArg x17 (congrArg₂ ix2 (Fin.ext (Nat.zero_add _)) (Fin.ext (Nat.zero_add _)))).trans (hx17 j z))) (fun k => (ld2 0 k).trans ((congrArg x18 (congrArg₂ ix2 (Fin.ext (Nat.zero_add _)) (Fin.ext (Nat.zero_add _)))).trans (hx18 k)))
    (fun r k => (ld3 0 r k).trans ((hx0 _ _).trans (congrArg₂ X ((congrArg (row n) (Nat.add_assoc 512 256 r.val)).trans (row_four _ _)) (Fin.ext (Nat.zero_add _))))) r z).trans ((outN_four _ _).symm.trans (congrArg (fun r => outN g w X P Y ga gb wr wo gp n r _) (Nat.add_assoc 512 256 r.val).symm)))
include hx0 hx1 hx3 hx4 hx5 hx8 hx9 hs in
theorem b_stV : Cert.MixFrameIdeal.sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 xs0 = ar3 .f32 (stN g w X P (n + 8)) :=
  (View.read_writes_junk_eq_canon VS0_0 _).trans (b_st8 hx0 hx1 hx3 hx4 hx5 hx8 hx9 hs)
include hx0 hx1 hx2 hx3 hx4 hx5 hx6 hx7 hx8 hx9 hx10 hxa hxb hx17 hx18 hs in
theorem b_outV : Cert.MixFrameIdeal.out0_B_19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 x0 x1 x2 x3 x4 x5 x6 x7 x8 x9 x10 x11 x12 x13 x14 x15 x16 x17 x18 xs0 = ar3 .f32 (fun _ => outN g w X P Y ga gb wr wo gp n) :=
  (View.read_writes_junk_eq_canon VO0_19 _).trans (b_out hx0 hx1 hx2 hx3 hx4 hx5 hx6 hx7 hx8 hx9 hx10 hxa hxb hx17 hx18 hs)

end Cert.MixValue

end
-- ==== Proof.MixKernel.lean ====
/- Hand-written, untrusted: THE MIXER SLICE'S RESULT ARRAY AS ONE FUNCTION OF THE ARGUMENT ARRAYS (`result`). The points of a
   sequence are taken in order: each finds the state that the point before left, and leaves the state after its eight chunks. -/
module

public import proofs.«01_k».proof.Proof.MixHost
public import proofs.«01_k».proof.Proof.MixWordsA
public import proofs.«01_k».proof.Proof.MixWordsB

@[expose] public section

noncomputable section

namespace Cert.MixValue

open Cert.MixIdeal Cert.MixIdeal.Gen Cert.MixFrameIdeal Cert.Spec Idealize.ShloMosaic Idealize.ShloMosaic.TcCoe Idealize.SL.Sem
open Idealize.ShloMosaic.Pipeline (Dat)

/-! ## The arguments as functions -/

section
variable (x : Vec Ideal S8x8192x1024 .f32) (y : Vec Ideal S8x8192x512 .f32) (p : Vec Ideal S8x8192 .i32) (g : Vec Ideal S1x1024 .f32)
  (w : Vec Ideal S1x1024x5632 .f32) (ga gb : Vec Ideal S1x512x1024 .f32) (wr wo : Vec Ideal S1x1024x1024 .f32) (gp : Vec Ideal S1x1024 .f32)

abbrev fG : Fin 1024 → EReal := fun k => g (ix2 0 k)
abbrev fW : Fin 1024 → Fin 5632 → EReal := fun k j => w (ix3 0 k j)
abbrev fX (b : Fin 8) : Fin 8192 → Fin 1024 → EReal := fun t k => x (ix3 b t k)
abbrev fY (b : Fin 8) : Fin 8192 → Fin 512 → EReal := fun t j => y (ix3 b t j)
abbrev fP (b : Fin 8) : Fin 8192 → EReal := fun t => FloatOps.sitofp (F := Ideal) .f32 (p (ix2 b t))
abbrev fU : Fin 512 → Fin 1024 → EReal := fun j k => ga (ix3 0 j k)
abbrev fV : Fin 1024 → Fin 1024 → EReal := fun j k => wr (ix3 0 j k)

/-- The result of argument arrays, at sequence `i 0`, token `i 1` and column `i 2`. -/
def result : Vec Ideal S8x8192x1024 .f32 := fun i =>
  mixRow (fG g) (fW w) (fU ga) (fU gb) (fV wr) (fV wo) (fG gp) (fX x (i 0) (i 1)) (fY y (i 0) (i 1))
    (fun h e => retOf (fG g) (fW w) (fX x (i 0)) (fP p (i 0)) (st (fG g) (fW w) (fX x (i 0)) (fP p (i 0)) ((i 1 : Fin 8192).val / 128))
      ((i 1 : Fin 8192).val / 128) ⟨(i 1 : Fin 8192).val % 128, Nat.mod_lt _ (by decide)⟩ h e) (i 2)
end

/-- A row counted from a chunk is the row of its token. -/
theorem outN_tok {g : Fin 1024 → EReal} {w : Fin 1024 → Fin 5632 → EReal} {X : Fin 8192 → Fin 1024 → EReal} {P : Fin 8192 → EReal}
    {Y : Fin 8192 → Fin 512 → EReal} {ga gb : Fin 512 → Fin 1024 → EReal} {wr wo : Fin 1024 → Fin 1024 → EReal} {gp : Fin 1024 → EReal}
    (n r : ℕ) (t : Fin 8192) (ht : t.val = n * 128 + r) (k : Fin 1024) : outN g w X P Y ga gb wr wo gp n r k.val
      = mixRow g w ga gb wr wo gp (X t) (Y t) (fun h e => retOf g w X P (st g w X P (t.val / 128)) (t.val / 128) ⟨t.val % 128, Nat.mod_lt _ (by decide)⟩ h e) k := by
  have e1 : row n r = t := Fin.ext (by show (n * 128 + r) % 8192 = t.val; rw [← ht]; exact Nat.mod_eq_of_lt t.isLt)
  have e2 : n + r / 128 = t.val / 128 := by omega
  have e3 : (⟨r % 128, Nat.mod_lt _ (by decide)⟩ : Fin 128) = ⟨t.val % 128, Nat.mod_lt _ (by decide)⟩ := Fin.ext (by dsimp only; omega)
  have e4 : (⟨k.val % 1024, Nat.mod_lt _ (by decide)⟩ : Fin 1024) = k := Fin.ext (Nat.mod_eq_of_lt k.isLt)
  have e5 : retN g w X P n r = fun h e => retOf g w X P (st g w X P (t.val / 128)) (t.val / 128) ⟨t.val % 128, Nat.mod_lt _ (by decide)⟩ h e := by
    funext h e; rw [retN, e2, e3]
  rw [outN, e1, e4, e5]

variable (m : (ℓ : Loc nD τ sig) → Buf (Elt Ideal) ℓ) (c : Dev nD)

abbrev aX : Vec Ideal S8x8192x1024 .f32 := m ((c : Thread nD τ).loc main_arg0)
abbrev aY : Vec Ideal S8x8192x512 .f32 := m ((c : Thread nD τ).loc main_arg1)
abbrev aP : Vec Ideal S8x8192 .i32 := m ((c : Thread nD τ).loc main_arg2)
abbrev aG : Vec Ideal S1x1024 .f32 := m ((c : Thread nD τ).loc main_arg3)
abbrev aW : Vec Ideal S1x1024x5632 .f32 := m ((c : Thread nD τ).loc main_arg4)
abbrev aA : Vec Ideal S1x512x1024 .f32 := m ((c : Thread nD τ).loc main_arg10)
abbrev aB : Vec Ideal S1x512x1024 .f32 := m ((c : Thread nD τ).loc main_arg11)
abbrev aR : Vec Ideal S1x1024x1024 .f32 := m ((c : Thread nD τ).loc main_arg12)
abbrev aO : Vec Ideal S1x1024x1024 .f32 := m ((c : Thread nD τ).loc main_arg13)
abbrev aQ : Vec Ideal S1x1024 .f32 := m ((c : Thread nD τ).loc main_arg14)

/-! ## The windows' contents at a point -/

section
variable (t : Fin cfg0.N)

theorem row_of (r : ℕ) (h : (grid0.coords t 1).val * 1024 + r < 8192) :
    (⟨(grid0.coords t 1).val * 1024 + r, h⟩ : Fin 8192) = row (8 * (grid0.coords t 1).val) r :=
  Fin.ext (by
    show (grid0.coords t 1).val * 1024 + r = (8 * (grid0.coords t 1).val * 128 + r) % 8192
    rw [Nat.mod_eq_of_lt (by omega)]; omega)
theorem lt_of (r : Fin 1024) : (grid0.coords t 1).val * 1024 + r.val < 8192 := by
  have ht : (grid0.coords t 1).val < 8 := (grid0.coords t 1).isLt
  omega
theorem w0 (r k : Fin 1024) : iblk m c 0 t (ix3 0 r k) = fX (aX m c) (grid0.coords t 0) (row (8 * (grid0.coords t 1).val) r.val) k :=
  (b0 m c t r k (lt_of t r)).trans ((congrFun (V_main_arg0 m c) _).trans (congrArg (fun q => aX m c (ix3 (grid0.coords t 0) q k)) (row_of t r.val _)))
theorem w2 (r : Fin 1024) (j : Fin 512) : iblk m c 2 t (ix3 0 r j) = fY (aY m c) (grid0.coords t 0) (row (8 * (grid0.coords t 1).val) r.val) j :=
  (b2 m c t r j (lt_of t r)).trans ((congrFun (V_main_arg1 m c) _).trans (congrArg (fun q => aY m c (ix3 (grid0.coords t 0) q j)) (row_of t r.val _)))
theorem w1 (a : Fin 8) (l : Fin 128) : iblk m c 1 t (ix4 0 (grid0.coords t 1) a l)
    = fP (aP m c) (grid0.coords t 0) (row (8 * (grid0.coords t 1).val) (128 * a.val + l.val)) :=
  (b1 m c t (grid0.coords t 1) a l).trans ((V77_apply m c (grid0.coords t 0) (grid0.coords t 1) a l).trans
    (congrArg (fun q => FloatOps.sitofp (F := Ideal) .f32 (aP m c (ix2 (grid0.coords t 0) q)))
      ((Fin.ext (congrArg (fun z => (grid0.coords t 1).val * 1024 + (z + l.val)) (Nat.mul_comm _ _))).trans
        (row_of t (128 * a.val + l.val) (lt_of t ⟨128 * a.val + l.val, by omega⟩)))))
theorem w3 (d : Fin 128) : iblk m c 3 t (ix2 d 0) = freq (d.val % 64) := (b3 m c t _).trans (V12_apply m c d)
theorem w4 (k : Fin 1024) : iblk m c 4 t (ix2 0 k) = fG (aG m c) k := (b4 m c t _).trans (V68_apply m c k)
theorem w5 (k : Fin 1024) (j : Fin 5632) : iblk m c 5 t (ix2 k j) = fW (aW m c) k j := (b5 m c t _).trans (V70_apply m c k j)
theorem w6 (h : Fin 4) (i j : Fin 128) : iblk m c 6 t (ix3 h i j) = dec h.val i.val j.val := (b6 m c t _).trans (V37_apply m c h i j)
theorem w7 (h : Fin 4) (i : Fin 128) (e : Fin 256) : iblk m c 7 t (ix3 h i e) = xi h.val i.val := (b7 m c t _).trans (V60_apply m c h i e)
theorem w8 (h : Fin 4) (i d : Fin 128) : iblk m c 8 t (ix3 h i d) = zeta h.val i.val := (b8 m c t _).trans (V58_apply m c h i d)
theorem w9 (h : Fin 4) (e : Fin 256) : iblk m c 9 t (ix3 h 0 e) = cdec h.val := (b9 m c t _).trans (V62_apply m c h e)
theorem w10 (j k : Fin 1024) : iblk m c 10 t (ix2 j k) = fV (aR m c) j k := (b10 m c t _).trans (V72_apply m c j k)
theorem wa (j : Fin 512) (k : Fin 1024) : iblk m c 16 t (ix2 j ⟨k.val, Nat.lt_of_lt_of_le k.isLt (Nat.le_add_right 1024 1024)⟩) = fU (aA m c) j k :=
  (b16 m c t _).trans (V66_lo m c j k)
theorem wb (j : Fin 512) (k : Fin 1024) : iblk m c 16 t (ix2 j ⟨1024 + k.val, Nat.add_lt_add_left k.isLt 1024⟩) = fU (aB m c) j k :=
  (b16 m c t _).trans (V66_hi m c j k)
theorem w17 (j k : Fin 1024) : iblk m c 17 t (ix2 j k) = fV (aO m c) j k := (b17 m c t _).trans (V74_apply m c j k)
theorem w18 (k : Fin 1024) : iblk m c 18 t (ix2 0 k) = fG (aQ m c) k := (b18 m c t _).trans (V76_apply m c k)
end

/-! ## The points in order -/

/-- The state that point `t` leaves. -/
abbrev stAt (t : Fin cfg0.N) : ℕ → ℕ → ℕ → EReal :=
  stN (fG (aG m c)) (fW (aW m c)) (fX (aX m c) (grid0.coords t 0)) (fP (aP m c) (grid0.coords t 0)) (8 * (grid0.coords t 1).val + 8)
/-- The rows that point `t` writes. -/
abbrev outAt (t : Fin cfg0.N) : ℕ → ℕ → EReal :=
  outN (fG (aG m c)) (fW (aW m c)) (fX (aX m c) (grid0.coords t 0)) (fP (aP m c) (grid0.coords t 0)) (fY (aY m c) (grid0.coords t 0))
    (fU (aA m c)) (fU (aB m c)) (fV (aR m c)) (fV (aO m c)) (fG (aQ m c)) (8 * (grid0.coords t 1).val)

theorem point_A (t : Fin cfg0.N) (h0 : t.val % 8 = 0) :
    (outsAt0 m c t.val t.isLt).1 = ar3 .f32 (fun _ => outAt m c t) ∧ (outsAt0 m c t.val t.isLt).2 = ar3 .f32 (stAt m c t) := by
  have hn : 8 * (grid0.coords t 1).val = 0 := by
    have h1 := point t
    have h2 : (grid0.coords t 1).val < 8 := (grid0.coords t 1).isLt
    omega
  rw [outsAt0_A m c t h0]
  refine ⟨?_, ?_⟩
  · dsimp only
    refine a_outV (g := fG (aG m c)) (w := fW (aW m c)) (X := fX (aX m c) (grid0.coords t 0)) (P := fP (aP m c) (grid0.coords t 0)) (n := 8 * (grid0.coords t 1).val)
      (Y := fY (aY m c) (grid0.coords t 0)) (ga := fU (aA m c)) (gb := fU (aB m c)) (wr := fV (aR m c)) (wo := fV (aO m c)) (gp := fG (aQ m c))
      (i := grid0.coords t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x16 := iblk m c 16 t) (x17 := iblk m c 17 t) (x18 := iblk m c 18 t)
      ?_ ?_ ?_ ?_ ?_ ?_ ?_ ?_
      ?_ ?_ ?_ ?_ ?_ ?_ ?_ ?_
    exacts [w0 m c t, w1 m c t, w2 m c t, w3 m c t, w4 m c t, w5 m c t, w6 m c t, w7 m c t, w8 m c t, w9 m c t, w10 m c t, wa m c t, wb m c t, w17 m c t, w18 m c t, hn]
  · dsimp only
    refine a_stV (g := fG (aG m c)) (w := fW (aW m c)) (X := fX (aX m c) (grid0.coords t 0)) (P := fP (aP m c) (grid0.coords t 0)) (n := 8 * (grid0.coords t 1).val)
      (i := grid0.coords t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x16 := iblk m c 16 t) (x17 := iblk m c 17 t) (x18 := iblk m c 18 t)
      ?_ ?_ ?_ ?_ ?_ ?_ ?_ ?_
    exacts [w0 m c t, w1 m c t, w3 m c t, w4 m c t, w5 m c t, w8 m c t, w9 m c t, hn]

theorem point_B (t : Fin cfg0.N) (h0 : ¬t.val % 8 = 0)
    (hs : ∀ (h : Fin 4) (d : Fin 128) (e : Fin 256), (outsAt0 m c (t.val - 1) (Nat.lt_of_le_of_lt (Nat.sub_le _ _) t.isLt)).2 (ix3 h d e)
      = stN (fG (aG m c)) (fW (aW m c)) (fX (aX m c) (grid0.coords t 0)) (fP (aP m c) (grid0.coords t 0)) (8 * (grid0.coords t 1).val) h.val d.val e.val) :
    (outsAt0 m c t.val t.isLt).1 = ar3 .f32 (fun _ => outAt m c t) ∧ (outsAt0 m c t.val t.isLt).2 = ar3 .f32 (stAt m c t) := by
  rw [outsAt0_B m c t h0]
  refine ⟨?_, ?_⟩
  · dsimp only
    refine b_outV (g := fG (aG m c)) (w := fW (aW m c)) (X := fX (aX m c) (grid0.coords t 0)) (P := fP (aP m c) (grid0.coords t 0)) (n := 8 * (grid0.coords t 1).val)
      (Y := fY (aY m c) (grid0.coords t 0)) (ga := fU (aA m c)) (gb := fU (aB m c)) (wr := fV (aR m c)) (wo := fV (aO m c)) (gp := fG (aQ m c))
      (i := grid0.coords t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x16 := iblk m c 16 t) (x17 := iblk m c 17 t) (x18 := iblk m c 18 t) (xs0 := (outsAt0 m c (t.val - 1) (Nat.lt_of_le_of_lt (Nat.sub_le _ _) t.isLt)).2)
      ?_ ?_ ?_ ?_ ?_ ?_ ?_ ?_
      ?_ ?_ ?_ ?_ ?_ ?_ ?_ ?_
    exacts [w0 m c t, w1 m c t, w2 m c t, w3 m c t, w4 m c t, w5 m c t, w6 m c t, w7 m c t, w8 m c t, w9 m c t, w10 m c t, wa m c t, wb m c t, w17 m c t, w18 m c t, hs]
  · dsimp only
    refine b_stV (g := fG (aG m c)) (w := fW (aW m c)) (X := fX (aX m c) (grid0.coords t 0)) (P := fP (aP m c) (grid0.coords t 0)) (n := 8 * (grid0.coords t 1).val)
      (i := grid0.coords t) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x16 := iblk m c 16 t) (x17 := iblk m c 17 t) (x18 := iblk m c 18 t) (xs0 := (outsAt0 m c (t.val - 1) (Nat.lt_of_le_of_lt (Nat.sub_le _ _) t.isLt)).2)
      ?_ ?_ ?_ ?_ ?_ ?_ ?_ ?_
    exacts [w0 m c t, w1 m c t, w3 m c t, w4 m c t, w5 m c t, w8 m c t, w9 m c t, hs]

theorem points : ∀ (k : ℕ) (hk : k < cfg0.N),
    (outsAt0 m c k hk).1 = ar3 .f32 (fun _ => outAt m c ⟨k, hk⟩) ∧ (outsAt0 m c k hk).2 = ar3 .f32 (stAt m c ⟨k, hk⟩)
  | 0, hk => point_A m c ⟨0, hk⟩ rfl
  | k + 1, hk => by
    by_cases h0 : (k + 1) % 8 = 0
    · exact point_A m c ⟨k + 1, hk⟩ h0
    · refine point_B m c ⟨k + 1, hk⟩ h0 fun h d e => ?_
      have ih := (points k (Nat.lt_of_succ_lt hk)).2
      have h1 := point ⟨k, Nat.lt_of_succ_lt hk⟩
      have h2 := point ⟨k + 1, hk⟩
      have h3 : (grid0.coords ⟨k, Nat.lt_of_succ_lt hk⟩ 1).val < 8 := (grid0.coords ⟨k, Nat.lt_of_succ_lt hk⟩ 1).isLt
      have h4 : (grid0.coords ⟨k + 1, hk⟩ 1).val < 8 := (grid0.coords ⟨k + 1, hk⟩ 1).isLt
      dsimp only at h1 h2
      have eb : grid0.coords ⟨k, Nat.lt_of_succ_lt hk⟩ 0 = grid0.coords ⟨k + 1, hk⟩ 0 := Fin.ext (by omega)
      have et : 8 * (grid0.coords ⟨k, Nat.lt_of_succ_lt hk⟩ 1).val + 8 = 8 * (grid0.coords ⟨k + 1, hk⟩ 1).val := by omega
      rw [stAt, eb, et] at ih
      exact congrFun ih (ix3 h d e)

/-! ## The array after the run -/

theorem final : (dats m 0 c).arrAt 19 cfg0.N
    = result (aX m c) (aY m c) (aP m c) (aG m c) (aW m c) (aA m c) (aB m c) (aR m c) (aO m c) (aQ m c) := by
  refine (dats m 0 c).arrAt_eq_of_covers 19 _ (by decide +kernel) fun t hf y => ?_
  have hy : (y 1 : Fin 1024).val < 1024 := (y 1 : Fin 1024).isLt
  have ht : (grid0.coords t 1).val < 8 := (grid0.coords t 1).isLt
  have a19 : ((cfg0.win 19).blk t).view.emb y
      = (ix3 (grid0.coords t 0) (⟨(grid0.coords t 1).val * 1024 + (y 1 : Fin 1024).val, by omega⟩ : Fin 8192) (y 2 : Fin 1024) : S8x8192x1024.Idx) := by
    funext a; apply Fin.ext; match a with | ⟨0, _⟩ => (blk_simp [e19]) | ⟨1, _⟩ => (blk_simp [e19]; rfl) | ⟨2, _⟩ => (blk_simp [e19]; rfl)
  refine Eq.trans ?_ (congrArg (result _ _ _ _ _ _ _ _ _ _) a19).symm
  blk_simp
  rw [after0_19, (points m c t.val t.isLt).1]
  exact outN_tok (8 * (grid0.coords t 1).val) (y 1 : Fin 1024).val ⟨(grid0.coords t 1).val * 1024 + (y 1 : Fin 1024).val, by omega⟩
    (by show (grid0.coords t 1).val * 1024 + (y 1 : Fin 1024).val = 8 * (grid0.coords t 1).val * 128 + (y 1 : Fin 1024).val; omega) (y 2 : Fin 1024)

end Cert.MixValue

end
-- ==== Proof.MixRef.lean ====
/- Hand-written, untrusted: THE REFERENCE'S OPERATIONS BEFORE THE LOOP, read at an index: the projections, the rotated queries and
   keys, the values, and the decays. -/
module

public import proofs.«01_k».proof.Proof.MixSpec
public import proofs.«01_k».proof.Proof.Gen.MixRefIdeal.Step
public import Idealize.ShloMosaic.Lib.Pipeline.Value
public import Idealize.ShloMosaic.Lib.ValueIdx
public import Idealize.ShloMosaic.PureOps.Ideal.Laws
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Pointwise.Tactic
public import Idealize.ShloMosaic.Lib.Pointwise
@[expose] public section
noncomputable section
namespace Cert.MixRef1
open Cert.MixRefIdeal Cert.MixRefIdeal.Gen Cert.MixRefIdeal.Step Cert.Spec Idealize.ShloMosaic Idealize.ShloMosaic.TcCoe

theorem freq_apply (d : Fin 64) : (K_main_v66 (F := Ideal)) (ix1 d) = freq d.val := by
  pointwise [K_main_v66, K_main_v65, K_main_cst_9, K_main_v64, K_main_v63, K_main_cst_8, K_main_v62, K_main_v61, K_main_v60, K_main_v59, K_main_v58, K_main_v57, K_main_cst_6, K_main_cst_7, freq]
theorem lg_apply (d : Fin 4) : (K_main_v100 (F := Ideal)) (ix1 d) = lg d.val := by
  pointwise [K_main_v100, K_main_v99, K_main_v98, K_main_cst_13, K_main_v97, K_main_v96, K_main_cst_12, K_main_v95, K_main_v94, K_main_cst_11, K_main_v93, lg]
theorem dec_apply (h : Fin 4) (i j : Fin 128) : (K_main_v117 (F := Ideal)) (ix3 h i j) = dec h.val i.val j.val := by
  pointwise [K_main_v117, K_main_call0_v1, K_main_call0_v2, K_main_call0_v0, K_main_cst_16, K_main_v116, K_main_v115, K_main_v114, K_main_v113, K_main_v112, K_main_v111, K_main_v110, K_main_cst_15, K_main_v109, K_main_v108, K_main_v107, K_main_cst_14, K_main_v106, K_main_v105, K_main_v104, K_main_v103, K_main_v102, K_main_v101, lg_apply, dec, id]
theorem zeta_apply (h : Fin 4) (j : Fin 128) : (K_main_v125 (F := Ideal)) (ix2 j h) = zeta h.val j.val := by
  pointwise [K_main_v125, K_main_v124, K_main_v123, K_main_v122, K_main_v121, K_main_v120, K_main_v119, K_main_cst_17, K_main_v118, K_main_v101, lg_apply, zeta]
theorem xi_apply (h : Fin 4) (j : Fin 128) : (K_main_v133 (F := Ideal)) (ix2 j h) = xi h.val j.val := by
  pointwise [K_main_v133, K_main_v132, K_main_v131, K_main_v130, K_main_v129, K_main_v128, K_main_v127, K_main_cst_18, K_main_v126, K_main_v101, lg_apply, xi]
theorem cd_apply (h : Fin 4) : (K_main_v136 (F := Ideal)) (ix1 h) = cdec h.val := by
  pointwise [K_main_v136, K_main_v135, K_main_v134, K_main_cst_19, lg_apply, cdec]

variable (x : Vec Ideal S8x8192x1024 .f32) (p : Vec Ideal S8x8192 .i32) (g : Vec Ideal S1x1024 .f32) (w : Vec Ideal S1x1024x5632 .f32)

theorem v13 (b : Fin 8) (t : Fin 8192) (c : Fin 1024) :
    A_main_v13 (F := Ideal) x p g w (ix3 b t c) = nrm (fun k => x (ix3 b t k)) (fun k => g (ix2 0 k)) c := by
  pointwise [A_main_v13, A_main_v12, A_main_v11, A_main_v10, A_main_v9, A_main_v8, A_main_v7, K_main_v6, A_main_v5, K_main_v4, A_main_v3, A_main_v2, A_main_v1, A_main_v0, K_main_cst, K_main_cst_0, K_main_cst_1, nrm]
theorem v15 (b : Fin 8) (t : Fin 8192) (j : Fin 5632) :
    A_main_v15 (F := Ideal) x p g w (ix3 b t j) = pr (fun k => g (ix2 0 k)) (fun k j => w (ix3 0 k j)) (fun k => x (ix3 b t k)) j := by
  pointwise [A_main_v15, A_main_v14, v13, pr]
theorem v38 (b : Fin 8) (t : Fin 8192) (d : Fin 64) : A_main_v38 (F := Ideal) x p g w (ix3 b t d) = FloatOps.sitofp (F := Ideal) .f32 (p (ix2 b t)) * freq d.val := by
  pointwise [A_main_v38, A_main_v36, A_main_v34, A_main_v33, K_main_v37, K_main_v35, K_main_v32, K_main_v31, K_main_cst_5, K_main_v30, K_main_v29, K_main_cst_4, K_main_v28, K_main_v27, K_main_v26, K_main_v25, K_main_v24, K_main_v23, K_main_cst_2, K_main_cst_3, freq]
theorem v72 (b : Fin 8) (t : Fin 8192) (d : Fin 64) : A_main_v72 (F := Ideal) x p g w (ix3 b t d) = FloatOps.sitofp (F := Ideal) .f32 (p (ix2 b t)) * freq d.val := by
  pointwise [A_main_v72, A_main_v70, A_main_v68, A_main_v67, K_main_v71, K_main_v69, freq_apply]
abbrev G (g : Vec Ideal S1x1024 .f32) : Fin 1024 → EReal := fun k => g (ix2 0 k)
abbrev W (w : Vec Ideal S1x1024x5632 .f32) : Fin 1024 → Fin 5632 → EReal := fun k j => w (ix3 0 k j)
abbrev X (x : Vec Ideal S8x8192x1024 .f32) (b : Fin 8) : Fin 8192 → Fin 1024 → EReal := fun t k => x (ix3 b t k)
abbrev P (p : Vec Ideal S8x8192 .i32) (b : Fin 8) : Fin 8192 → EReal := fun t => FloatOps.sitofp (F := Ideal) .f32 (p (ix2 b t))
theorem v22 (b : Fin 8) (t : Fin 8192) (h : Fin 4) (d : Fin 128) :
    A_main_v22 (F := Ideal) x p g w (ix4 b t h d) = pr (G g) (W w) (X x b t) ⟨h.val * 128 + d.val, by omega⟩ := by
  pointwise [A_main_v22, A_main_v16, v15]
theorem v56 (b : Fin 8) (t : Fin 8192) (h : Fin 4) (d : Fin 128) :
    A_main_v56 (F := Ideal) x p g w (ix4 b t h d) = pr (G g) (W w) (X x b t) ⟨512 + (h.val * 128 + d.val), by omega⟩ := by
  pointwise [A_main_v56, A_main_v17, v15]
theorem v92 (b : Fin 8) (t : Fin 8192) (h : Fin 4) (d : Fin 256) :
    A_main_v92 (F := Ideal) x p g w (ix4 b t h d) = vr (G g) (W w) (X x b t) h d := by
  pointwise [A_main_v92, A_main_v18, v15, vr]

theorem v55 (b : Fin 8) (t : Fin 8192) (h : Fin 4) (d : Fin 128) :
    A_main_v55 (F := Ideal) x p g w (ix4 b t h d) = qr (G g) (W w) (X x b t) (P p b t) h d := by
  pointwise [A_main_v55, A_main_v54, A_main_v53, A_main_v52, A_main_v51, A_main_v50, A_main_v49, A_main_v48, A_main_v47, A_main_v46, A_main_v45, A_main_v44, A_main_v43, A_main_v42, A_main_v41, A_main_v40, A_main_v39, v38, v22]
  unfold qr rot
  by_cases hd : d.val < 64
  · simp only [dif_pos hd]
    rw [show (⟨h.val * 128 + (64 + d.val), by omega⟩ : Fin 5632) = ⟨h.val * 128 + (d.val + 64), by omega⟩ from Fin.ext (by show h.val * 128 + (64 + d.val) = h.val * 128 + (d.val + 64); omega)]
  · simp only [dif_neg hd]
    rw [show (⟨h.val * 128 + (64 + (d.val - 64)), by omega⟩ : Fin 5632) = ⟨h.val * 128 + d.val, by omega⟩ from Fin.ext (by show h.val * 128 + (64 + (d.val - 64)) = h.val * 128 + d.val; omega)]
theorem v91 (b : Fin 8) (t : Fin 8192) (h : Fin 4) (d : Fin 128) :
    A_main_v91 (F := Ideal) x p g w (ix4 b t h d) = kr (G g) (W w) (X x b t) (P p b t) h d := by
  pointwise [A_main_v91, K_main_v90, K_main_cst_10, A_main_v89, A_main_v88, A_main_v87, A_main_v86, A_main_v85, A_main_v84, A_main_v83, A_main_v82, A_main_v81, A_main_v80, A_main_v79, A_main_v78, A_main_v77, A_main_v76, A_main_v75, A_main_v74, A_main_v73, v72, v56]
  unfold kr rot
  by_cases hd : d.val < 64
  · simp only [dif_pos hd]
    rw [show (⟨512 + (h.val * 128 + (64 + d.val)), by omega⟩ : Fin 5632) = ⟨512 + (h.val * 128 + (d.val + 64)), by omega⟩ from Fin.ext (by show 512 + (h.val * 128 + (64 + d.val)) = 512 + (h.val * 128 + (d.val + 64)); omega)]
  · simp only [dif_neg hd]
    rw [show (⟨512 + (h.val * 128 + (64 + (d.val - 64))), by omega⟩ : Fin 5632) = ⟨512 + (h.val * 128 + d.val), by omega⟩ from Fin.ext (by show 512 + (h.val * 128 + (64 + (d.val - 64))) = 512 + (h.val * 128 + d.val); omega)]
end Cert.MixRef1
end
-- ==== Proof.MixRefStep.lean ====
/- Hand-written, untrusted: THE REFERENCE'S LOOP, read at an index: one chunk of the retention, the sequence of the states, and
   the retentions stacked by it. -/
module

public import proofs.«01_k».proof.Proof.MixRef
public import Idealize.ShloMosaic.Lib.WordCmp
@[expose] public section
noncomputable section
namespace Cert.MixRef1
open Cert.MixRefIdeal Cert.MixRefIdeal.Gen Cert.MixRefIdeal.Step Cert.Spec Idealize.ShloMosaic Idealize.ShloMosaic.TcCoe

variable (x : Vec Ideal S8x8192x1024 .f32) (p : Vec Ideal S8x8192 .i32) (g : Vec Ideal S1x1024 .f32) (w : Vec Ideal S1x1024x5632 .f32)

theorem v141 (n : Fin 64) (b : Fin 8) (i : Fin 128) (h : Fin 4) (d : Fin 128) :
    A_main_v141 (F := Ideal) x p g w (ix5 n b i h d) = qr (G g) (W w) (X x b (tok n.val i)) (P p b (tok n.val i)) h d := by
  have e : (⟨n.val * 128 + i.val, by omega⟩ : Fin 8192) = tok n.val i := Fin.ext (Nat.mod_eq_of_lt (by omega)).symm
  have t1 : A_main_v141 (F := Ideal) x p g w (ix5 n b i h d) = A_main_v137 (F := Ideal) x p g w (ix5 b n i h d) := by
    unfold A_main_v141
    exact transpose_apply _ _ _ _ _ (fun b => match b with | ⟨0, _⟩ => rfl | ⟨1, _⟩ => rfl | ⟨2, _⟩ => rfl | ⟨3, _⟩ => rfl | ⟨4, _⟩ => rfl)
  have t2 : A_main_v137 (F := Ideal) x p g w (ix5 b n i h d) = A_main_v55 (F := Ideal) x p g w (ix4 b ⟨n.val * 128 + i.val, by omega⟩ h d) := by
    unfold A_main_v137
    exact shapeCast_apply (s := S8x8192x4x128) (t := S8x64x128x4x128) _ _ _ _ (by
      rw [Shape.rowMajor_val_five, Shape.rowMajor_val_four]
      show ((b.val * 8192 + (n.val * 128 + i.val)) * 4 + h.val) * 128 + d.val = (((b.val * 64 + n.val) * 128 + i.val) * 4 + h.val) * 128 + d.val
      omega)
  rw [t1, t2, v55, e]
theorem v142 (n : Fin 64) (b : Fin 8) (i : Fin 128) (h : Fin 4) (d : Fin 128) :
    A_main_v142 (F := Ideal) x p g w (ix5 n b i h d) = kr (G g) (W w) (X x b (tok n.val i)) (P p b (tok n.val i)) h d := by
  have e : (⟨n.val * 128 + i.val, by omega⟩ : Fin 8192) = tok n.val i := Fin.ext (Nat.mod_eq_of_lt (by omega)).symm
  have t1 : A_main_v142 (F := Ideal) x p g w (ix5 n b i h d) = A_main_v138 (F := Ideal) x p g w (ix5 b n i h d) := by
    unfold A_main_v142
    exact transpose_apply _ _ _ _ _ (fun b => match b with | ⟨0, _⟩ => rfl | ⟨1, _⟩ => rfl | ⟨2, _⟩ => rfl | ⟨3, _⟩ => rfl | ⟨4, _⟩ => rfl)
  have t2 : A_main_v138 (F := Ideal) x p g w (ix5 b n i h d) = A_main_v91 (F := Ideal) x p g w (ix4 b ⟨n.val * 128 + i.val, by omega⟩ h d) := by
    unfold A_main_v138
    exact shapeCast_apply (s := S8x8192x4x128) (t := S8x64x128x4x128) _ _ _ _ (by
      rw [Shape.rowMajor_val_five, Shape.rowMajor_val_four]
      show ((b.val * 8192 + (n.val * 128 + i.val)) * 4 + h.val) * 128 + d.val = (((b.val * 64 + n.val) * 128 + i.val) * 4 + h.val) * 128 + d.val
      omega)
  rw [t1, t2, v91, e]
theorem v143 (n : Fin 64) (b : Fin 8) (i : Fin 128) (h : Fin 4) (d : Fin 256) :
    A_main_v143 (F := Ideal) x p g w (ix5 n b i h d) = vr (G g) (W w) (X x b (tok n.val i)) h d := by
  have e : (⟨n.val * 128 + i.val, by omega⟩ : Fin 8192) = tok n.val i := Fin.ext (Nat.mod_eq_of_lt (by omega)).symm
  have t1 : A_main_v143 (F := Ideal) x p g w (ix5 n b i h d) = A_main_v139 (F := Ideal) x p g w (ix5 b n i h d) := by
    unfold A_main_v143
    exact transpose_apply _ _ _ _ _ (fun b => match b with | ⟨0, _⟩ => rfl | ⟨1, _⟩ => rfl | ⟨2, _⟩ => rfl | ⟨3, _⟩ => rfl | ⟨4, _⟩ => rfl)
  have t2 : A_main_v139 (F := Ideal) x p g w (ix5 b n i h d) = A_main_v92 (F := Ideal) x p g w (ix4 b ⟨n.val * 128 + i.val, by omega⟩ h d) := by
    unfold A_main_v139
    exact shapeCast_apply (s := S8x8192x4x256) (t := S8x64x128x4x256) _ _ _ _ (by
      rw [Shape.rowMajor_val_five, Shape.rowMajor_val_four]
      show ((b.val * 8192 + (n.val * 128 + i.val)) * 4 + h.val) * 256 + d.val = (((b.val * 64 + n.val) * 128 + i.val) * 4 + h.val) * 256 + d.val
      omega)
  rw [t1, t2, v92, e]
variable (s : State Ideal)
theorem start5 (n : Fin 64) (f : Fin 5 → Int) (h0 : f 0 = (BitVec.ofNat 32 n.val).toInt) (h1 : f 1 = (0#32).toInt) (h2 : f 2 = (0#32).toInt) (h3 : f 3 = (0#32).toInt) (h4 : f 4 = (0#32).toInt) (a : Fin 5) :
    f a = ((![n.val, 0, 0, 0, 0] : Fin 5 → ℕ) a : Int) := by
  match a with
  | ⟨0, _⟩ =>
    refine h0.trans ?_
    show _ = ((n.val : ℕ) : Int)
    rw [BitVec.toInt_eq_toNat_of_lt (by rw [BitVec.toNat_ofNat]; omega), BitVec.toNat_ofNat]; omega
  | ⟨1, _⟩ => exact h1
  | ⟨2, _⟩ => exact h2
  | ⟨3, _⟩ => exact h3
  | ⟨4, _⟩ => exact h4
theorem sl5_128 (n : Fin 64) : S64x8x128x4x128.Slices ![n.val, 0, 0, 0, 0] S1x8x128x4x128 := by
  refine ⟨rfl, fun a => ?_⟩
  match a with
  | ⟨0, _⟩ => show n.val + 1 ≤ 64; omega
  | ⟨1, _⟩ => show 0 + 8 ≤ 8; omega
  | ⟨2, _⟩ => show 0 + 128 ≤ 128; omega
  | ⟨3, _⟩ => show 0 + 4 ≤ 4; omega
  | ⟨4, _⟩ => show 0 + 128 ≤ 128; omega
theorem sl5_256 (n : Fin 64) : S64x8x128x4x256.Slices ![n.val, 0, 0, 0, 0] S1x8x128x4x256 := by
  refine ⟨rfl, fun a => ?_⟩
  match a with
  | ⟨0, _⟩ => show n.val + 1 ≤ 64; omega
  | ⟨1, _⟩ => show 0 + 8 ≤ 8; omega
  | ⟨2, _⟩ => show 0 + 128 ≤ 128; omega
  | ⟨3, _⟩ => show 0 + 4 ≤ 4; omega
  | ⟨4, _⟩ => show 0 + 256 ≤ 256; omega
theorem b5_apply (n : Fin 64) (b : Fin 8) (i : Fin 128) (h : Fin 4) (d : Fin 128) : b5 (F := Ideal) n.val s (ix4 b i h d) = s.main_v145_0 (ix5 n b i h d) := by
  have t1 : b5 (F := Ideal) n.val s (ix4 b i h d) = b4 (F := Ideal) n.val s (ix5 0 b i h d) := by
    pointwise [b5]
  rw [t1]
  unfold b4
  rw [WordCmp.dynamicSlice_eq_extract _ _ _ _ ![n.val, 0, 0, 0, 0] (sl5_128 n) (start5 n _ rfl rfl rfl rfl rfl)]
  pointwise []
theorem b11_apply (n : Fin 64) (b : Fin 8) (i : Fin 128) (h : Fin 4) (d : Fin 128) : b11 (F := Ideal) n.val s (ix4 b i h d) = s.main_v145_1 (ix5 n b i h d) := by
  have t1 : b11 (F := Ideal) n.val s (ix4 b i h d) = b10 (F := Ideal) n.val s (ix5 0 b i h d) := by
    pointwise [b11]
  rw [t1]
  unfold b10
  rw [WordCmp.dynamicSlice_eq_extract _ _ _ _ ![n.val, 0, 0, 0, 0] (sl5_128 n) (start5 n _ rfl rfl rfl rfl rfl)]
  pointwise []
theorem b17_apply (n : Fin 64) (b : Fin 8) (i : Fin 128) (h : Fin 4) (d : Fin 256) : b17 (F := Ideal) n.val s (ix4 b i h d) = s.main_v145_2 (ix5 n b i h d) := by
  have t1 : b17 (F := Ideal) n.val s (ix4 b i h d) = b16 (F := Ideal) n.val s (ix5 0 b i h d) := by
    pointwise [b17]
  rw [t1]
  unfold b16
  rw [WordCmp.dynamicSlice_eq_extract _ _ _ _ ![n.val, 0, 0, 0, 0] (sl5_256 n) (start5 n _ rfl rfl rfl rfl rfl)]
  pointwise []

theorem b43_apply (n : Fin 64) (m : Fin 64) (b : Fin 8) (i : Fin 128) (h : Fin 4) (d : Fin 256) :
    b43 (F := Ideal) n.val s (ix5 m b i h d) = if m = n then b38 (F := Ideal) n.val s (ix5 0 b i h d) else s.main_v145_9 (ix5 m b i h d) := by
  unfold b43
  rw [WordCmp.dynamicUpdateSlice_eq_update _ _ _ _ ![n.val, 0, 0, 0, 0] (sl5_256 n) (start5 n _ rfl rfl rfl rfl rfl)]
  unfold updateSlice
  by_cases e : m = n
  · subst e
    rw [if_pos rfl, dif_pos]
    · refine congrArg _ (funext fun a => ?_)
      match a with
      | ⟨0, _⟩ => exact Fin.ext (by show m.val - m.val = 0; omega)
      | ⟨1, _⟩ => exact Fin.ext (by show b.val - 0 = b.val; omega)
      | ⟨2, _⟩ => exact Fin.ext (by show i.val - 0 = i.val; omega)
      | ⟨3, _⟩ => exact Fin.ext (by show h.val - 0 = h.val; omega)
      | ⟨4, _⟩ => exact Fin.ext (by show d.val - 0 = d.val; omega)
    · intro a
      match a with
      | ⟨0, _⟩ => show m.val ≤ m.val ∧ m.val < m.val + 1; omega
      | ⟨1, _⟩ => show 0 ≤ b.val ∧ b.val < 0 + 8; omega
      | ⟨2, _⟩ => show 0 ≤ i.val ∧ i.val < 0 + 128; omega
      | ⟨3, _⟩ => show 0 ≤ h.val ∧ h.val < 0 + 4; omega
      | ⟨4, _⟩ => show 0 ≤ d.val ∧ d.val < 0 + 256; omega
  · rw [if_neg e, dif_neg]
    intro hh
    have := hh 0
    have h2 : n.val ≤ m.val ∧ m.val < n.val + 1 := this
    exact e (Fin.ext (by omega))
theorem b18_apply (n : ℕ) (b : Fin 8) (h : Fin 4) (i j : Fin 128) : b18 (F := Ideal) n s (ix4 b h i j) = ∑ d, b5 n s (ix4 b i h d) * b11 n s (ix4 b j h d) := by
  pointwise [b18]
theorem b23_apply (n : ℕ) (b : Fin 8) (i : Fin 128)  (h : Fin 4) (e : Fin 256) : b23 (F := Ideal) n s (ix4 b i h e) = ∑ j, b17 n s (ix4 b j h e) * b21 n s (ix4 b h i j) := by
  pointwise [b23, b22]
theorem b28_apply (n : ℕ) (b : Fin 8) (i : Fin 128)  (h : Fin 4) (e : Fin 256) : b28 (F := Ideal) n s (ix4 b i h e) = ∑ d, s.main_v145_8 (ix4 b h d e) * (b5 n s (ix4 b i h d) * xi h.val i.val) := by
  pointwise [b28, b27, b26, b25, b24, xi_apply]
theorem b36_apply (n : ℕ) (b : Fin 8) (h : Fin 4) (d : Fin 128)  (e : Fin 256) : b36 (F := Ideal) n s (ix4 b h d e) = cdec h.val * s.main_v145_8 (ix4 b h d e) + ∑ j, b11 n s (ix4 b j h d) * (b17 n s (ix4 b j h e) * zeta h.val j.val) := by
  pointwise [b36, b35, b34, b33, b32, b31, b30, b29, zeta_apply, cd_apply]
theorem b21_apply (n : ℕ) (b : Fin 8) (h : Fin 4) (i j : Fin 128) : b21 (F := Ideal) n s (ix4 b h i j) = (∑ d, b5 n s (ix4 b i h d) * b11 n s (ix4 b j h d)) * dec h.val i.val j.val := by
  pointwise [b21, b20, b19, b18_apply, dec_apply]
theorem b38_apply (n : ℕ) (b : Fin 8) (i : Fin 128)  (h : Fin 4) (e : Fin 256) : b38 (F := Ideal) n s (ix5 0 b i h e) = b23 n s (ix4 b i h e) + b28 n s (ix4 b i h e) := by
  pointwise [b38, b37]

/-- The sequence of states. -/
def it : ℕ → State Ideal
  | 0 => init x p g w
  | n + 1 => step n (it n)

theorem it_args (n : ℕ) : (it x p g w n).main_v145_0 = A_main_v141 x p g w ∧ (it x p g w n).main_v145_1 = A_main_v142 x p g w ∧ (it x p g w n).main_v145_2 = A_main_v143 x p g w := by
  induction n with
  | zero => exact ⟨rfl, rfl, rfl⟩
  | succ n ih => exact ih

section
variable {x p g w} {n : ℕ} (hn : n < 64) (b : Fin 8) (i : Fin 128) (h : Fin 4)
include hn
theorem it_q (d : Fin 128) : b5 (F := Ideal) n (it x p g w n) (ix4 b i h d) = qr (G g) (W w) (X x b (tok n i)) (P p b (tok n i)) h d := by
  have := b5_apply (it x p g w n) ⟨n, hn⟩ b i h d
  rw [(it_args x p g w n).1, v141] at this; exact this
theorem it_k (d : Fin 128) : b11 (F := Ideal) n (it x p g w n) (ix4 b i h d) = kr (G g) (W w) (X x b (tok n i)) (P p b (tok n i)) h d := by
  have := b11_apply (it x p g w n) ⟨n, hn⟩ b i h d
  rw [(it_args x p g w n).2.1, v142] at this; exact this
theorem it_v (d : Fin 256) : b17 (F := Ideal) n (it x p g w n) (ix4 b i h d) = vr (G g) (W w) (X x b (tok n i)) h d := by
  have := b17_apply (it x p g w n) ⟨n, hn⟩ b i h d
  rw [(it_args x p g w n).2.2, v143] at this; exact this
end

theorem it_zero (b : Fin 8) (h : Fin 4) (d : Fin 128) (e : Fin 256) : (K_main_v140 (F := Ideal)) (ix4 b h d e) = 0 := by
  pointwise [K_main_v140, K_main_cst_20]

theorem it_state (n : ℕ) (hn : n ≤ 64) (b : Fin 8) (h : Fin 4) (d : Fin 128) (e : Fin 256) :
    (it x p g w n).main_v145_8 (ix4 b h d e) = st (G g) (W w) (X x b) (P p b) n h d e := by
  induction n generalizing b h d e with
  | zero => exact it_zero b h d e
  | succ n ih =>
    show b36 n (it x p g w n) (ix4 b h d e) = stNext _ _ _ _ _ _ _ _ _
    rw [b36_apply, ih (by omega)]
    unfold stNext
    refine congrArg _ (Finset.sum_congr rfl fun j _ => ?_)
    rw [it_k (by omega), it_v (by omega)]

theorem it_out (n : ℕ) (hn : n ≤ 64) (m : Fin 64) (hm : m.val < n) (b : Fin 8) (i : Fin 128) (h : Fin 4) (e : Fin 256) :
    (it x p g w n).main_v145_9 (ix5 m b i h e) = retOf (G g) (W w) (X x b) (P p b) (st (G g) (W w) (X x b) (P p b) m.val) m.val i h e := by
  induction n with
  | zero => omega
  | succ n ih =>
    show b43 n (it x p g w n) (ix5 m b i h e) = _
    have hb := b43_apply (it x p g w n) ⟨n, hn⟩ m b i h e
    rw [show (⟨n, hn⟩ : Fin 64).val = n from rfl] at hb
    rw [hb]
    split
    · rename_i hmn
      subst hmn
      rw [b38_apply, b23_apply, b28_apply]
      unfold retOf
      rw [cross_eq]
      congr 1
      · refine Finset.sum_congr rfl fun j _ => ?_
        rw [it_v hn, b21_apply, mul_comm]
        refine congrArg (· * _) (congrArg (· * _) (Finset.sum_congr rfl fun d _ => ?_))
        rw [it_q hn, it_k hn]
      · refine Finset.sum_congr rfl fun d _ => ?_
        rw [it_q hn, it_state x p g w n (by omega)]
    · rename_i hmn
      exact ih (by omega) (by have : m.val ≠ n := fun hc => hmn (Fin.ext hc); omega)
end Cert.MixRef1
end
-- ==== Proof.MixRefOut.lean ====
/- Hand-written, untrusted: THE REFERENCE'S RESULT, of the stacked retentions: what its operations after the loop make of them,
   named stage by stage and read at an index. -/
module

public import proofs.«01_k».proof.Proof.MixRefStep

@[expose] public section

noncomputable section

namespace Cert.MixRef1

open Cert.MixRefIdeal Cert.MixRefIdeal.Gen Cert.MixRefIdeal.Step Cert.Spec Idealize.ShloMosaic Idealize.ShloMosaic.TcCoe

variable {F : FTy → Type} [FloatOps F]

/-- The stacked retentions as rows. -/
def rO (s : State F) : (⟨S8x8192x4x256, .f32⟩ : BufTy).Contents (Elt F) :=
  shapeCast _ (transpose S8x64x128x4x256 [1, 0, 2, 3, 4] (s.main_v145_9) transposes_S64x8x128x4x256_S8x64x128x4x256_1_0_2_3_4) shapeCasts_S8x64x128x4x256_S8x8192x4x256
/-- The heads normed. -/
def rGn (s : State F) : (⟨S8x8192x1024, .f32⟩ : BufTy).Contents (Elt F) :=
  shapeCast _ (mulf (subf (rO s) (broadcastInDim S8x8192x4x256 ![0, 1, 2, 3] bcast_S8x8192x4x1_S8x8192x4x256_0_1_2_3 (Host.divf (broadcastInDim S8x8192x4x1 ![0, 1, 2] bcast_S8x8192x4_S8x8192x4x1_0_1_2 (Host.reduceAdd (rO s) (constant S_ .f32 0x00000000#32) reducesTo_S8x8192x4x256_S8x8192x4_d3 h_S_)) (broadcastInDim S8x8192x4x1 ![] bcast_S_S8x8192x4x1 (constant S_ .f32 0x43800000#32))))) (broadcastInDim S8x8192x4x256 ![0, 1, 2, 3] bcast_S8x8192x4x1_S8x8192x4x256_0_1_2_3 (Host.rsqrt (addf (Host.divf (broadcastInDim S8x8192x4x1 ![0, 1, 2] bcast_S8x8192x4_S8x8192x4x1_0_1_2 (Host.reduceAdd (mulf (subf (rO s) (broadcastInDim S8x8192x4x256 ![0, 1, 2, 3] bcast_S8x8192x4x1_S8x8192x4x256_0_1_2_3 (Host.divf (broadcastInDim S8x8192x4x1 ![0, 1, 2] bcast_S8x8192x4_S8x8192x4x1_0_1_2 (Host.reduceAdd (rO s) (constant S_ .f32 0x00000000#32) reducesTo_S8x8192x4x256_S8x8192x4_d3 h_S_)) (broadcastInDim S8x8192x4x1 ![] bcast_S_S8x8192x4x1 (constant S_ .f32 0x43800000#32))))) (subf (rO s) (broadcastInDim S8x8192x4x256 ![0, 1, 2, 3] bcast_S8x8192x4x1_S8x8192x4x256_0_1_2_3 (Host.divf (broadcastInDim S8x8192x4x1 ![0, 1, 2] bcast_S8x8192x4_S8x8192x4x1_0_1_2 (Host.reduceAdd (rO s) (constant S_ .f32 0x00000000#32) reducesTo_S8x8192x4x256_S8x8192x4_d3 h_S_)) (broadcastInDim S8x8192x4x1 ![] bcast_S_S8x8192x4x1 (constant S_ .f32 0x43800000#32)))))) (constant S_ .f32 0x00000000#32) reducesTo_S8x8192x4x256_S8x8192x4_d3 h_S_)) (broadcastInDim S8x8192x4x1 ![] bcast_S_S8x8192x4x1 (constant S_ .f32 0x43800000#32))) (broadcastInDim S8x8192x4x1 ![] bcast_S_S8x8192x4x1 (constant S_ .f32 0x358637BD#32)))))) shapeCasts_S8x8192x4x256_S8x8192x1024
/-- The second branch's value. -/
def rA (y : (⟨S8x8192x512, .f32⟩ : BufTy).Contents (Elt F)) (ga : (⟨S1x512x1024, .f32⟩ : BufTy).Contents (Elt F)) : (⟨S8x8192x1024, .f32⟩ : BufTy).Contents (Elt F) :=
  Host.dotGeneral dot_S8x8192x512_S512x1024_S8x8192x1024_2_0_01_1_n_n none (mulf (y) (mulf (broadcastInDim S8x8192x512 ![] bcast_S_S8x8192x512 (constant S_ .f32 0x3F000000#32)) (addf (broadcastInDim S8x8192x512 ![] bcast_S_S8x8192x512 (constant S_ .f32 0x3F800000#32)) (Host.tanh (mulf (broadcastInDim S8x8192x512 ![] bcast_S_S8x8192x512 (constant S_ .f32 0x3F4C422A#32)) (addf (y) (mulf (broadcastInDim S8x8192x512 ![] bcast_S_S8x8192x512 (constant S_ .f32 0x3D372713#32)) (mulf (mulf (y) (y)) (y))))))))) (shapeCast _ (ga) shapeCasts_S1x512x1024_S512x1024)
/-- Its gate's argument. -/
def rB (y : (⟨S8x8192x512, .f32⟩ : BufTy).Contents (Elt F)) (gb : (⟨S1x512x1024, .f32⟩ : BufTy).Contents (Elt F)) : (⟨S8x8192x1024, .f32⟩ : BufTy).Contents (Elt F) :=
  Host.dotGeneral dot_S8x8192x512_S512x1024_S8x8192x1024_2_0_01_1_n_n none (mulf (y) (mulf (broadcastInDim S8x8192x512 ![] bcast_S_S8x8192x512 (constant S_ .f32 0x3F000000#32)) (addf (broadcastInDim S8x8192x512 ![] bcast_S_S8x8192x512 (constant S_ .f32 0x3F800000#32)) (Host.tanh (mulf (broadcastInDim S8x8192x512 ![] bcast_S_S8x8192x512 (constant S_ .f32 0x3F4C422A#32)) (addf (y) (mulf (broadcastInDim S8x8192x512 ![] bcast_S_S8x8192x512 (constant S_ .f32 0x3D372713#32)) (mulf (mulf (y) (y)) (y))))))))) (shapeCast _ (gb) shapeCasts_S1x512x1024_S512x1024)
/-- The projections. -/
def rPr (x : (⟨S8x8192x1024, .f32⟩ : BufTy).Contents (Elt F)) (g : (⟨S1x1024, .f32⟩ : BufTy).Contents (Elt F)) (w : (⟨S1x1024x5632, .f32⟩ : BufTy).Contents (Elt F)) : (⟨S8x8192x5632, .f32⟩ : BufTy).Contents (Elt F) :=
  Host.dotGeneral dot_S8x8192x1024_S1024x5632_S8x8192x5632_2_0_01_1_n_n none (mulf (mulf (x) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (x) (x)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (shapeCast _ (g) shapeCasts_S1x1024_S1024)))) (shapeCast _ (w) shapeCasts_S1x1024x5632_S1024x5632)
/-- The first branch. -/
def rRet (s : State F) (x : (⟨S8x8192x1024, .f32⟩ : BufTy).Contents (Elt F)) (g : (⟨S1x1024, .f32⟩ : BufTy).Contents (Elt F)) (w : (⟨S1x1024x5632, .f32⟩ : BufTy).Contents (Elt F)) (wr : (⟨S1x1024x1024, .f32⟩ : BufTy).Contents (Elt F)) : (⟨S8x8192x1024, .f32⟩ : BufTy).Contents (Elt F) :=
  Host.dotGeneral dot_S8x8192x1024_S1024x1024_S8x8192x1024_2_0_01_1_n_n none (mulf (mulf (extractStridedSlice S8x8192x1024 ![0, 0, 2048] (rPr x g w) slices_S8x8192x5632_S8x8192x1024_0_0_2048) (Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf (extractStridedSlice S8x8192x1024 ![0, 0, 2048] (rPr x g w) slices_S8x8192x5632_S8x8192x1024_0_0_2048)))))) (rGn s)) (shapeCast _ (wr) shapeCasts_S1x1024x1024_S1024x1024)
/-- The merged branches, projected. -/
def rMix (s : State F) (x : (⟨S8x8192x1024, .f32⟩ : BufTy).Contents (Elt F)) (y : (⟨S8x8192x512, .f32⟩ : BufTy).Contents (Elt F)) (g : (⟨S1x1024, .f32⟩ : BufTy).Contents (Elt F)) (w : (⟨S1x1024x5632, .f32⟩ : BufTy).Contents (Elt F)) (ga : (⟨S1x512x1024, .f32⟩ : BufTy).Contents (Elt F)) (gb : (⟨S1x512x1024, .f32⟩ : BufTy).Contents (Elt F)) (wr : (⟨S1x1024x1024, .f32⟩ : BufTy).Contents (Elt F)) (wo : (⟨S1x1024x1024, .f32⟩ : BufTy).Contents (Elt F)) : (⟨S8x8192x1024, .f32⟩ : BufTy).Contents (Elt F) :=
  Host.dotGeneral dot_S8x8192x1024_S1024x1024_S8x8192x1024_2_0_01_1_n_n none (addf (mulf (extractStridedSlice S8x8192x1024 ![0, 0, 0] (Host.divf (broadcastInDim S8x8192x2048 ![] bcast_S_S8x8192x2048 (constant S_ .f32 0x3F800000#32)) (addf (broadcastInDim S8x8192x2048 ![] bcast_S_S8x8192x2048 (constant S_ .f32 0x3F800000#32)) (Host.exp (Host.negf (extractStridedSlice S8x8192x2048 ![0, 0, 3584] (rPr x g w) slices_S8x8192x5632_S8x8192x2048_0_0_3584))))) slices_S8x8192x2048_S8x8192x1024_0_0_0) (rRet s x g w wr)) (mulf (extractStridedSlice S8x8192x1024 ![0, 0, 1024] (Host.divf (broadcastInDim S8x8192x2048 ![] bcast_S_S8x8192x2048 (constant S_ .f32 0x3F800000#32)) (addf (broadcastInDim S8x8192x2048 ![] bcast_S_S8x8192x2048 (constant S_ .f32 0x3F800000#32)) (Host.exp (Host.negf (extractStridedSlice S8x8192x2048 ![0, 0, 3584] (rPr x g w) slices_S8x8192x5632_S8x8192x2048_0_0_3584))))) slices_S8x8192x2048_S8x8192x1024_0_0_1024) (mulf (rA y ga) (Host.divf (broadcastInDim S8x8192x1024 ![] bcast_S_S8x8192x1024 (constant S_ .f32 0x3F800000#32)) (addf (broadcastInDim S8x8192x1024 ![] bcast_S_S8x8192x1024 (constant S_ .f32 0x3F800000#32)) (Host.exp (Host.negf (rB y gb)))))))) (shapeCast _ (wo) shapeCasts_S1x1024x1024_S1024x1024)
/-- The result. -/
def rOut (s : State F) (x : (⟨S8x8192x1024, .f32⟩ : BufTy).Contents (Elt F)) (y : (⟨S8x8192x512, .f32⟩ : BufTy).Contents (Elt F)) (g : (⟨S1x1024, .f32⟩ : BufTy).Contents (Elt F)) (w : (⟨S1x1024x5632, .f32⟩ : BufTy).Contents (Elt F)) (ga : (⟨S1x512x1024, .f32⟩ : BufTy).Contents (Elt F)) (gb : (⟨S1x512x1024, .f32⟩ : BufTy).Contents (Elt F)) (wr : (⟨S1x1024x1024, .f32⟩ : BufTy).Contents (Elt F)) (wo : (⟨S1x1024x1024, .f32⟩ : BufTy).Contents (Elt F)) (gp : (⟨S1x1024, .f32⟩ : BufTy).Contents (Elt F)) : (⟨S8x8192x1024, .f32⟩ : BufTy).Contents (Elt F) :=
  addf (x) (mulf (mulf (rMix s x y g w ga gb wr wo) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (rMix s x y g w ga gb wr wo) (rMix s x y g w ga gb wr wo)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (shapeCast _ (gp) shapeCasts_S1x1024_S1024))))
theorem R_eq (s : State F) (x : (⟨S8x8192x1024, .f32⟩ : BufTy).Contents (Elt F)) (y : (⟨S8x8192x512, .f32⟩ : BufTy).Contents (Elt F)) (g : (⟨S1x1024, .f32⟩ : BufTy).Contents (Elt F)) (w : (⟨S1x1024x5632, .f32⟩ : BufTy).Contents (Elt F)) (ga : (⟨S1x512x1024, .f32⟩ : BufTy).Contents (Elt F)) (gb : (⟨S1x512x1024, .f32⟩ : BufTy).Contents (Elt F)) (wr : (⟨S1x1024x1024, .f32⟩ : BufTy).Contents (Elt F)) (wo : (⟨S1x1024x1024, .f32⟩ : BufTy).Contents (Elt F)) (gp : (⟨S1x1024, .f32⟩ : BufTy).Contents (Elt F)) :
    R_main_v244 s x y g w ga gb wr wo gp = rOut s x y g w ga gb wr wo gp := rfl

variable (s : State Ideal) (x : Vec Ideal S8x8192x1024 .f32) (y : Vec Ideal S8x8192x512 .f32) (g : Vec Ideal S1x1024 .f32) (w : Vec Ideal S1x1024x5632 .f32)
    (ga gb : Vec Ideal S1x512x1024 .f32) (wr wo : Vec Ideal S1x1024x1024 .f32) (gp : Vec Ideal S1x1024 .f32)

/-- A row's retention, of the stacked arrays. -/
abbrev O (b : Fin 8) (t : Fin 8192) : Fin 4 → Fin 256 → EReal := fun h e => s.main_v145_9 (ix5 ⟨t.val / 128, by omega⟩ b ⟨t.val % 128, by omega⟩ h e)

theorem rO_apply (b : Fin 8) (t : Fin 8192) (h : Fin 4) (e : Fin 256) : rO s (ix4 b t h e) = O s b t h e := by
  unfold rO
  refine (shapeCast_apply (s := S8x64x128x4x256) (t := S8x8192x4x256) _ _ _ (ix5 b ⟨t.val / 128, by omega⟩ ⟨t.val % 128, by omega⟩ h e) (by
      rw [Shape.rowMajor_val_five, Shape.rowMajor_val_four]
      show (((b.val * 64 + t.val / 128) * 128 + t.val % 128) * 4 + h.val) * 256 + e.val = ((b.val * 8192 + t.val) * 4 + h.val) * 256 + e.val
      omega)).trans ?_
  exact transpose_apply _ _ _ _ _ (fun b => match b with | ⟨0, _⟩ => rfl | ⟨1, _⟩ => rfl | ⟨2, _⟩ => rfl | ⟨3, _⟩ => rfl | ⟨4, _⟩ => rfl)

theorem rPr_apply (b : Fin 8) (t : Fin 8192) (j : Fin 5632) : rPr x g w (ix3 b t j) = pr (G g) (W w) (X x b t) j := by
  pointwise [rPr, pr, nrm]

theorem rGn_apply (b : Fin 8) (t : Fin 8192) (h : Fin 4) (e : Fin 256) : rGn s (ix3 b t ⟨h.val * 256 + e.val, by omega⟩) = gn (O s b t h) e := by
  unfold rGn
  refine (shapeCast_apply (s := S8x8192x4x256) (t := S8x8192x1024) _ _ _ (ix4 b t h e) (by
      rw [Shape.rowMajor_val_four, Shape.rowMajor_val_three]
      show ((b.val * 8192 + t.val) * 4 + h.val) * 256 + e.val = (b.val * 8192 + t.val) * 1024 + (h.val * 256 + e.val)
      omega)).trans ?_
  pointwise [rO_apply, gn, mean]

theorem rA_apply (b : Fin 8) (t : Fin 8192) (c : Fin 1024) : rA y ga (ix3 b t c) = ∑ j, gelu (y (ix3 b t j)) * ga (ix3 0 j c) := by
  pointwise [rA, gelu]
theorem rB_apply (b : Fin 8) (t : Fin 8192) (c : Fin 1024) : rB y gb (ix3 b t c) = ∑ j, gelu (y (ix3 b t j)) * gb (ix3 0 j c) := by
  pointwise [rB, gelu]

theorem rGn_apply' (b : Fin 8) (t : Fin 8192) (c : Fin 1024) : rGn s (ix3 b t c) = gn (O s b t ⟨c.val / 256, by omega⟩) ⟨c.val % 256, by omega⟩ := by
  have := rGn_apply s b t ⟨c.val / 256, by omega⟩ ⟨c.val % 256, by omega⟩
  rw [← this]
  exact congrArg (fun k => rGn s (ix3 b t k)) (Fin.ext (by show c.val = c.val / 256 * 256 + c.val % 256; omega))

theorem rRet_apply (b : Fin 8) (t : Fin 8192) (c : Fin 1024) :
    rRet s x g w wr (ix3 b t c) = ∑ j, gated (G g) (W w) (X x b t) (O s b t) j * wr (ix3 0 j c) := by
  unfold gated
  pointwise [rRet, rPr_apply, rGn_apply', silu]
  exact Finset.sum_congr rfl fun j _ => by rw [mul_comm (_ * _) (gn _ _)]

theorem rMix_apply (b : Fin 8) (t : Fin 8192) (c : Fin 1024) :
    rMix s x y g w ga gb wr wo (ix3 b t c)
      = ∑ j, merged (G g) (W w) (fun j k => ga (ix3 0 j k)) (fun j k => gb (ix3 0 j k)) (fun j k => wr (ix3 0 j k)) (X x b t) (fun j => y (ix3 b t j)) (O s b t) j * wo (ix3 0 j c) := by
  pointwise [rMix, merged, logi, rPr_apply, rRet_apply, rA_apply, rB_apply]
  exact Finset.sum_congr rfl fun j _ => by
    rw [show (⟨4608 + j.val, by omega⟩ : Fin 5632) = ⟨3584 + (1024 + j.val), by omega⟩ from Fin.ext (by show 4608 + j.val = 3584 + (1024 + j.val); omega)]

theorem rOut_apply (b : Fin 8) (t : Fin 8192) (c : Fin 1024) :
    rOut s x y g w ga gb wr wo gp (ix3 b t c)
      = mixRow (G g) (W w) (fun j k => ga (ix3 0 j k)) (fun j k => gb (ix3 0 j k)) (fun j k => wr (ix3 0 j k)) (fun j k => wo (ix3 0 j k)) (fun k => gp (ix2 0 k)) (X x b t) (fun j => y (ix3 b t j)) (O s b t) c := by
  pointwise [rOut, mixRow, nrm, rMix_apply]

variable (p : Vec Ideal S8x8192 .i32)

/-- The reference's result at an index: the row of the specification, of the retention of the row's token. -/
theorem result_apply (b : Fin 8) (t : Fin 8192) (c : Fin 1024) :
    R_main_v244 (F := Ideal) (it x p g w 64) x y g w ga gb wr wo gp (ix3 b t c)
      = mixRow (G g) (W w) (fun j k => ga (ix3 0 j k)) (fun j k => gb (ix3 0 j k)) (fun j k => wr (ix3 0 j k)) (fun j k => wo (ix3 0 j k)) (fun k => gp (ix2 0 k))
          (X x b t) (fun j => y (ix3 b t j))
          (fun h e => retOf (G g) (W w) (X x b) (P p b) (st (G g) (W w) (X x b) (P p b) (t.val / 128)) (t.val / 128) ⟨t.val % 128, by omega⟩ h e) c := by
  rw [R_eq, rOut_apply]
  have e : O (it x p g w 64) b t = fun h e => retOf (G g) (W w) (X x b) (P p b) (st (G g) (W w) (X x b) (P p b) (t.val / 128)) (t.val / 128) ⟨t.val % 128, by omega⟩ h e := by
    funext h e
    exact it_out x p g w 64 le_rfl ⟨t.val / 128, by omega⟩ (by show t.val / 128 < 64; omega) b ⟨t.val % 128, by omega⟩ h e
  rw [e]
end Cert.MixRef1
end
-- ==== Proof.MixClaim.lean ====
/- Hand-written, untrusted: the mixer slice's value claim and its reference's frame, from the two results. -/
module

public import proofs.«01_k».proof.Defs
public import proofs.«01_k».proof.Proof.MixKernel
public import proofs.«01_k».proof.Proof.MixRefOut
public import proofs.«01_k».proof.Proof.MixRefRun

@[expose] public section

noncomputable section

namespace Cert.Proof

open Idealize.ShloMosaic Idealize.SL.Sem

/-- The reference's result array is the kernel's. -/
theorem mixRef_result (x : Vec Ideal Cert.MixRefIdeal.S8x8192x1024 .f32) (y : Vec Ideal Cert.MixRefIdeal.S8x8192x512 .f32)
    (p : Vec Ideal Cert.MixRefIdeal.S8x8192 .i32) (g : Vec Ideal Cert.MixRefIdeal.S1x1024 .f32) (w : Vec Ideal Cert.MixRefIdeal.S1x1024x5632 .f32)
    (ga gb : Vec Ideal Cert.MixRefIdeal.S1x512x1024 .f32) (wr wo : Vec Ideal Cert.MixRefIdeal.S1x1024x1024 .f32)
    (gp : Vec Ideal Cert.MixRefIdeal.S1x1024 .f32) :
    Cert.MixRefIdeal.Step.R_main_v244 (F := Ideal) (Cert.MixRef1.it x p g w 64) x y g w ga gb wr wo gp
      = Cert.MixValue.result x y p g w ga gb wr wo gp := by
  funext i
  obtain ⟨b, t, k, rfl⟩ : ∃ (b : Fin 8) (t : Fin 8192) (k : Fin 1024), i = ix3 b t k := ⟨i 0, i 1, i 2, eq_ix3 i⟩
  exact Cert.MixRef1.result_apply x y g w ga gb wr wo gp p b t k

/-- The kernel and the reference compute the same result array. -/
theorem algebraicMix : algebraic_MixIdeal_MixRefIdeal := by
  intro m g m' g' _ hagree
  refine ⟨fun c => Cert.MixValue.result (m ((c.tc : Thread _ _).loc Cert.MixIdeal.main_arg0)) (m ((c.tc : Thread _ _).loc Cert.MixIdeal.main_arg1)) (m ((c.tc : Thread _ _).loc Cert.MixIdeal.main_arg2)) (m ((c.tc : Thread _ _).loc Cert.MixIdeal.main_arg3)) (m ((c.tc : Thread _ _).loc Cert.MixIdeal.main_arg4)) (m ((c.tc : Thread _ _).loc Cert.MixIdeal.main_arg10)) (m ((c.tc : Thread _ _).loc Cert.MixIdeal.main_arg11)) (m ((c.tc : Thread _ _).loc Cert.MixIdeal.main_arg12)) (m ((c.tc : Thread _ _).loc Cert.MixIdeal.main_arg13)) (m ((c.tc : Thread _ _).loc Cert.MixIdeal.main_arg14)), ?_, ?_⟩
  · exact (θ_run _ _ _).mono (fun r h c => ⟨(h c).1.trans (Cert.MixValue.final m c), (h c).2⟩) (Cert.MixValueIdeal.run_blocks m g)
  · refine (θ_run _ _ _).mono (fun r h c => ⟨?_, (h c).2⟩)
      (Cert.MixRefRun.run_iter m' g' (fun c => Cert.MixRef1.it (m' ((c.tc : Thread _ _).loc Cert.MixRefIdeal.main_arg0)) (m' ((c.tc : Thread _ _).loc Cert.MixRefIdeal.main_arg2)) (m' ((c.tc : Thread _ _).loc Cert.MixRefIdeal.main_arg3)) (m' ((c.tc : Thread _ _).loc Cert.MixRefIdeal.main_arg4))) (fun _ => rfl) (fun _ _ => rfl))
    obtain ⟨h0, h1, h2, h3, h4, h5, h6, h7, h8, h9, h10, h11, h12, h13, h14⟩ := hagree c
    refine (h c).1.trans ((mixRef_result _ _ _ _ _ _ _ _ _ _).trans ?_)
    rw [h0, h1, h2, h3, h4, h10, h11, h12, h13, h14]

/-- The reference runs and leaves its arguments. -/
theorem frameMixRef : quiescent_MixRefIdeal :=
  fun m' ρ _ => (θ_run _ _ _).mono (fun r h => ⟨fun c => (h c).2, sem_eq_zero_of_no_sems (by decide) r.2⟩)
    (Cert.MixRefRun.run_iter m' ρ (fun c => Cert.MixRef1.it (m' ((c.tc : Thread _ _).loc Cert.MixRefIdeal.main_arg0)) (m' ((c.tc : Thread _ _).loc Cert.MixRefIdeal.main_arg2)) (m' ((c.tc : Thread _ _).loc Cert.MixRefIdeal.main_arg3)) (m' ((c.tc : Thread _ _).loc Cert.MixRefIdeal.main_arg4))) (fun _ => rfl) (fun _ _ => rfl))

end Cert.Proof

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.MixFrame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.MixFrameIdeal
public import proofs.«01_k».proof.Proof.MixValueIdeal
public import proofs.«01_k».proof.Proof.Gen.MixRefIdeal
public import proofs.«01_k».proof.Proof.Gen.MixRefIdeal.Step
public import proofs.«01_k».proof.Proof.MixRefRun
public import proofs.«01_k».proof.Proof.Gen.Mixer
public import proofs.«01_k».proof.Proof.Gen.Mixer.Skeleton
public import proofs.«01_k».proof.Proof.Gen.Mixer.Launch
public import proofs.«01_k».proof.Proof.Gen.Mixer.Points
public import proofs.«01_k».proof.Proof.Gen.Mixer.Frame
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.FfnClaim
public import proofs.«01_k».proof.Proof.MixClaim
public import Idealize.ShloMosaic.Adequacy
public import Idealize.ShloMosaic.Init

@[expose] public section

noncomputable section

namespace Cert.Proof

open Idealize.ShloMosaic Idealize.SL.Sem Cert.Ffn

theorem claim : Cert.Claim :=
  ⟨Cert.Mix.Gen.facts, Cert.MixIdeal.Gen.facts, Cert.MixRefIdeal.Gen.facts, Cert.Ffn.Gen.facts, Cert.FfnIdeal.Gen.facts, Cert.FfnRefIdeal.Gen.facts,
    Cert.Mixer.Gen.facts, Cert.MixerIdeal.Gen.facts, Cert.Prep.Gen.facts, Cert.PrepIdeal.Gen.facts,
    fun m ρ _ => Cert.MixFrame.frame m ρ, fun m ρ _ => Cert.MixFrameIdeal.frame m ρ, frameMixRef,
    fun m ρ _ => Cert.Ffn.Gen.frame m ρ, fun m ρ _ => Cert.FfnIdeal.Gen.frame m ρ, frameRef,
    fun m ρ _ => Cert.Mixer.Gen.frame m ρ, fun m ρ _ => Cert.MixerIdeal.Gen.frame m ρ,
    fun m ρ _ => Cert.Prep.Gen.frame m ρ, fun m ρ _ => Cert.PrepIdeal.Gen.frame m ρ,
    trivial, algebraicMix, trivial, algebraic, trivial, trivial⟩

end Cert.Proof

end
